-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_MlpW (m : (ℓ : Loc Cert.MlpW.nD Cert.MlpW.τ Cert.MlpW.sig) → Buf (Elt Bits) ℓ) : Prop :=
  True

def Pre_MlpWIdeal (m : (ℓ : Loc Cert.MlpWIdeal.nD Cert.MlpWIdeal.τ Cert.MlpWIdeal.sig) → Buf (Elt Ideal) ℓ) : Prop :=
  True

def Pre_MlpWRefIdeal (m : (ℓ : Loc Cert.MlpWRefIdeal.nD Cert.MlpWRefIdeal.τ Cert.MlpWRefIdeal.sig) → Buf (Elt Ideal) ℓ) : Prop :=
  True

def Pre_MlpR (m : (ℓ : Loc Cert.MlpR.nD Cert.MlpR.τ Cert.MlpR.sig) → Buf (Elt Bits) ℓ) : Prop :=
  True

def Pre_MlpRIdeal (m : (ℓ : Loc Cert.MlpRIdeal.nD Cert.MlpRIdeal.τ Cert.MlpRIdeal.sig) → Buf (Elt Ideal) ℓ) : Prop :=
  True

def Pre_MlpRRefIdeal (m : (ℓ : Loc Cert.MlpRRefIdeal.nD Cert.MlpRRefIdeal.τ Cert.MlpRRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_CdInW (m : (ℓ : Loc Cert.CdInW.nD Cert.CdInW.τ Cert.CdInW.sig) → Buf (Elt Bits) ℓ) : Prop :=
  True

def Pre_CdInWIdeal (m : (ℓ : Loc Cert.CdInWIdeal.nD Cert.CdInWIdeal.τ Cert.CdInWIdeal.sig) → Buf (Elt Ideal) ℓ) : Prop :=
  True

def Pre_CdInWRefIdeal (m : (ℓ : Loc Cert.CdInWRefIdeal.nD Cert.CdInWRefIdeal.τ Cert.CdInWRefIdeal.sig) → Buf (Elt Ideal) ℓ) : Prop :=
  True

def Pre_CdIn (m : (ℓ : Loc Cert.CdIn.nD Cert.CdIn.τ Cert.CdIn.sig) → Buf (Elt Bits) ℓ) : Prop :=
  True

def Pre_CdInIdeal (m : (ℓ : Loc Cert.CdInIdeal.nD Cert.CdInIdeal.τ Cert.CdInIdeal.sig) → Buf (Elt Ideal) ℓ) : Prop :=
  True

def Pre_CdInRefIdeal (m : (ℓ : Loc Cert.CdInRefIdeal.nD Cert.CdInRefIdeal.τ Cert.CdInRefIdeal.sig) → Buf (Elt Ideal) ℓ) : Prop :=
  True

def Pre_AttnO (m : (ℓ : Loc Cert.AttnO.nD Cert.AttnO.τ Cert.AttnO.sig) → Buf (Elt Bits) ℓ) : Prop :=
  True

def Pre_AttnOIdeal (m : (ℓ : Loc Cert.AttnOIdeal.nD Cert.AttnOIdeal.τ Cert.AttnOIdeal.sig) → Buf (Elt Ideal) ℓ) : Prop :=
  True

def Pre_AttnORefIdeal (m : (ℓ : Loc Cert.AttnORefIdeal.nD Cert.AttnORefIdeal.τ Cert.AttnORefIdeal.sig) → Buf (Elt Ideal) ℓ) : Prop :=
  True

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_AttnQRefIdeal (m : (ℓ : Loc Cert.AttnQRefIdeal.nD Cert.AttnQRefIdeal.τ Cert.AttnQRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_AttnW (m : (ℓ : Loc Cert.AttnW.nD Cert.AttnW.τ Cert.AttnW.sig) → Buf (Elt Bits) ℓ) : Prop :=
  True

def Pre_AttnWIdeal (m : (ℓ : Loc Cert.AttnWIdeal.nD Cert.AttnWIdeal.τ Cert.AttnWIdeal.sig) → Buf (Elt Ideal) ℓ) : Prop :=
  True

def Pre_AttnWRefIdeal (m : (ℓ : Loc Cert.AttnWRefIdeal.nD Cert.AttnWRefIdeal.τ Cert.AttnWRefIdeal.sig) → Buf (Elt Ideal) ℓ) : Prop :=
  True

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWRefIdeal (m : (ℓ : Loc Cert.MixWRefIdeal.nD Cert.MixWRefIdeal.τ Cert.MixWRefIdeal.sig) → Buf (Elt Ideal) ℓ) : Prop :=
  True

def Pre_HMlp (m : (ℓ : Loc Cert.HMlp.nD Cert.HMlp.τ Cert.HMlp.sig) → Buf (Elt Bits) ℓ) : Prop :=
  True

def Pre_HMlpIdeal (m : (ℓ : Loc Cert.HMlpIdeal.nD Cert.HMlpIdeal.τ Cert.HMlpIdeal.sig) → Buf (Elt Ideal) ℓ) : Prop :=
  True

def Pre_HMlpRefIdeal (m : (ℓ : Loc Cert.HMlpRefIdeal.nD Cert.HMlpRefIdeal.τ Cert.HMlpRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_CdOut (m : (ℓ : Loc Cert.CdOut.nD Cert.CdOut.τ Cert.CdOut.sig) → Buf (Elt Bits) ℓ) : Prop :=
  True

def Pre_CdOutIdeal (m : (ℓ : Loc Cert.CdOutIdeal.nD Cert.CdOutIdeal.τ Cert.CdOutIdeal.sig) → Buf (Elt Ideal) ℓ) : Prop :=
  True

def Pre_CdOutRefIdeal (m : (ℓ : Loc Cert.CdOutRefIdeal.nD Cert.CdOutRefIdeal.τ Cert.CdOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_AbMix (m : (ℓ : Loc Cert.AbMix.nD Cert.AbMix.τ Cert.AbMix.sig) → Buf (Elt Bits) ℓ) : Prop :=
  True

def Pre_AbMixIdeal (m : (ℓ : Loc Cert.AbMixIdeal.nD Cert.AbMixIdeal.τ Cert.AbMixIdeal.sig) → Buf (Elt Ideal) ℓ) : Prop :=
  True

def Pre_AbMixRefIdeal (m : (ℓ : Loc Cert.AbMixRefIdeal.nD Cert.AbMixRefIdeal.τ Cert.AbMixRefIdeal.sig) → Buf (Elt Ideal) ℓ) : Prop :=
  True

def Pre_AbW (m : (ℓ : Loc Cert.AbW.nD Cert.AbW.τ Cert.AbW.sig) → Buf (Elt Bits) ℓ) : Prop :=
  True

def Pre_AbWIdeal (m : (ℓ : Loc Cert.AbWIdeal.nD Cert.AbWIdeal.τ Cert.AbWIdeal.sig) → Buf (Elt Ideal) ℓ) : Prop :=
  True

def Pre_AbWRefIdeal (m : (ℓ : Loc Cert.AbWRefIdeal.nD Cert.AbWRefIdeal.τ Cert.AbWRefIdeal.sig) → Buf (Elt Ideal) ℓ) : Prop :=
  True

def Pre_AbInW (m : (ℓ : Loc Cert.AbInW.nD Cert.AbInW.τ Cert.AbInW.sig) → Buf (Elt Bits) ℓ) : Prop :=
  True

def Pre_AbInWIdeal (m : (ℓ : Loc Cert.AbInWIdeal.nD Cert.AbInWIdeal.τ Cert.AbInWIdeal.sig) → Buf (Elt Ideal) ℓ) : Prop :=
  True

def Pre_AbInWRefIdeal (m : (ℓ : Loc Cert.AbInWRefIdeal.nD Cert.AbInWRefIdeal.τ Cert.AbInWRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_MlpW [hMlpW : Cert.MlpW.Facts] : Prop :=
  ∀ (m : (ℓ : Loc Cert.MlpW.nD Cert.MlpW.τ Cert.MlpW.sig) → Buf (Elt Bits) ℓ) (g : Dev Cert.MlpW.nD → PrngReg), Pre_MlpW m →
    θ_run (Cert.MlpW.defs (F := Bits)) (onTc (τ := Cert.MlpW.τ) (Cert.MlpW.main (F := Bits))) ⟨m, fun _ => 0, g⟩ (fun r => (∀ c : Dev Cert.MlpW.nD,
      r.2.mem ((c.tc : Thread Cert.MlpW.nD Cert.MlpW.τ).loc Cert.MlpW.main_arg0) = m ((c.tc : Thread Cert.MlpW.nD Cert.MlpW.τ).loc Cert.MlpW.main_arg0)
      ∧ r.2.mem ((c.tc : Thread Cert.MlpW.nD Cert.MlpW.τ).loc Cert.MlpW.main_arg1) = m ((c.tc : Thread Cert.MlpW.nD Cert.MlpW.τ).loc Cert.MlpW.main_arg1))
      ∧ r.2.sem = fun _ => 0)

def quiescent_MlpWIdeal [hMlpWIdeal : Cert.MlpWIdeal.Facts] : Prop :=
  ∀ (m : (ℓ : Loc Cert.MlpWIdeal.nD Cert.MlpWIdeal.τ Cert.MlpWIdeal.sig) → Buf (Elt Ideal) ℓ) (g : Dev Cert.MlpWIdeal.nD → PrngReg), Pre_MlpWIdeal m →
    θ_run (Cert.MlpWIdeal.defs (F := Ideal)) (onTc (τ := Cert.MlpWIdeal.τ) (Cert.MlpWIdeal.main (F := Ideal))) ⟨m, fun _ => 0, g⟩ (fun r => (∀ c : Dev Cert.MlpWIdeal.nD,
      r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
      ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1))
      ∧ r.2.sem = fun _ => 0)

def quiescent_MlpWRefIdeal [hMlpWRefIdeal : Cert.MlpWRefIdeal.Facts] : Prop :=
  ∀ (m : (ℓ : Loc Cert.MlpWRefIdeal.nD Cert.MlpWRefIdeal.τ Cert.MlpWRefIdeal.sig) → Buf (Elt Ideal) ℓ) (g : Dev Cert.MlpWRefIdeal.nD → PrngReg), Pre_MlpWRefIdeal m →
    θ_run (Cert.MlpWRefIdeal.defs (F := Ideal)) (onTc (τ := Cert.MlpWRefIdeal.τ) (Cert.MlpWRefIdeal.main (F := Ideal))) ⟨m, fun _ => 0, g⟩ (fun r => (∀ c : Dev Cert.MlpWRefIdeal.nD,
      r.2.mem ((c.tc : Thread Cert.MlpWRefIdeal.nD Cert.MlpWRefIdeal.τ).loc Cert.MlpWRefIdeal.main_arg0) = m ((c.tc : Thread Cert.MlpWRefIdeal.nD Cert.MlpWRefIdeal.τ).loc Cert.MlpWRefIdeal.main_arg0)
      ∧ r.2.mem ((c.tc : Thread Cert.MlpWRefIdeal.nD Cert.MlpWRefIdeal.τ).loc Cert.MlpWRefIdeal.main_arg1) = m ((c.tc : Thread Cert.MlpWRefIdeal.nD Cert.MlpWRefIdeal.τ).loc Cert.MlpWRefIdeal.main_arg1))
      ∧ r.2.sem = fun _ => 0)

def quiescent_MlpR [hMlpR : Cert.MlpR.Facts] : Prop :=
  ∀ (m : (ℓ : Loc Cert.MlpR.nD Cert.MlpR.τ Cert.MlpR.sig) → Buf (Elt Bits) ℓ) (g : Dev Cert.MlpR.nD → PrngReg), Pre_MlpR m →
    θ_run (Cert.MlpR.defs (F := Bits)) (onTc (τ := Cert.MlpR.τ) (Cert.MlpR.main (F := Bits))) ⟨m, fun _ => 0, g⟩ (fun r => (∀ c : Dev Cert.MlpR.nD,
      r.2.mem ((c.tc : Thread Cert.MlpR.nD Cert.MlpR.τ).loc Cert.MlpR.main_arg0) = m ((c.tc : Thread Cert.MlpR.nD Cert.MlpR.τ).loc Cert.MlpR.main_arg0)
      ∧ r.2.mem ((c.tc : Thread Cert.MlpR.nD Cert.MlpR.τ).loc Cert.MlpR.main_arg1) = m ((c.tc : Thread Cert.MlpR.nD Cert.MlpR.τ).loc Cert.MlpR.main_arg1)
      ∧ r.2.mem ((c.tc : Thread Cert.MlpR.nD Cert.MlpR.τ).loc Cert.MlpR.main_arg2) = m ((c.tc : Thread Cert.MlpR.nD Cert.MlpR.τ).loc Cert.MlpR.main_arg2))
      ∧ r.2.sem = fun _ => 0)

def quiescent_MlpRIdeal [hMlpRIdeal : Cert.MlpRIdeal.Facts] : Prop :=
  ∀ (m : (ℓ : Loc Cert.MlpRIdeal.nD Cert.MlpRIdeal.τ Cert.MlpRIdeal.sig) → Buf (Elt Ideal) ℓ) (g : Dev Cert.MlpRIdeal.nD → PrngReg), Pre_MlpRIdeal m →
    θ_run (Cert.MlpRIdeal.defs (F := Ideal)) (onTc (τ := Cert.MlpRIdeal.τ) (Cert.MlpRIdeal.main (F := Ideal))) ⟨m, fun _ => 0, g⟩ (fun r => (∀ c : Dev Cert.MlpRIdeal.nD,
      r.2.mem ((c.tc : Thread Cert.MlpRIdeal.nD Cert.MlpRIdeal.τ).loc Cert.MlpRIdeal.main_arg0) = m ((c.tc : Thread Cert.MlpRIdeal.nD Cert.MlpRIdeal.τ).loc Cert.MlpRIdeal.main_arg0)
      ∧ r.2.mem ((c.tc : Thread Cert.MlpRIdeal.nD Cert.MlpRIdeal.τ).loc Cert.MlpRIdeal.main_arg1) = m ((c.tc : Thread Cert.MlpRIdeal.nD Cert.MlpRIdeal.τ).loc Cert.MlpRIdeal.main_arg1)
      ∧ r.2.mem ((c.tc : Thread Cert.MlpRIdeal.nD Cert.MlpRIdeal.τ).loc Cert.MlpRIdeal.main_arg2) = m ((c.tc : Thread Cert.MlpRIdeal.nD Cert.MlpRIdeal.τ).loc Cert.MlpRIdeal.main_arg2))
      ∧ r.2.sem = fun _ => 0)

def quiescent_MlpRRefIdeal [hMlpRRefIdeal : Cert.MlpRRefIdeal.Facts] : Prop :=
  ∀ (m : (ℓ : Loc Cert.MlpRRefIdeal.nD Cert.MlpRRefIdeal.τ Cert.MlpRRefIdeal.sig) → Buf (Elt Ideal) ℓ) (g : Dev Cert.MlpRRefIdeal.nD → PrngReg), Pre_MlpRRefIdeal m →
    θ_run (Cert.MlpRRefIdeal.defs (F := Ideal)) (onTc (τ := Cert.MlpRRefIdeal.τ) (Cert.MlpRRefIdeal.main (F := Ideal))) ⟨m, fun _ => 0, g⟩ (fun r => (∀ c : Dev Cert.MlpRRefIdeal.nD,
      r.2.mem ((c.tc : Thread Cert.MlpRRefIdeal.nD Cert.MlpRRefIdeal.τ).loc Cert.MlpRRefIdeal.main_arg0) = m ((c.tc : Thread Cert.MlpRRefIdeal.nD Cert.MlpRRefIdeal.τ).loc Cert.MlpRRefIdeal.main_arg0)
      ∧ r.2.mem ((c.tc : Thread Cert.MlpRRefIdeal.nD Cert.MlpRRefIdeal.τ).loc Cert.MlpRRefIdeal.main_arg1) = m ((c.tc : Thread Cert.MlpRRefIdeal.nD Cert.MlpRRefIdeal.τ).loc Cert.MlpRRefIdeal.main_arg1)
      ∧ r.2.mem ((c.tc : Thread Cert.MlpRRefIdeal.nD Cert.MlpRRefIdeal.τ).loc Cert.MlpRRefIdeal.main_arg2) = m ((c.tc : Thread Cert.MlpRRefIdeal.nD Cert.MlpRRefIdeal.τ).loc Cert.MlpRRefIdeal.main_arg2))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1))
      ∧ r.2.sem = fun _ => 0)

def quiescent_CdInW [hCdInW : Cert.CdInW.Facts] : Prop :=
  ∀ (m : (ℓ : Loc Cert.CdInW.nD Cert.CdInW.τ Cert.CdInW.sig) → Buf (Elt Bits) ℓ) (g : Dev Cert.CdInW.nD → PrngReg), Pre_CdInW m →
    θ_run (Cert.CdInW.defs (F := Bits)) (onTc (τ := Cert.CdInW.τ) (Cert.CdInW.main (F := Bits))) ⟨m, fun _ => 0, g⟩ (fun r => (∀ c : Dev Cert.CdInW.nD,
      r.2.mem ((c.tc : Thread Cert.CdInW.nD Cert.CdInW.τ).loc Cert.CdInW.main_arg0) = m ((c.tc : Thread Cert.CdInW.nD Cert.CdInW.τ).loc Cert.CdInW.main_arg0)
      ∧ r.2.mem ((c.tc : Thread Cert.CdInW.nD Cert.CdInW.τ).loc Cert.CdInW.main_arg1) = m ((c.tc : Thread Cert.CdInW.nD Cert.CdInW.τ).loc Cert.CdInW.main_arg1))
      ∧ r.2.sem = fun _ => 0)

def quiescent_CdInWIdeal [hCdInWIdeal : Cert.CdInWIdeal.Facts] : Prop :=
  ∀ (m : (ℓ : Loc Cert.CdInWIdeal.nD Cert.CdInWIdeal.τ Cert.CdInWIdeal.sig) → Buf (Elt Ideal) ℓ) (g : Dev Cert.CdInWIdeal.nD → PrngReg), Pre_CdInWIdeal m →
    θ_run (Cert.CdInWIdeal.defs (F := Ideal)) (onTc (τ := Cert.CdInWIdeal.τ) (Cert.CdInWIdeal.main (F := Ideal))) ⟨m, fun _ => 0, g⟩ (fun r => (∀ c : Dev Cert.CdInWIdeal.nD,
      r.2.mem ((c.tc : Thread Cert.CdInWIdeal.nD Cert.CdInWIdeal.τ).loc Cert.CdInWIdeal.main_arg0) = m ((c.tc : Thread Cert.CdInWIdeal.nD Cert.CdInWIdeal.τ).loc Cert.CdInWIdeal.main_arg0)
      ∧ r.2.mem ((c.tc : Thread Cert.CdInWIdeal.nD Cert.CdInWIdeal.τ).loc Cert.CdInWIdeal.main_arg1) = m ((c.tc : Thread Cert.CdInWIdeal.nD Cert.CdInWIdeal.τ).loc Cert.CdInWIdeal.main_arg1))
      ∧ r.2.sem = fun _ => 0)

def quiescent_CdInWRefIdeal [hCdInWRefIdeal : Cert.CdInWRefIdeal.Facts] : Prop :=
  ∀ (m : (ℓ : Loc Cert.CdInWRefIdeal.nD Cert.CdInWRefIdeal.τ Cert.CdInWRefIdeal.sig) → Buf (Elt Ideal) ℓ) (g : Dev Cert.CdInWRefIdeal.nD → PrngReg), Pre_CdInWRefIdeal m →
    θ_run (Cert.CdInWRefIdeal.defs (F := Ideal)) (onTc (τ := Cert.CdInWRefIdeal.τ) (Cert.CdInWRefIdeal.main (F := Ideal))) ⟨m, fun _ => 0, g⟩ (fun r => (∀ c : Dev Cert.CdInWRefIdeal.nD,
      r.2.mem ((c.tc : Thread Cert.CdInWRefIdeal.nD Cert.CdInWRefIdeal.τ).loc Cert.CdInWRefIdeal.main_arg0) = m ((c.tc : Thread Cert.CdInWRefIdeal.nD Cert.CdInWRefIdeal.τ).loc Cert.CdInWRefIdeal.main_arg0)
      ∧ r.2.mem ((c.tc : Thread Cert.CdInWRefIdeal.nD Cert.CdInWRefIdeal.τ).loc Cert.CdInWRefIdeal.main_arg1) = m ((c.tc : Thread Cert.CdInWRefIdeal.nD Cert.CdInWRefIdeal.τ).loc Cert.CdInWRefIdeal.main_arg1))
      ∧ r.2.sem = fun _ => 0)

def quiescent_CdIn [hCdIn : Cert.CdIn.Facts] : Prop :=
  ∀ (m : (ℓ : Loc Cert.CdIn.nD Cert.CdIn.τ Cert.CdIn.sig) → Buf (Elt Bits) ℓ) (g : Dev Cert.CdIn.nD → PrngReg), Pre_CdIn m →
    θ_run (Cert.CdIn.defs (F := Bits)) (onTc (τ := Cert.CdIn.τ) (Cert.CdIn.main (F := Bits))) ⟨m, fun _ => 0, g⟩ (fun r => (∀ c : Dev Cert.CdIn.nD,
      r.2.mem ((c.tc : Thread Cert.CdIn.nD Cert.CdIn.τ).loc Cert.CdIn.main_arg0) = m ((c.tc : Thread Cert.CdIn.nD Cert.CdIn.τ).loc Cert.CdIn.main_arg0)
      ∧ r.2.mem ((c.tc : Thread Cert.CdIn.nD Cert.CdIn.τ).loc Cert.CdIn.main_arg1) = m ((c.tc : Thread Cert.CdIn.nD Cert.CdIn.τ).loc Cert.CdIn.main_arg1))
      ∧ r.2.sem = fun _ => 0)

def quiescent_CdInIdeal [hCdInIdeal : Cert.CdInIdeal.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ r.2.sem = fun _ => 0)

def quiescent_CdInRefIdeal [hCdInRefIdeal : Cert.CdInRefIdeal.Facts] : Prop :=
  ∀ (m : (ℓ : Loc Cert.CdInRefIdeal.nD Cert.CdInRefIdeal.τ Cert.CdInRefIdeal.sig) → Buf (Elt Ideal) ℓ) (g : Dev Cert.CdInRefIdeal.nD → PrngReg), Pre_CdInRefIdeal m →
    θ_run (Cert.CdInRefIdeal.defs (F := Ideal)) (onTc (τ := Cert.CdInRefIdeal.τ) (Cert.CdInRefIdeal.main (F := Ideal))) ⟨m, fun _ => 0, g⟩ (fun r => (∀ c : Dev Cert.CdInRefIdeal.nD,
      r.2.mem ((c.tc : Thread Cert.CdInRefIdeal.nD Cert.CdInRefIdeal.τ).loc Cert.CdInRefIdeal.main_arg0) = m ((c.tc : Thread Cert.CdInRefIdeal.nD Cert.CdInRefIdeal.τ).loc Cert.CdInRefIdeal.main_arg0)
      ∧ r.2.mem ((c.tc : Thread Cert.CdInRefIdeal.nD Cert.CdInRefIdeal.τ).loc Cert.CdInRefIdeal.main_arg1) = m ((c.tc : Thread Cert.CdInRefIdeal.nD Cert.CdInRefIdeal.τ).loc Cert.CdInRefIdeal.main_arg1))
      ∧ r.2.sem = fun _ => 0)

def quiescent_AttnO [hAttnO : Cert.AttnO.Facts] : Prop :=
  ∀ (m : (ℓ : Loc Cert.AttnO.nD Cert.AttnO.τ Cert.AttnO.sig) → Buf (Elt Bits) ℓ) (g : Dev Cert.AttnO.nD → PrngReg), Pre_AttnO m →
    θ_run (Cert.AttnO.defs (F := Bits)) (onTc (τ := Cert.AttnO.τ) (Cert.AttnO.main (F := Bits))) ⟨m, fun _ => 0, g⟩ (fun r => (∀ c : Dev Cert.AttnO.nD,
      r.2.mem ((c.tc : Thread Cert.AttnO.nD Cert.AttnO.τ).loc Cert.AttnO.main_arg0) = m ((c.tc : Thread Cert.AttnO.nD Cert.AttnO.τ).loc Cert.AttnO.main_arg0)
      ∧ r.2.mem ((c.tc : Thread Cert.AttnO.nD Cert.AttnO.τ).loc Cert.AttnO.main_arg1) = m ((c.tc : Thread Cert.AttnO.nD Cert.AttnO.τ).loc Cert.AttnO.main_arg1))
      ∧ r.2.sem = fun _ => 0)

def quiescent_AttnOIdeal [hAttnOIdeal : Cert.AttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg), Pre_AttnOIdeal m →
    θ_run (Cert.AttnOIdeal.defs (F := Ideal)) (onTc (τ := Cert.AttnOIdeal.τ) (Cert.AttnOIdeal.main (F := Ideal))) ⟨m, fun _ => 0, g⟩ (fun r => (∀ c : Dev Cert.AttnOIdeal.nD,
      r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
      ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1))
      ∧ r.2.sem = fun _ => 0)

def quiescent_AttnORefIdeal [hAttnORefIdeal : Cert.AttnORefIdeal.Facts] : Prop :=
  ∀ (m : (ℓ : Loc Cert.AttnORefIdeal.nD Cert.AttnORefIdeal.τ Cert.AttnORefIdeal.sig) → Buf (Elt Ideal) ℓ) (g : Dev Cert.AttnORefIdeal.nD → PrngReg), Pre_AttnORefIdeal m →
    θ_run (Cert.AttnORefIdeal.defs (F := Ideal)) (onTc (τ := Cert.AttnORefIdeal.τ) (Cert.AttnORefIdeal.main (F := Ideal))) ⟨m, fun _ => 0, g⟩ (fun r => (∀ c : Dev Cert.AttnORefIdeal.nD,
      r.2.mem ((c.tc : Thread Cert.AttnORefIdeal.nD Cert.AttnORefIdeal.τ).loc Cert.AttnORefIdeal.main_arg0) = m ((c.tc : Thread Cert.AttnORefIdeal.nD Cert.AttnORefIdeal.τ).loc Cert.AttnORefIdeal.main_arg0)
      ∧ r.2.mem ((c.tc : Thread Cert.AttnORefIdeal.nD Cert.AttnORefIdeal.τ).loc Cert.AttnORefIdeal.main_arg1) = m ((c.tc : Thread Cert.AttnORefIdeal.nD Cert.AttnORefIdeal.τ).loc Cert.AttnORefIdeal.main_arg1))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ r.2.sem = fun _ => 0)

def quiescent_AttnQRefIdeal [hAttnQRefIdeal : Cert.AttnQRefIdeal.Facts] : Prop :=
  ∀ (m : (ℓ : Loc Cert.AttnQRefIdeal.nD Cert.AttnQRefIdeal.τ Cert.AttnQRefIdeal.sig) → Buf (Elt Ideal) ℓ) (g : Dev Cert.AttnQRefIdeal.nD → PrngReg), Pre_AttnQRefIdeal m →
    θ_run (Cert.AttnQRefIdeal.defs (F := Ideal)) (onTc (τ := Cert.AttnQRefIdeal.τ) (Cert.AttnQRefIdeal.main (F := Ideal))) ⟨m, fun _ => 0, g⟩ (fun r => (∀ c : Dev Cert.AttnQRefIdeal.nD,
      r.2.mem ((c.tc : Thread Cert.AttnQRefIdeal.nD Cert.AttnQRefIdeal.τ).loc Cert.AttnQRefIdeal.main_arg0) = m ((c.tc : Thread Cert.AttnQRefIdeal.nD Cert.AttnQRefIdeal.τ).loc Cert.AttnQRefIdeal.main_arg0)
      ∧ r.2.mem ((c.tc : Thread Cert.AttnQRefIdeal.nD Cert.AttnQRefIdeal.τ).loc Cert.AttnQRefIdeal.main_arg1) = m ((c.tc : Thread Cert.AttnQRefIdeal.nD Cert.AttnQRefIdeal.τ).loc Cert.AttnQRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_AttnW [hAttnW : Cert.AttnW.Facts] : Prop :=
  ∀ (m : (ℓ : Loc Cert.AttnW.nD Cert.AttnW.τ Cert.AttnW.sig) → Buf (Elt Bits) ℓ) (g : Dev Cert.AttnW.nD → PrngReg), Pre_AttnW m →
    θ_run (Cert.AttnW.defs (F := Bits)) (onTc (τ := Cert.AttnW.τ) (Cert.AttnW.main (F := Bits))) ⟨m, fun _ => 0, g⟩ (fun r => (∀ c : Dev Cert.AttnW.nD,
      r.2.mem ((c.tc : Thread Cert.AttnW.nD Cert.AttnW.τ).loc Cert.AttnW.main_arg0) = m ((c.tc : Thread Cert.AttnW.nD Cert.AttnW.τ).loc Cert.AttnW.main_arg0)
      ∧ r.2.mem ((c.tc : Thread Cert.AttnW.nD Cert.AttnW.τ).loc Cert.AttnW.main_arg1) = m ((c.tc : Thread Cert.AttnW.nD Cert.AttnW.τ).loc Cert.AttnW.main_arg1))
      ∧ r.2.sem = fun _ => 0)

def quiescent_AttnWIdeal [hAttnWIdeal : Cert.AttnWIdeal.Facts] : Prop :=
  ∀ (m : (ℓ : Loc Cert.AttnWIdeal.nD Cert.AttnWIdeal.τ Cert.AttnWIdeal.sig) → Buf (Elt Ideal) ℓ) (g : Dev Cert.AttnWIdeal.nD → PrngReg), Pre_AttnWIdeal m →
    θ_run (Cert.AttnWIdeal.defs (F := Ideal)) (onTc (τ := Cert.AttnWIdeal.τ) (Cert.AttnWIdeal.main (F := Ideal))) ⟨m, fun _ => 0, g⟩ (fun r => (∀ c : Dev Cert.AttnWIdeal.nD,
      r.2.mem ((c.tc : Thread Cert.AttnWIdeal.nD Cert.AttnWIdeal.τ).loc Cert.AttnWIdeal.main_arg0) = m ((c.tc : Thread Cert.AttnWIdeal.nD Cert.AttnWIdeal.τ).loc Cert.AttnWIdeal.main_arg0)
      ∧ r.2.mem ((c.tc : Thread Cert.AttnWIdeal.nD Cert.AttnWIdeal.τ).loc Cert.AttnWIdeal.main_arg1) = m ((c.tc : Thread Cert.AttnWIdeal.nD Cert.AttnWIdeal.τ).loc Cert.AttnWIdeal.main_arg1))
      ∧ r.2.sem = fun _ => 0)

def quiescent_AttnWRefIdeal [hAttnWRefIdeal : Cert.AttnWRefIdeal.Facts] : Prop :=
  ∀ (m : (ℓ : Loc Cert.AttnWRefIdeal.nD Cert.AttnWRefIdeal.τ Cert.AttnWRefIdeal.sig) → Buf (Elt Ideal) ℓ) (g : Dev Cert.AttnWRefIdeal.nD → PrngReg), Pre_AttnWRefIdeal m →
    θ_run (Cert.AttnWRefIdeal.defs (F := Ideal)) (onTc (τ := Cert.AttnWRefIdeal.τ) (Cert.AttnWRefIdeal.main (F := Ideal))) ⟨m, fun _ => 0, g⟩ (fun r => (∀ c : Dev Cert.AttnWRefIdeal.nD,
      r.2.mem ((c.tc : Thread Cert.AttnWRefIdeal.nD Cert.AttnWRefIdeal.τ).loc Cert.AttnWRefIdeal.main_arg0) = m ((c.tc : Thread Cert.AttnWRefIdeal.nD Cert.AttnWRefIdeal.τ).loc Cert.AttnWRefIdeal.main_arg0)
      ∧ r.2.mem ((c.tc : Thread Cert.AttnWRefIdeal.nD Cert.AttnWRefIdeal.τ).loc Cert.AttnWRefIdeal.main_arg1) = m ((c.tc : Thread Cert.AttnWRefIdeal.nD Cert.AttnWRefIdeal.τ).loc Cert.AttnWRefIdeal.main_arg1))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ r.2.sem = fun _ => 0)

def quiescent_MixWRefIdeal [hMixWRefIdeal : Cert.MixWRefIdeal.Facts] : Prop :=
  ∀ (m : (ℓ : Loc Cert.MixWRefIdeal.nD Cert.MixWRefIdeal.τ Cert.MixWRefIdeal.sig) → Buf (Elt Ideal) ℓ) (g : Dev Cert.MixWRefIdeal.nD → PrngReg), Pre_MixWRefIdeal m →
    θ_run (Cert.MixWRefIdeal.defs (F := Ideal)) (onTc (τ := Cert.MixWRefIdeal.τ) (Cert.MixWRefIdeal.main (F := Ideal))) ⟨m, fun _ => 0, g⟩ (fun r => (∀ c : Dev Cert.MixWRefIdeal.nD,
      r.2.mem ((c.tc : Thread Cert.MixWRefIdeal.nD Cert.MixWRefIdeal.τ).loc Cert.MixWRefIdeal.main_arg0) = m ((c.tc : Thread Cert.MixWRefIdeal.nD Cert.MixWRefIdeal.τ).loc Cert.MixWRefIdeal.main_arg0)
      ∧ r.2.mem ((c.tc : Thread Cert.MixWRefIdeal.nD Cert.MixWRefIdeal.τ).loc Cert.MixWRefIdeal.main_arg1) = m ((c.tc : Thread Cert.MixWRefIdeal.nD Cert.MixWRefIdeal.τ).loc Cert.MixWRefIdeal.main_arg1))
      ∧ r.2.sem = fun _ => 0)

def quiescent_HMlp [hHMlp : Cert.HMlp.Facts] : Prop :=
  ∀ (m : (ℓ : Loc Cert.HMlp.nD Cert.HMlp.τ Cert.HMlp.sig) → Buf (Elt Bits) ℓ) (g : Dev Cert.HMlp.nD → PrngReg), Pre_HMlp m →
    θ_run (Cert.HMlp.defs (F := Bits)) (onTc (τ := Cert.HMlp.τ) (Cert.HMlp.main (F := Bits))) ⟨m, fun _ => 0, g⟩ (fun r => (∀ c : Dev Cert.HMlp.nD,
      r.2.mem ((c.tc : Thread Cert.HMlp.nD Cert.HMlp.τ).loc Cert.HMlp.main_arg0) = m ((c.tc : Thread Cert.HMlp.nD Cert.HMlp.τ).loc Cert.HMlp.main_arg0)
      ∧ r.2.mem ((c.tc : Thread Cert.HMlp.nD Cert.HMlp.τ).loc Cert.HMlp.main_arg1) = m ((c.tc : Thread Cert.HMlp.nD Cert.HMlp.τ).loc Cert.HMlp.main_arg1)
      ∧ r.2.mem ((c.tc : Thread Cert.HMlp.nD Cert.HMlp.τ).loc Cert.HMlp.main_arg2) = m ((c.tc : Thread Cert.HMlp.nD Cert.HMlp.τ).loc Cert.HMlp.main_arg2)
      ∧ r.2.mem ((c.tc : Thread Cert.HMlp.nD Cert.HMlp.τ).loc Cert.HMlp.main_arg3) = m ((c.tc : Thread Cert.HMlp.nD Cert.HMlp.τ).loc Cert.HMlp.main_arg3)
      ∧ r.2.mem ((c.tc : Thread Cert.HMlp.nD Cert.HMlp.τ).loc Cert.HMlp.main_arg4) = m ((c.tc : Thread Cert.HMlp.nD Cert.HMlp.τ).loc Cert.HMlp.main_arg4)
      ∧ r.2.mem ((c.tc : Thread Cert.HMlp.nD Cert.HMlp.τ).loc Cert.HMlp.main_arg5) = m ((c.tc : Thread Cert.HMlp.nD Cert.HMlp.τ).loc Cert.HMlp.main_arg5)
      ∧ r.2.mem ((c.tc : Thread Cert.HMlp.nD Cert.HMlp.τ).loc Cert.HMlp.main_arg6) = m ((c.tc : Thread Cert.HMlp.nD Cert.HMlp.τ).loc Cert.HMlp.main_arg6))
      ∧ r.2.sem = fun _ => 0)

def quiescent_HMlpIdeal [hHMlpIdeal : Cert.HMlpIdeal.Facts] : Prop :=
  ∀ (m : (ℓ : Loc Cert.HMlpIdeal.nD Cert.HMlpIdeal.τ Cert.HMlpIdeal.sig) → Buf (Elt Ideal) ℓ) (g : Dev Cert.HMlpIdeal.nD → PrngReg), Pre_HMlpIdeal m →
    θ_run (Cert.HMlpIdeal.defs (F := Ideal)) (onTc (τ := Cert.HMlpIdeal.τ) (Cert.HMlpIdeal.main (F := Ideal))) ⟨m, fun _ => 0, g⟩ (fun r => (∀ c : Dev Cert.HMlpIdeal.nD,
      r.2.mem ((c.tc : Thread Cert.HMlpIdeal.nD Cert.HMlpIdeal.τ).loc Cert.HMlpIdeal.main_arg0) = m ((c.tc : Thread Cert.HMlpIdeal.nD Cert.HMlpIdeal.τ).loc Cert.HMlpIdeal.main_arg0)
      ∧ r.2.mem ((c.tc : Thread Cert.HMlpIdeal.nD Cert.HMlpIdeal.τ).loc Cert.HMlpIdeal.main_arg1) = m ((c.tc : Thread Cert.HMlpIdeal.nD Cert.HMlpIdeal.τ).loc Cert.HMlpIdeal.main_arg1)
      ∧ r.2.mem ((c.tc : Thread Cert.HMlpIdeal.nD Cert.HMlpIdeal.τ).loc Cert.HMlpIdeal.main_arg2) = m ((c.tc : Thread Cert.HMlpIdeal.nD Cert.HMlpIdeal.τ).loc Cert.HMlpIdeal.main_arg2)
      ∧ r.2.mem ((c.tc : Thread Cert.HMlpIdeal.nD Cert.HMlpIdeal.τ).loc Cert.HMlpIdeal.main_arg3) = m ((c.tc : Thread Cert.HMlpIdeal.nD Cert.HMlpIdeal.τ).loc Cert.HMlpIdeal.main_arg3)
      ∧ r.2.mem ((c.tc : Thread Cert.HMlpIdeal.nD Cert.HMlpIdeal.τ).loc Cert.HMlpIdeal.main_arg4) = m ((c.tc : Thread Cert.HMlpIdeal.nD Cert.HMlpIdeal.τ).loc Cert.HMlpIdeal.main_arg4)
      ∧ r.2.mem ((c.tc : Thread Cert.HMlpIdeal.nD Cert.HMlpIdeal.τ).loc Cert.HMlpIdeal.main_arg5) = m ((c.tc : Thread Cert.HMlpIdeal.nD Cert.HMlpIdeal.τ).loc Cert.HMlpIdeal.main_arg5)
      ∧ r.2.mem ((c.tc : Thread Cert.HMlpIdeal.nD Cert.HMlpIdeal.τ).loc Cert.HMlpIdeal.main_arg6) = m ((c.tc : Thread Cert.HMlpIdeal.nD Cert.HMlpIdeal.τ).loc Cert.HMlpIdeal.main_arg6))
      ∧ r.2.sem = fun _ => 0)

def quiescent_HMlpRefIdeal [hHMlpRefIdeal : Cert.HMlpRefIdeal.Facts] : Prop :=
  ∀ (m : (ℓ : Loc Cert.HMlpRefIdeal.nD Cert.HMlpRefIdeal.τ Cert.HMlpRefIdeal.sig) → Buf (Elt Ideal) ℓ) (g : Dev Cert.HMlpRefIdeal.nD → PrngReg), Pre_HMlpRefIdeal m →
    θ_run (Cert.HMlpRefIdeal.defs (F := Ideal)) (onTc (τ := Cert.HMlpRefIdeal.τ) (Cert.HMlpRefIdeal.main (F := Ideal))) ⟨m, fun _ => 0, g⟩ (fun r => (∀ c : Dev Cert.HMlpRefIdeal.nD,
      r.2.mem ((c.tc : Thread Cert.HMlpRefIdeal.nD Cert.HMlpRefIdeal.τ).loc Cert.HMlpRefIdeal.main_arg0) = m ((c.tc : Thread Cert.HMlpRefIdeal.nD Cert.HMlpRefIdeal.τ).loc Cert.HMlpRefIdeal.main_arg0)
      ∧ r.2.mem ((c.tc : Thread Cert.HMlpRefIdeal.nD Cert.HMlpRefIdeal.τ).loc Cert.HMlpRefIdeal.main_arg1) = m ((c.tc : Thread Cert.HMlpRefIdeal.nD Cert.HMlpRefIdeal.τ).loc Cert.HMlpRefIdeal.main_arg1)
      ∧ r.2.mem ((c.tc : Thread Cert.HMlpRefIdeal.nD Cert.HMlpRefIdeal.τ).loc Cert.HMlpRefIdeal.main_arg2) = m ((c.tc : Thread Cert.HMlpRefIdeal.nD Cert.HMlpRefIdeal.τ).loc Cert.HMlpRefIdeal.main_arg2)
      ∧ r.2.mem ((c.tc : Thread Cert.HMlpRefIdeal.nD Cert.HMlpRefIdeal.τ).loc Cert.HMlpRefIdeal.main_arg3) = m ((c.tc : Thread Cert.HMlpRefIdeal.nD Cert.HMlpRefIdeal.τ).loc Cert.HMlpRefIdeal.main_arg3)
      ∧ r.2.mem ((c.tc : Thread Cert.HMlpRefIdeal.nD Cert.HMlpRefIdeal.τ).loc Cert.HMlpRefIdeal.main_arg4) = m ((c.tc : Thread Cert.HMlpRefIdeal.nD Cert.HMlpRefIdeal.τ).loc Cert.HMlpRefIdeal.main_arg4)
      ∧ r.2.mem ((c.tc : Thread Cert.HMlpRefIdeal.nD Cert.HMlpRefIdeal.τ).loc Cert.HMlpRefIdeal.main_arg5) = m ((c.tc : Thread Cert.HMlpRefIdeal.nD Cert.HMlpRefIdeal.τ).loc Cert.HMlpRefIdeal.main_arg5)
      ∧ r.2.mem ((c.tc : Thread Cert.HMlpRefIdeal.nD Cert.HMlpRefIdeal.τ).loc Cert.HMlpRefIdeal.main_arg6) = m ((c.tc : Thread Cert.HMlpRefIdeal.nD Cert.HMlpRefIdeal.τ).loc Cert.HMlpRefIdeal.main_arg6))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3)
      ∧ r.2.mem ((c.tc : Thread Cert.MlpOutRefIdeal.nD Cert.MlpOutRefIdeal.τ).loc Cert.MlpOutRefIdeal.main_arg4) = m ((c.tc : Thread Cert.MlpOutRefIdeal.nD Cert.MlpOutRefIdeal.τ).loc Cert.MlpOutRefIdeal.main_arg4))
      ∧ r.2.sem = fun _ => 0)

def quiescent_CdOut [hCdOut : Cert.CdOut.Facts] : Prop :=
  ∀ (m : (ℓ : Loc Cert.CdOut.nD Cert.CdOut.τ Cert.CdOut.sig) → Buf (Elt Bits) ℓ) (g : Dev Cert.CdOut.nD → PrngReg), Pre_CdOut m →
    θ_run (Cert.CdOut.defs (F := Bits)) (onTc (τ := Cert.CdOut.τ) (Cert.CdOut.main (F := Bits))) ⟨m, fun _ => 0, g⟩ (fun r => (∀ c : Dev Cert.CdOut.nD,
      r.2.mem ((c.tc : Thread Cert.CdOut.nD Cert.CdOut.τ).loc Cert.CdOut.main_arg0) = m ((c.tc : Thread Cert.CdOut.nD Cert.CdOut.τ).loc Cert.CdOut.main_arg0)
      ∧ r.2.mem ((c.tc : Thread Cert.CdOut.nD Cert.CdOut.τ).loc Cert.CdOut.main_arg1) = m ((c.tc : Thread Cert.CdOut.nD Cert.CdOut.τ).loc Cert.CdOut.main_arg1)
      ∧ r.2.mem ((c.tc : Thread Cert.CdOut.nD Cert.CdOut.τ).loc Cert.CdOut.main_arg2) = m ((c.tc : Thread Cert.CdOut.nD Cert.CdOut.τ).loc Cert.CdOut.main_arg2)
      ∧ r.2.mem ((c.tc : Thread Cert.CdOut.nD Cert.CdOut.τ).loc Cert.CdOut.main_arg3) = m ((c.tc : Thread Cert.CdOut.nD Cert.CdOut.τ).loc Cert.CdOut.main_arg3)
      ∧ r.2.mem ((c.tc : Thread Cert.CdOut.nD Cert.CdOut.τ).loc Cert.CdOut.main_arg4) = m ((c.tc : Thread Cert.CdOut.nD Cert.CdOut.τ).loc Cert.CdOut.main_arg4))
      ∧ r.2.sem = fun _ => 0)

def quiescent_CdOutIdeal [hCdOutIdeal : Cert.CdOutIdeal.Facts] : Prop :=
  ∀ (m : (ℓ : Loc Cert.CdOutIdeal.nD Cert.CdOutIdeal.τ Cert.CdOutIdeal.sig) → Buf (Elt Ideal) ℓ) (g : Dev Cert.CdOutIdeal.nD → PrngReg), Pre_CdOutIdeal m →
    θ_run (Cert.CdOutIdeal.defs (F := Ideal)) (onTc (τ := Cert.CdOutIdeal.τ) (Cert.CdOutIdeal.main (F := Ideal))) ⟨m, fun _ => 0, g⟩ (fun r => (∀ c : Dev Cert.CdOutIdeal.nD,
      r.2.mem ((c.tc : Thread Cert.CdOutIdeal.nD Cert.CdOutIdeal.τ).loc Cert.CdOutIdeal.main_arg0) = m ((c.tc : Thread Cert.CdOutIdeal.nD Cert.CdOutIdeal.τ).loc Cert.CdOutIdeal.main_arg0)
      ∧ r.2.mem ((c.tc : Thread Cert.CdOutIdeal.nD Cert.CdOutIdeal.τ).loc Cert.CdOutIdeal.main_arg1) = m ((c.tc : Thread Cert.CdOutIdeal.nD Cert.CdOutIdeal.τ).loc Cert.CdOutIdeal.main_arg1)
      ∧ r.2.mem ((c.tc : Thread Cert.CdOutIdeal.nD Cert.CdOutIdeal.τ).loc Cert.CdOutIdeal.main_arg2) = m ((c.tc : Thread Cert.CdOutIdeal.nD Cert.CdOutIdeal.τ).loc Cert.CdOutIdeal.main_arg2)
      ∧ r.2.mem ((c.tc : Thread Cert.CdOutIdeal.nD Cert.CdOutIdeal.τ).loc Cert.CdOutIdeal.main_arg3) = m ((c.tc : Thread Cert.CdOutIdeal.nD Cert.CdOutIdeal.τ).loc Cert.CdOutIdeal.main_arg3)
      ∧ r.2.mem ((c.tc : Thread Cert.CdOutIdeal.nD Cert.CdOutIdeal.τ).loc Cert.CdOutIdeal.main_arg4) = m ((c.tc : Thread Cert.CdOutIdeal.nD Cert.CdOutIdeal.τ).loc Cert.CdOutIdeal.main_arg4))
      ∧ r.2.sem = fun _ => 0)

def quiescent_CdOutRefIdeal [hCdOutRefIdeal : Cert.CdOutRefIdeal.Facts] : Prop :=
  ∀ (m : (ℓ : Loc Cert.CdOutRefIdeal.nD Cert.CdOutRefIdeal.τ Cert.CdOutRefIdeal.sig) → Buf (Elt Ideal) ℓ) (g : Dev Cert.CdOutRefIdeal.nD → PrngReg), Pre_CdOutRefIdeal m →
    θ_run (Cert.CdOutRefIdeal.defs (F := Ideal)) (onTc (τ := Cert.CdOutRefIdeal.τ) (Cert.CdOutRefIdeal.main (F := Ideal))) ⟨m, fun _ => 0, g⟩ (fun r => (∀ c : Dev Cert.CdOutRefIdeal.nD,
      r.2.mem ((c.tc : Thread Cert.CdOutRefIdeal.nD Cert.CdOutRefIdeal.τ).loc Cert.CdOutRefIdeal.main_arg0) = m ((c.tc : Thread Cert.CdOutRefIdeal.nD Cert.CdOutRefIdeal.τ).loc Cert.CdOutRefIdeal.main_arg0)
      ∧ r.2.mem ((c.tc : Thread Cert.CdOutRefIdeal.nD Cert.CdOutRefIdeal.τ).loc Cert.CdOutRefIdeal.main_arg1) = m ((c.tc : Thread Cert.CdOutRefIdeal.nD Cert.CdOutRefIdeal.τ).loc Cert.CdOutRefIdeal.main_arg1)
      ∧ r.2.mem ((c.tc : Thread Cert.CdOutRefIdeal.nD Cert.CdOutRefIdeal.τ).loc Cert.CdOutRefIdeal.main_arg2) = m ((c.tc : Thread Cert.CdOutRefIdeal.nD Cert.CdOutRefIdeal.τ).loc Cert.CdOutRefIdeal.main_arg2)
      ∧ r.2.mem ((c.tc : Thread Cert.CdOutRefIdeal.nD Cert.CdOutRefIdeal.τ).loc Cert.CdOutRefIdeal.main_arg3) = m ((c.tc : Thread Cert.CdOutRefIdeal.nD Cert.CdOutRefIdeal.τ).loc Cert.CdOutRefIdeal.main_arg3)
      ∧ r.2.mem ((c.tc : Thread Cert.CdOutRefIdeal.nD Cert.CdOutRefIdeal.τ).loc Cert.CdOutRefIdeal.main_arg4) = m ((c.tc : Thread Cert.CdOutRefIdeal.nD Cert.CdOutRefIdeal.τ).loc Cert.CdOutRefIdeal.main_arg4))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4))
      ∧ r.2.sem = fun _ => 0)

def quiescent_AbMix [hAbMix : Cert.AbMix.Facts] : Prop :=
  ∀ (m : (ℓ : Loc Cert.AbMix.nD Cert.AbMix.τ Cert.AbMix.sig) → Buf (Elt Bits) ℓ) (g : Dev Cert.AbMix.nD → PrngReg), Pre_AbMix m →
    θ_run (Cert.AbMix.defs (F := Bits)) (onTc (τ := Cert.AbMix.τ) (Cert.AbMix.main (F := Bits))) ⟨m, fun _ => 0, g⟩ (fun r => (∀ c : Dev Cert.AbMix.nD,
      r.2.mem ((c.tc : Thread Cert.AbMix.nD Cert.AbMix.τ).loc Cert.AbMix.main_arg0) = m ((c.tc : Thread Cert.AbMix.nD Cert.AbMix.τ).loc Cert.AbMix.main_arg0)
      ∧ r.2.mem ((c.tc : Thread Cert.AbMix.nD Cert.AbMix.τ).loc Cert.AbMix.main_arg1) = m ((c.tc : Thread Cert.AbMix.nD Cert.AbMix.τ).loc Cert.AbMix.main_arg1))
      ∧ r.2.sem = fun _ => 0)

def quiescent_AbMixIdeal [hAbMixIdeal : Cert.AbMixIdeal.Facts] : Prop :=
  ∀ (m : (ℓ : Loc Cert.AbMixIdeal.nD Cert.AbMixIdeal.τ Cert.AbMixIdeal.sig) → Buf (Elt Ideal) ℓ) (g : Dev Cert.AbMixIdeal.nD → PrngReg), Pre_AbMixIdeal m →
    θ_run (Cert.AbMixIdeal.defs (F := Ideal)) (onTc (τ := Cert.AbMixIdeal.τ) (Cert.AbMixIdeal.main (F := Ideal))) ⟨m, fun _ => 0, g⟩ (fun r => (∀ c : Dev Cert.AbMixIdeal.nD,
      r.2.mem ((c.tc : Thread Cert.AbMixIdeal.nD Cert.AbMixIdeal.τ).loc Cert.AbMixIdeal.main_arg0) = m ((c.tc : Thread Cert.AbMixIdeal.nD Cert.AbMixIdeal.τ).loc Cert.AbMixIdeal.main_arg0)
      ∧ r.2.mem ((c.tc : Thread Cert.AbMixIdeal.nD Cert.AbMixIdeal.τ).loc Cert.AbMixIdeal.main_arg1) = m ((c.tc : Thread Cert.AbMixIdeal.nD Cert.AbMixIdeal.τ).loc Cert.AbMixIdeal.main_arg1))
      ∧ r.2.sem = fun _ => 0)

def quiescent_AbMixRefIdeal [hAbMixRefIdeal : Cert.AbMixRefIdeal.Facts] : Prop :=
  ∀ (m : (ℓ : Loc Cert.AbMixRefIdeal.nD Cert.AbMixRefIdeal.τ Cert.AbMixRefIdeal.sig) → Buf (Elt Ideal) ℓ) (g : Dev Cert.AbMixRefIdeal.nD → PrngReg), Pre_AbMixRefIdeal m →
    θ_run (Cert.AbMixRefIdeal.defs (F := Ideal)) (onTc (τ := Cert.AbMixRefIdeal.τ) (Cert.AbMixRefIdeal.main (F := Ideal))) ⟨m, fun _ => 0, g⟩ (fun r => (∀ c : Dev Cert.AbMixRefIdeal.nD,
      r.2.mem ((c.tc : Thread Cert.AbMixRefIdeal.nD Cert.AbMixRefIdeal.τ).loc Cert.AbMixRefIdeal.main_arg0) = m ((c.tc : Thread Cert.AbMixRefIdeal.nD Cert.AbMixRefIdeal.τ).loc Cert.AbMixRefIdeal.main_arg0)
      ∧ r.2.mem ((c.tc : Thread Cert.AbMixRefIdeal.nD Cert.AbMixRefIdeal.τ).loc Cert.AbMixRefIdeal.main_arg1) = m ((c.tc : Thread Cert.AbMixRefIdeal.nD Cert.AbMixRefIdeal.τ).loc Cert.AbMixRefIdeal.main_arg1))
      ∧ r.2.sem = fun _ => 0)

def quiescent_AbW [hAbW : Cert.AbW.Facts] : Prop :=
  ∀ (m : (ℓ : Loc Cert.AbW.nD Cert.AbW.τ Cert.AbW.sig) → Buf (Elt Bits) ℓ) (g : Dev Cert.AbW.nD → PrngReg), Pre_AbW m →
    θ_run (Cert.AbW.defs (F := Bits)) (onTc (τ := Cert.AbW.τ) (Cert.AbW.main (F := Bits))) ⟨m, fun _ => 0, g⟩ (fun r => (∀ c : Dev Cert.AbW.nD,
      r.2.mem ((c.tc : Thread Cert.AbW.nD Cert.AbW.τ).loc Cert.AbW.main_arg0) = m ((c.tc : Thread Cert.AbW.nD Cert.AbW.τ).loc Cert.AbW.main_arg0)
      ∧ r.2.mem ((c.tc : Thread Cert.AbW.nD Cert.AbW.τ).loc Cert.AbW.main_arg1) = m ((c.tc : Thread Cert.AbW.nD Cert.AbW.τ).loc Cert.AbW.main_arg1))
      ∧ r.2.sem = fun _ => 0)

def quiescent_AbWIdeal [hAbWIdeal : Cert.AbWIdeal.Facts] : Prop :=
  ∀ (m : (ℓ : Loc Cert.AbWIdeal.nD Cert.AbWIdeal.τ Cert.AbWIdeal.sig) → Buf (Elt Ideal) ℓ) (g : Dev Cert.AbWIdeal.nD → PrngReg), Pre_AbWIdeal m →
    θ_run (Cert.AbWIdeal.defs (F := Ideal)) (onTc (τ := Cert.AbWIdeal.τ) (Cert.AbWIdeal.main (F := Ideal))) ⟨m, fun _ => 0, g⟩ (fun r => (∀ c : Dev Cert.AbWIdeal.nD,
      r.2.mem ((c.tc : Thread Cert.AbWIdeal.nD Cert.AbWIdeal.τ).loc Cert.AbWIdeal.main_arg0) = m ((c.tc : Thread Cert.AbWIdeal.nD Cert.AbWIdeal.τ).loc Cert.AbWIdeal.main_arg0)
      ∧ r.2.mem ((c.tc : Thread Cert.AbWIdeal.nD Cert.AbWIdeal.τ).loc Cert.AbWIdeal.main_arg1) = m ((c.tc : Thread Cert.AbWIdeal.nD Cert.AbWIdeal.τ).loc Cert.AbWIdeal.main_arg1))
      ∧ r.2.sem = fun _ => 0)

def quiescent_AbWRefIdeal [hAbWRefIdeal : Cert.AbWRefIdeal.Facts] : Prop :=
  ∀ (m : (ℓ : Loc Cert.AbWRefIdeal.nD Cert.AbWRefIdeal.τ Cert.AbWRefIdeal.sig) → Buf (Elt Ideal) ℓ) (g : Dev Cert.AbWRefIdeal.nD → PrngReg), Pre_AbWRefIdeal m →
    θ_run (Cert.AbWRefIdeal.defs (F := Ideal)) (onTc (τ := Cert.AbWRefIdeal.τ) (Cert.AbWRefIdeal.main (F := Ideal))) ⟨m, fun _ => 0, g⟩ (fun r => (∀ c : Dev Cert.AbWRefIdeal.nD,
      r.2.mem ((c.tc : Thread Cert.AbWRefIdeal.nD Cert.AbWRefIdeal.τ).loc Cert.AbWRefIdeal.main_arg0) = m ((c.tc : Thread Cert.AbWRefIdeal.nD Cert.AbWRefIdeal.τ).loc Cert.AbWRefIdeal.main_arg0)
      ∧ r.2.mem ((c.tc : Thread Cert.AbWRefIdeal.nD Cert.AbWRefIdeal.τ).loc Cert.AbWRefIdeal.main_arg1) = m ((c.tc : Thread Cert.AbWRefIdeal.nD Cert.AbWRefIdeal.τ).loc Cert.AbWRefIdeal.main_arg1))
      ∧ r.2.sem = fun _ => 0)

def quiescent_AbInW [hAbInW : Cert.AbInW.Facts] : Prop :=
  ∀ (m : (ℓ : Loc Cert.AbInW.nD Cert.AbInW.τ Cert.AbInW.sig) → Buf (Elt Bits) ℓ) (g : Dev Cert.AbInW.nD → PrngReg), Pre_AbInW m →
    θ_run (Cert.AbInW.defs (F := Bits)) (onTc (τ := Cert.AbInW.τ) (Cert.AbInW.main (F := Bits))) ⟨m, fun _ => 0, g⟩ (fun r => (∀ c : Dev Cert.AbInW.nD,
      r.2.mem ((c.tc : Thread Cert.AbInW.nD Cert.AbInW.τ).loc Cert.AbInW.main_arg0) = m ((c.tc : Thread Cert.AbInW.nD Cert.AbInW.τ).loc Cert.AbInW.main_arg0)
      ∧ r.2.mem ((c.tc : Thread Cert.AbInW.nD Cert.AbInW.τ).loc Cert.AbInW.main_arg1) = m ((c.tc : Thread Cert.AbInW.nD Cert.AbInW.τ).loc Cert.AbInW.main_arg1))
      ∧ r.2.sem = fun _ => 0)

def quiescent_AbInWIdeal [hAbInWIdeal : Cert.AbInWIdeal.Facts] : Prop :=
  ∀ (m : (ℓ : Loc Cert.AbInWIdeal.nD Cert.AbInWIdeal.τ Cert.AbInWIdeal.sig) → Buf (Elt Ideal) ℓ) (g : Dev Cert.AbInWIdeal.nD → PrngReg), Pre_AbInWIdeal m →
    θ_run (Cert.AbInWIdeal.defs (F := Ideal)) (onTc (τ := Cert.AbInWIdeal.τ) (Cert.AbInWIdeal.main (F := Ideal))) ⟨m, fun _ => 0, g⟩ (fun r => (∀ c : Dev Cert.AbInWIdeal.nD,
      r.2.mem ((c.tc : Thread Cert.AbInWIdeal.nD Cert.AbInWIdeal.τ).loc Cert.AbInWIdeal.main_arg0) = m ((c.tc : Thread Cert.AbInWIdeal.nD Cert.AbInWIdeal.τ).loc Cert.AbInWIdeal.main_arg0)
      ∧ r.2.mem ((c.tc : Thread Cert.AbInWIdeal.nD Cert.AbInWIdeal.τ).loc Cert.AbInWIdeal.main_arg1) = m ((c.tc : Thread Cert.AbInWIdeal.nD Cert.AbInWIdeal.τ).loc Cert.AbInWIdeal.main_arg1))
      ∧ r.2.sem = fun _ => 0)

def quiescent_AbInWRefIdeal [hAbInWRefIdeal : Cert.AbInWRefIdeal.Facts] : Prop :=
  ∀ (m : (ℓ : Loc Cert.AbInWRefIdeal.nD Cert.AbInWRefIdeal.τ Cert.AbInWRefIdeal.sig) → Buf (Elt Ideal) ℓ) (g : Dev Cert.AbInWRefIdeal.nD → PrngReg), Pre_AbInWRefIdeal m →
    θ_run (Cert.AbInWRefIdeal.defs (F := Ideal)) (onTc (τ := Cert.AbInWRefIdeal.τ) (Cert.AbInWRefIdeal.main (F := Ideal))) ⟨m, fun _ => 0, g⟩ (fun r => (∀ c : Dev Cert.AbInWRefIdeal.nD,
      r.2.mem ((c.tc : Thread Cert.AbInWRefIdeal.nD Cert.AbInWRefIdeal.τ).loc Cert.AbInWRefIdeal.main_arg0) = m ((c.tc : Thread Cert.AbInWRefIdeal.nD Cert.AbInWRefIdeal.τ).loc Cert.AbInWRefIdeal.main_arg0)
      ∧ r.2.mem ((c.tc : Thread Cert.AbInWRefIdeal.nD Cert.AbInWRefIdeal.τ).loc Cert.AbInWRefIdeal.main_arg1) = m ((c.tc : Thread Cert.AbInWRefIdeal.nD Cert.AbInWRefIdeal.τ).loc Cert.AbInWRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v5_0)) (v1 : (c : Dev Cert.ConvBwdIdeal.nD) → Buf (Elt Ideal) ((c.tc : Thread Cert.ConvBwdIdeal.nD Cert.ConvBwdIdeal.τ).loc Cert.ConvBwdIdeal.main_v5_1)) (v2 : (c : Dev Cert.ConvBwdIdeal.nD) → Buf (Elt Ideal) ((c.tc : Thread Cert.ConvBwdIdeal.nD Cert.ConvBwdIdeal.τ).loc Cert.ConvBwdIdeal.main_v5_2)) (v3 : (c : Dev Cert.ConvBwdIdeal.nD) → Buf (Elt Ideal) ((c.tc : Thread Cert.ConvBwdIdeal.nD Cert.ConvBwdIdeal.τ).loc Cert.ConvBwdIdeal.main_v5_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v5_0) = v0 c
          ∧ r.2.mem ((c.tc : Thread Cert.ConvBwdIdeal.nD Cert.ConvBwdIdeal.τ).loc Cert.ConvBwdIdeal.main_v5_1) = v1 c
          ∧ r.2.mem ((c.tc : Thread Cert.ConvBwdIdeal.nD Cert.ConvBwdIdeal.τ).loc Cert.ConvBwdIdeal.main_v5_2) = v2 c
          ∧ r.2.mem ((c.tc : Thread Cert.ConvBwdIdeal.nD Cert.ConvBwdIdeal.τ).loc Cert.ConvBwdIdeal.main_v5_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v631) = v0 c
          ∧ r.2.mem ((c.tc : Thread Cert.ConvRefIdeal.nD Cert.ConvRefIdeal.τ).loc Cert.ConvRefIdeal.main_v616) = v1 c
          ∧ r.2.mem ((c.tc : Thread Cert.ConvRefIdeal.nD Cert.ConvRefIdeal.τ).loc Cert.ConvRefIdeal.main_v632) = v2 c
          ∧ r.2.mem ((c.tc : Thread Cert.ConvRefIdeal.nD Cert.ConvRefIdeal.τ).loc Cert.ConvRefIdeal.main_v265) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_NormBwd_NormBwdIdeal : Prop :=
  True

def algebraic_NormBwdIdeal_NormRefIdeal [hNormBwdIdeal : Cert.NormBwdIdeal.Facts] [hNormRefIdeal : Cert.NormRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v69) = v0 c
          ∧ r.2.mem ((c.tc : Thread Cert.NormRefIdeal.nD Cert.NormRefIdeal.τ).loc Cert.NormRefIdeal.main_v70) = v1 c
          ∧ r.2.mem ((c.tc : Thread Cert.NormRefIdeal.nD Cert.NormRefIdeal.τ).loc Cert.NormRefIdeal.main_v71) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_MlpW_MlpWIdeal : Prop :=
  True

def algebraic_MlpWIdeal_MlpWRefIdeal [hMlpWIdeal : Cert.MlpWIdeal.Facts] [hMlpWRefIdeal : Cert.MlpWRefIdeal.Facts] : Prop :=
  ∀ (m : (ℓ : Loc Cert.MlpWIdeal.nD Cert.MlpWIdeal.τ Cert.MlpWIdeal.sig) → Buf (Elt Ideal) ℓ) (g : Dev Cert.MlpWIdeal.nD → PrngReg)
    (m' : (ℓ : Loc Cert.MlpWRefIdeal.nD Cert.MlpWRefIdeal.τ Cert.MlpWRefIdeal.sig) → Buf (Elt Ideal) ℓ) (g' : Dev Cert.MlpWRefIdeal.nD → PrngReg), Pre_MlpWIdeal m →
    (∀ c : Dev Cert.MlpWIdeal.nD,
      m' ((c.tc : Thread Cert.MlpWRefIdeal.nD Cert.MlpWRefIdeal.τ).loc Cert.MlpWRefIdeal.main_arg0) = m ((c.tc : Thread Cert.MlpWIdeal.nD Cert.MlpWIdeal.τ).loc Cert.MlpWIdeal.main_arg0)
      ∧ m' ((c.tc : Thread Cert.MlpWRefIdeal.nD Cert.MlpWRefIdeal.τ).loc Cert.MlpWRefIdeal.main_arg1) = m ((c.tc : Thread Cert.MlpWIdeal.nD Cert.MlpWIdeal.τ).loc Cert.MlpWIdeal.main_arg1)) →
    ∃ (v0 : (c : Dev Cert.MlpWIdeal.nD) → Buf (Elt Ideal) ((c.tc : Thread Cert.MlpWIdeal.nD Cert.MlpWIdeal.τ).loc Cert.MlpWIdeal.main_v0)),
      θ_run (Cert.MlpWIdeal.defs (F := Ideal)) (onTc (τ := Cert.MlpWIdeal.τ) (Cert.MlpWIdeal.main (F := Ideal))) ⟨m, fun _ => 0, g⟩ (fun r => ∀ c : Dev Cert.MlpWIdeal.nD,
          r.2.mem ((c.tc : Thread Cert.MlpWIdeal.nD Cert.MlpWIdeal.τ).loc Cert.MlpWIdeal.main_v0) = v0 c
          ∧ r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
          ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1))
      ∧ θ_run (Cert.MlpWRefIdeal.defs (F := Ideal)) (onTc (τ := Cert.MlpWRefIdeal.τ) (Cert.MlpWRefIdeal.main (F := Ideal))) ⟨m', fun _ => 0, g'⟩ (fun r => ∀ c : Dev Cert.MlpWRefIdeal.nD,
          r.2.mem ((c.tc : Thread Cert.MlpWRefIdeal.nD Cert.MlpWRefIdeal.τ).loc Cert.MlpWRefIdeal.main_v6) = v0 c
          ∧ r.2.mem ((c.tc : Thread Cert.MlpWRefIdeal.nD Cert.MlpWRefIdeal.τ).loc Cert.MlpWRefIdeal.main_arg0) = m' ((c.tc : Thread Cert.MlpWRefIdeal.nD Cert.MlpWRefIdeal.τ).loc Cert.MlpWRefIdeal.main_arg0)
          ∧ r.2.mem ((c.tc : Thread Cert.MlpWRefIdeal.nD Cert.MlpWRefIdeal.τ).loc Cert.MlpWRefIdeal.main_arg1) = m' ((c.tc : Thread Cert.MlpWRefIdeal.nD Cert.MlpWRefIdeal.τ).loc Cert.MlpWRefIdeal.main_arg1))

def preserves_MlpR_MlpRIdeal : Prop :=
  True

def algebraic_MlpRIdeal_MlpRRefIdeal [hMlpRIdeal : Cert.MlpRIdeal.Facts] [hMlpRRefIdeal : Cert.MlpRRefIdeal.Facts] : Prop :=
  ∀ (m : (ℓ : Loc Cert.MlpRIdeal.nD Cert.MlpRIdeal.τ Cert.MlpRIdeal.sig) → Buf (Elt Ideal) ℓ) (g : Dev Cert.MlpRIdeal.nD → PrngReg)
    (m' : (ℓ : Loc Cert.MlpRRefIdeal.nD Cert.MlpRRefIdeal.τ Cert.MlpRRefIdeal.sig) → Buf (Elt Ideal) ℓ) (g' : Dev Cert.MlpRRefIdeal.nD → PrngReg), Pre_MlpRIdeal m →
    (∀ c : Dev Cert.MlpRIdeal.nD,
      m' ((c.tc : Thread Cert.MlpRRefIdeal.nD Cert.MlpRRefIdeal.τ).loc Cert.MlpRRefIdeal.main_arg0) = m ((c.tc : Thread Cert.MlpRIdeal.nD Cert.MlpRIdeal.τ).loc Cert.MlpRIdeal.main_arg0)
      ∧ m' ((c.tc : Thread Cert.MlpRRefIdeal.nD Cert.MlpRRefIdeal.τ).loc Cert.MlpRRefIdeal.main_arg1) = m ((c.tc : Thread Cert.MlpRIdeal.nD Cert.MlpRIdeal.τ).loc Cert.MlpRIdeal.main_arg1)
      ∧ m' ((c.tc : Thread Cert.MlpRRefIdeal.nD Cert.MlpRRefIdeal.τ).loc Cert.MlpRRefIdeal.main_arg2) = m ((c.tc : Thread Cert.MlpRIdeal.nD Cert.MlpRIdeal.τ).loc Cert.MlpRIdeal.main_arg2)) →
    ∃ (v0 : (c : Dev Cert.MlpRIdeal.nD) → Buf (Elt Ideal) ((c.tc : Thread Cert.MlpRIdeal.nD Cert.MlpRIdeal.τ).loc Cert.MlpRIdeal.main_v0)),
      θ_run (Cert.MlpRIdeal.defs (F := Ideal)) (onTc (τ := Cert.MlpRIdeal.τ) (Cert.MlpRIdeal.main (F := Ideal))) ⟨m, fun _ => 0, g⟩ (fun r => ∀ c : Dev Cert.MlpRIdeal.nD,
          r.2.mem ((c.tc : Thread Cert.MlpRIdeal.nD Cert.MlpRIdeal.τ).loc Cert.MlpRIdeal.main_v0) = v0 c
          ∧ r.2.mem ((c.tc : Thread Cert.MlpRIdeal.nD Cert.MlpRIdeal.τ).loc Cert.MlpRIdeal.main_arg0) = m ((c.tc : Thread Cert.MlpRIdeal.nD Cert.MlpRIdeal.τ).loc Cert.MlpRIdeal.main_arg0)
          ∧ r.2.mem ((c.tc : Thread Cert.MlpRIdeal.nD Cert.MlpRIdeal.τ).loc Cert.MlpRIdeal.main_arg1) = m ((c.tc : Thread Cert.MlpRIdeal.nD Cert.MlpRIdeal.τ).loc Cert.MlpRIdeal.main_arg1)
          ∧ r.2.mem ((c.tc : Thread Cert.MlpRIdeal.nD Cert.MlpRIdeal.τ).loc Cert.MlpRIdeal.main_arg2) = m ((c.tc : Thread Cert.MlpRIdeal.nD Cert.MlpRIdeal.τ).loc Cert.MlpRIdeal.main_arg2))
      ∧ θ_run (Cert.MlpRRefIdeal.defs (F := Ideal)) (onTc (τ := Cert.MlpRRefIdeal.τ) (Cert.MlpRRefIdeal.main (F := Ideal))) ⟨m', fun _ => 0, g'⟩ (fun r => ∀ c : Dev Cert.MlpRRefIdeal.nD,
          r.2.mem ((c.tc : Thread Cert.MlpRRefIdeal.nD Cert.MlpRRefIdeal.τ).loc Cert.MlpRRefIdeal.main_v15) = v0 c
          ∧ r.2.mem ((c.tc : Thread Cert.MlpRRefIdeal.nD Cert.MlpRRefIdeal.τ).loc Cert.MlpRRefIdeal.main_arg0) = m' ((c.tc : Thread Cert.MlpRRefIdeal.nD Cert.MlpRRefIdeal.τ).loc Cert.MlpRRefIdeal.main_arg0)
          ∧ r.2.mem ((c.tc : Thread Cert.MlpRRefIdeal.nD Cert.MlpRRefIdeal.τ).loc Cert.MlpRRefIdeal.main_arg1) = m' ((c.tc : Thread Cert.MlpRRefIdeal.nD Cert.MlpRRefIdeal.τ).loc Cert.MlpRRefIdeal.main_arg1)
          ∧ r.2.mem ((c.tc : Thread Cert.MlpRRefIdeal.nD Cert.MlpRRefIdeal.τ).loc Cert.MlpRRefIdeal.main_arg2) = m' ((c.tc : Thread Cert.MlpRRefIdeal.nD Cert.MlpRRefIdeal.τ).loc Cert.MlpRRefIdeal.main_arg2))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)) →
    ∃ (v0 : (c : Dev Cert.MlpFwdIdeal.nD) → Buf (Elt Ideal) ((c.tc : Thread Cert.MlpFwdIdeal.nD Cert.MlpFwdIdeal.τ).loc Cert.MlpFwdIdeal.main_v1_0)) (v1 : (c : Dev Cert.MlpFwdIdeal.nD) → Buf (Elt Ideal) ((c.tc : Thread Cert.MlpFwdIdeal.nD Cert.MlpFwdIdeal.τ).loc Cert.MlpFwdIdeal.main_v1_1)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v1_0) = v0 c
          ∧ r.2.mem ((c.tc : Thread Cert.MlpFwdIdeal.nD Cert.MlpFwdIdeal.τ).loc Cert.MlpFwdIdeal.main_v1_1) = v1 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v4) = v0 c
          ∧ r.2.mem ((c.tc : Thread Cert.MlpFwdRefIdeal.nD Cert.MlpFwdRefIdeal.τ).loc Cert.MlpFwdRefIdeal.main_v6) = v1 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1))

def preserves_CdInW_CdInWIdeal : Prop :=
  True

def algebraic_CdInWIdeal_CdInWRefIdeal [hCdInWIdeal : Cert.CdInWIdeal.Facts] [hCdInWRefIdeal : Cert.CdInWRefIdeal.Facts] : Prop :=
  ∀ (m : (ℓ : Loc Cert.CdInWIdeal.nD Cert.CdInWIdeal.τ Cert.CdInWIdeal.sig) → Buf (Elt Ideal) ℓ) (g : Dev Cert.CdInWIdeal.nD → PrngReg)
    (m' : (ℓ : Loc Cert.CdInWRefIdeal.nD Cert.CdInWRefIdeal.τ Cert.CdInWRefIdeal.sig) → Buf (Elt Ideal) ℓ) (g' : Dev Cert.CdInWRefIdeal.nD → PrngReg), Pre_CdInWIdeal m →
    (∀ c : Dev Cert.CdInWIdeal.nD,
      m' ((c.tc : Thread Cert.CdInWRefIdeal.nD Cert.CdInWRefIdeal.τ).loc Cert.CdInWRefIdeal.main_arg0) = m ((c.tc : Thread Cert.CdInWIdeal.nD Cert.CdInWIdeal.τ).loc Cert.CdInWIdeal.main_arg0)
      ∧ m' ((c.tc : Thread Cert.CdInWRefIdeal.nD Cert.CdInWRefIdeal.τ).loc Cert.CdInWRefIdeal.main_arg1) = m ((c.tc : Thread Cert.CdInWIdeal.nD Cert.CdInWIdeal.τ).loc Cert.CdInWIdeal.main_arg1)) →
    ∃ (v0 : (c : Dev Cert.CdInWIdeal.nD) → Buf (Elt Ideal) ((c.tc : Thread Cert.CdInWIdeal.nD Cert.CdInWIdeal.τ).loc Cert.CdInWIdeal.main_v3)),
      θ_run (Cert.CdInWIdeal.defs (F := Ideal)) (onTc (τ := Cert.CdInWIdeal.τ) (Cert.CdInWIdeal.main (F := Ideal))) ⟨m, fun _ => 0, g⟩ (fun r => ∀ c : Dev Cert.CdInWIdeal.nD,
          r.2.mem ((c.tc : Thread Cert.CdInWIdeal.nD Cert.CdInWIdeal.τ).loc Cert.CdInWIdeal.main_v3) = v0 c
          ∧ r.2.mem ((c.tc : Thread Cert.CdInWIdeal.nD Cert.CdInWIdeal.τ).loc Cert.CdInWIdeal.main_arg0) = m ((c.tc : Thread Cert.CdInWIdeal.nD Cert.CdInWIdeal.τ).loc Cert.CdInWIdeal.main_arg0)
          ∧ r.2.mem ((c.tc : Thread Cert.CdInWIdeal.nD Cert.CdInWIdeal.τ).loc Cert.CdInWIdeal.main_arg1) = m ((c.tc : Thread Cert.CdInWIdeal.nD Cert.CdInWIdeal.τ).loc Cert.CdInWIdeal.main_arg1))
      ∧ θ_run (Cert.CdInWRefIdeal.defs (F := Ideal)) (onTc (τ := Cert.CdInWRefIdeal.τ) (Cert.CdInWRefIdeal.main (F := Ideal))) ⟨m', fun _ => 0, g'⟩ (fun r => ∀ c : Dev Cert.CdInWRefIdeal.nD,
          r.2.mem ((c.tc : Thread Cert.CdInWRefIdeal.nD Cert.CdInWRefIdeal.τ).loc Cert.CdInWRefIdeal.main_v10) = v0 c
          ∧ r.2.mem ((c.tc : Thread Cert.CdInWRefIdeal.nD Cert.CdInWRefIdeal.τ).loc Cert.CdInWRefIdeal.main_arg0) = m' ((c.tc : Thread Cert.CdInWRefIdeal.nD Cert.CdInWRefIdeal.τ).loc Cert.CdInWRefIdeal.main_arg0)
          ∧ r.2.mem ((c.tc : Thread Cert.CdInWRefIdeal.nD Cert.CdInWRefIdeal.τ).loc Cert.CdInWRefIdeal.main_arg1) = m' ((c.tc : Thread Cert.CdInWRefIdeal.nD Cert.CdInWRefIdeal.τ).loc Cert.CdInWRefIdeal.main_arg1))

def preserves_CdIn_CdInIdeal : Prop :=
  True

def algebraic_CdInIdeal_CdInRefIdeal [hCdInIdeal : Cert.CdInIdeal.Facts] [hCdInRefIdeal : Cert.CdInRefIdeal.Facts] : Prop :=
  ∀ (m : (ℓ : Loc Cert.CdInIdeal.nD Cert.CdInIdeal.τ Cert.CdInIdeal.sig) → Buf (Elt Ideal) ℓ) (g : Dev Cert.CdInIdeal.nD → PrngReg)
    (m' : (ℓ : Loc Cert.CdInRefIdeal.nD Cert.CdInRefIdeal.τ Cert.CdInRefIdeal.sig) → Buf (Elt Ideal) ℓ) (g' : Dev Cert.CdInRefIdeal.nD → PrngReg), Pre_CdInIdeal m →
    (∀ c : Dev Cert.CdInIdeal.nD,
      m' ((c.tc : Thread Cert.CdInRefIdeal.nD Cert.CdInRefIdeal.τ).loc Cert.CdInRefIdeal.main_arg0) = m ((c.tc : Thread Cert.CdInIdeal.nD Cert.CdInIdeal.τ).loc Cert.CdInIdeal.main_arg0)
      ∧ m' ((c.tc : Thread Cert.CdInRefIdeal.nD Cert.CdInRefIdeal.τ).loc Cert.CdInRefIdeal.main_arg1) = m ((c.tc : Thread Cert.CdInIdeal.nD Cert.CdInIdeal.τ).loc Cert.CdInIdeal.main_arg1)) →
    ∃ (v0 : (c : Dev Cert.CdInIdeal.nD) → Buf (Elt Ideal) ((c.tc : Thread Cert.CdInIdeal.nD Cert.CdInIdeal.τ).loc Cert.CdInIdeal.main_v4)),
      θ_run (Cert.CdInIdeal.defs (F := Ideal)) (onTc (τ := Cert.CdInIdeal.τ) (Cert.CdInIdeal.main (F := Ideal))) ⟨m, fun _ => 0, g⟩ (fun r => ∀ c : Dev Cert.CdInIdeal.nD,
          r.2.mem ((c.tc : Thread Cert.CdInIdeal.nD Cert.CdInIdeal.τ).loc Cert.CdInIdeal.main_v4) = v0 c
          ∧ r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
          ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ θ_run (Cert.CdInRefIdeal.defs (F := Ideal)) (onTc (τ := Cert.CdInRefIdeal.τ) (Cert.CdInRefIdeal.main (F := Ideal))) ⟨m', fun _ => 0, g'⟩ (fun r => ∀ c : Dev Cert.CdInRefIdeal.nD,
          r.2.mem ((c.tc : Thread Cert.CdInRefIdeal.nD Cert.CdInRefIdeal.τ).loc Cert.CdInRefIdeal.main_v5) = v0 c
          ∧ r.2.mem ((c.tc : Thread Cert.CdInRefIdeal.nD Cert.CdInRefIdeal.τ).loc Cert.CdInRefIdeal.main_arg0) = m' ((c.tc : Thread Cert.CdInRefIdeal.nD Cert.CdInRefIdeal.τ).loc Cert.CdInRefIdeal.main_arg0)
          ∧ r.2.mem ((c.tc : Thread Cert.CdInRefIdeal.nD Cert.CdInRefIdeal.τ).loc Cert.CdInRefIdeal.main_arg1) = m' ((c.tc : Thread Cert.CdInRefIdeal.nD Cert.CdInRefIdeal.τ).loc Cert.CdInRefIdeal.main_arg1))

def preserves_AttnO_AttnOIdeal : Prop :=
  True

def algebraic_AttnOIdeal_AttnORefIdeal [hAttnOIdeal : Cert.AttnOIdeal.Facts] [hAttnORefIdeal : Cert.AttnORefIdeal.Facts] : Prop :=
  ∀ (m : (ℓ : Loc Cert.AttnOIdeal.nD Cert.AttnOIdeal.τ Cert.AttnOIdeal.sig) → Buf (Elt Ideal) ℓ) (g : Dev Cert.AttnOIdeal.nD → PrngReg)
    (m' : (ℓ : Loc Cert.AttnORefIdeal.nD Cert.AttnORefIdeal.τ Cert.AttnORefIdeal.sig) → Buf (Elt Ideal) ℓ) (g' : Dev Cert.AttnORefIdeal.nD → PrngReg), Pre_AttnOIdeal m →
    (∀ c : Dev Cert.AttnOIdeal.nD,
      m' ((c.tc : Thread Cert.AttnORefIdeal.nD Cert.AttnORefIdeal.τ).loc Cert.AttnORefIdeal.main_arg0) = m ((c.tc : Thread Cert.AttnOIdeal.nD Cert.AttnOIdeal.τ).loc Cert.AttnOIdeal.main_arg0)
      ∧ m' ((c.tc : Thread Cert.AttnORefIdeal.nD Cert.AttnORefIdeal.τ).loc Cert.AttnORefIdeal.main_arg1) = m ((c.tc : Thread Cert.AttnOIdeal.nD Cert.AttnOIdeal.τ).loc Cert.AttnOIdeal.main_arg1)) →
    ∃ (v0 : (c : Dev Cert.AttnOIdeal.nD) → Buf (Elt Ideal) ((c.tc : Thread Cert.AttnOIdeal.nD Cert.AttnOIdeal.τ).loc Cert.AttnOIdeal.main_v0)),
      θ_run (Cert.AttnOIdeal.defs (F := Ideal)) (onTc (τ := Cert.AttnOIdeal.τ) (Cert.AttnOIdeal.main (F := Ideal))) ⟨m, fun _ => 0, g⟩ (fun r => ∀ c : Dev Cert.AttnOIdeal.nD,
          r.2.mem ((c.tc : Thread Cert.AttnOIdeal.nD Cert.AttnOIdeal.τ).loc Cert.AttnOIdeal.main_v0) = v0 c
          ∧ r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
          ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1))
      ∧ θ_run (Cert.AttnORefIdeal.defs (F := Ideal)) (onTc (τ := Cert.AttnORefIdeal.τ) (Cert.AttnORefIdeal.main (F := Ideal))) ⟨m', fun _ => 0, g'⟩ (fun r => ∀ c : Dev Cert.AttnORefIdeal.nD,
          r.2.mem ((c.tc : Thread Cert.AttnORefIdeal.nD Cert.AttnORefIdeal.τ).loc Cert.AttnORefIdeal.main_v5) = v0 c
          ∧ r.2.mem ((c.tc : Thread Cert.AttnORefIdeal.nD Cert.AttnORefIdeal.τ).loc Cert.AttnORefIdeal.main_arg0) = m' ((c.tc : Thread Cert.AttnORefIdeal.nD Cert.AttnORefIdeal.τ).loc Cert.AttnORefIdeal.main_arg0)
          ∧ r.2.mem ((c.tc : Thread Cert.AttnORefIdeal.nD Cert.AttnORefIdeal.τ).loc Cert.AttnORefIdeal.main_arg1) = m' ((c.tc : Thread Cert.AttnORefIdeal.nD Cert.AttnORefIdeal.τ).loc Cert.AttnORefIdeal.main_arg1))

def preserves_AttnQ_AttnQIdeal : Prop :=
  True

def algebraic_AttnQIdeal_AttnQRefIdeal [hAttnQIdeal : Cert.AttnQIdeal.Facts] [hAttnQRefIdeal : Cert.AttnQRefIdeal.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.AttnQRefIdeal.nD Cert.AttnQRefIdeal.τ Cert.AttnQRefIdeal.sig) → Buf (Elt Ideal) ℓ) (g' : Dev Cert.AttnQRefIdeal.nD → PrngReg), Pre_AttnQIdeal m →
    (∀ c : Dev Cert.AttnQIdeal.nD,
      m' ((c.tc : Thread Cert.AttnQRefIdeal.nD Cert.AttnQRefIdeal.τ).loc Cert.AttnQRefIdeal.main_arg0) = m ((c.tc : Thread Cert.AttnQIdeal.nD Cert.AttnQIdeal.τ).loc Cert.AttnQIdeal.main_arg0)
      ∧ m' ((c.tc : Thread Cert.AttnQRefIdeal.nD Cert.AttnQRefIdeal.τ).loc Cert.AttnQRefIdeal.main_arg1) = m ((c.tc : Thread Cert.AttnQIdeal.nD Cert.AttnQIdeal.τ).loc Cert.AttnQIdeal.main_arg1)) →
    ∃ (v0 : (c : Dev Cert.AttnQIdeal.nD) → Buf (Elt Ideal) ((c.tc : Thread Cert.AttnQIdeal.nD Cert.AttnQIdeal.τ).loc Cert.AttnQIdeal.main_v0)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v0) = v0 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ θ_run (Cert.AttnQRefIdeal.defs (F := Ideal)) (onTc (τ := Cert.AttnQRefIdeal.τ) (Cert.AttnQRefIdeal.main (F := Ideal))) ⟨m', fun _ => 0, g'⟩ (fun r => ∀ c : Dev Cert.AttnQRefIdeal.nD,
          r.2.mem ((c.tc : Thread Cert.AttnQRefIdeal.nD Cert.AttnQRefIdeal.τ).loc Cert.AttnQRefIdeal.main_v3) = v0 c
          ∧ r.2.mem ((c.tc : Thread Cert.AttnQRefIdeal.nD Cert.AttnQRefIdeal.τ).loc Cert.AttnQRefIdeal.main_arg0) = m' ((c.tc : Thread Cert.AttnQRefIdeal.nD Cert.AttnQRefIdeal.τ).loc Cert.AttnQRefIdeal.main_arg0)
          ∧ r.2.mem ((c.tc : Thread Cert.AttnQRefIdeal.nD Cert.AttnQRefIdeal.τ).loc Cert.AttnQRefIdeal.main_arg1) = m' ((c.tc : Thread Cert.AttnQRefIdeal.nD Cert.AttnQRefIdeal.τ).loc Cert.AttnQRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v4) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_AttnW_AttnWIdeal : Prop :=
  True

def algebraic_AttnWIdeal_AttnWRefIdeal [hAttnWIdeal : Cert.AttnWIdeal.Facts] [hAttnWRefIdeal : Cert.AttnWRefIdeal.Facts] : Prop :=
  ∀ (m : (ℓ : Loc Cert.AttnWIdeal.nD Cert.AttnWIdeal.τ Cert.AttnWIdeal.sig) → Buf (Elt Ideal) ℓ) (g : Dev Cert.AttnWIdeal.nD → PrngReg)
    (m' : (ℓ : Loc Cert.AttnWRefIdeal.nD Cert.AttnWRefIdeal.τ Cert.AttnWRefIdeal.sig) → Buf (Elt Ideal) ℓ) (g' : Dev Cert.AttnWRefIdeal.nD → PrngReg), Pre_AttnWIdeal m →
    (∀ c : Dev Cert.AttnWIdeal.nD,
      m' ((c.tc : Thread Cert.AttnWRefIdeal.nD Cert.AttnWRefIdeal.τ).loc Cert.AttnWRefIdeal.main_arg0) = m ((c.tc : Thread Cert.AttnWIdeal.nD Cert.AttnWIdeal.τ).loc Cert.AttnWIdeal.main_arg0)
      ∧ m' ((c.tc : Thread Cert.AttnWRefIdeal.nD Cert.AttnWRefIdeal.τ).loc Cert.AttnWRefIdeal.main_arg1) = m ((c.tc : Thread Cert.AttnWIdeal.nD Cert.AttnWIdeal.τ).loc Cert.AttnWIdeal.main_arg1)) →
    ∃ (v0 : (c : Dev Cert.AttnWIdeal.nD) → Buf (Elt Ideal) ((c.tc : Thread Cert.AttnWIdeal.nD Cert.AttnWIdeal.τ).loc Cert.AttnWIdeal.main_v0)),
      θ_run (Cert.AttnWIdeal.defs (F := Ideal)) (onTc (τ := Cert.AttnWIdeal.τ) (Cert.AttnWIdeal.main (F := Ideal))) ⟨m, fun _ => 0, g⟩ (fun r => ∀ c : Dev Cert.AttnWIdeal.nD,
          r.2.mem ((c.tc : Thread Cert.AttnWIdeal.nD Cert.AttnWIdeal.τ).loc Cert.AttnWIdeal.main_v0) = v0 c
          ∧ r.2.mem ((c.tc : Thread Cert.AttnWIdeal.nD Cert.AttnWIdeal.τ).loc Cert.AttnWIdeal.main_arg0) = m ((c.tc : Thread Cert.AttnWIdeal.nD Cert.AttnWIdeal.τ).loc Cert.AttnWIdeal.main_arg0)
          ∧ r.2.mem ((c.tc : Thread Cert.AttnWIdeal.nD Cert.AttnWIdeal.τ).loc Cert.AttnWIdeal.main_arg1) = m ((c.tc : Thread Cert.AttnWIdeal.nD Cert.AttnWIdeal.τ).loc Cert.AttnWIdeal.main_arg1))
      ∧ θ_run (Cert.AttnWRefIdeal.defs (F := Ideal)) (onTc (τ := Cert.AttnWRefIdeal.τ) (Cert.AttnWRefIdeal.main (F := Ideal))) ⟨m', fun _ => 0, g'⟩ (fun r => ∀ c : Dev Cert.AttnWRefIdeal.nD,
          r.2.mem ((c.tc : Thread Cert.AttnWRefIdeal.nD Cert.AttnWRefIdeal.τ).loc Cert.AttnWRefIdeal.main_v6) = v0 c
          ∧ r.2.mem ((c.tc : Thread Cert.AttnWRefIdeal.nD Cert.AttnWRefIdeal.τ).loc Cert.AttnWRefIdeal.main_arg0) = m' ((c.tc : Thread Cert.AttnWRefIdeal.nD Cert.AttnWRefIdeal.τ).loc Cert.AttnWRefIdeal.main_arg0)
          ∧ r.2.mem ((c.tc : Thread Cert.AttnWRefIdeal.nD Cert.AttnWRefIdeal.τ).loc Cert.AttnWRefIdeal.main_arg1) = m' ((c.tc : Thread Cert.AttnWRefIdeal.nD Cert.AttnWRefIdeal.τ).loc Cert.AttnWRefIdeal.main_arg1))

def preserves_MixW_MixWIdeal : Prop :=
  True

def algebraic_MixWIdeal_MixWRefIdeal [hMixWIdeal : Cert.MixWIdeal.Facts] [hMixWRefIdeal : Cert.MixWRefIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWRefIdeal.nD Cert.MixWRefIdeal.τ Cert.MixWRefIdeal.sig) → Buf (Elt Ideal) ℓ) (g' : Dev Cert.MixWRefIdeal.nD → PrngReg), Pre_MixWIdeal m →
    (∀ c : Dev Cert.MixWIdeal.nD,
      m' ((c.tc : Thread Cert.MixWRefIdeal.nD Cert.MixWRefIdeal.τ).loc Cert.MixWRefIdeal.main_arg0) = m ((c.tc : Thread Cert.MixWIdeal.nD Cert.MixWIdeal.τ).loc Cert.MixWIdeal.main_arg0)
      ∧ m' ((c.tc : Thread Cert.MixWRefIdeal.nD Cert.MixWRefIdeal.τ).loc Cert.MixWRefIdeal.main_arg1) = m ((c.tc : Thread Cert.MixWIdeal.nD Cert.MixWIdeal.τ).loc Cert.MixWIdeal.main_arg1)) →
    ∃ (v0 : (c : Dev Cert.MixWIdeal.nD) → Buf (Elt Ideal) ((c.tc : Thread Cert.MixWIdeal.nD Cert.MixWIdeal.τ).loc Cert.MixWIdeal.main_v0)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v0) = v0 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1))
      ∧ θ_run (Cert.MixWRefIdeal.defs (F := Ideal)) (onTc (τ := Cert.MixWRefIdeal.τ) (Cert.MixWRefIdeal.main (F := Ideal))) ⟨m', fun _ => 0, g'⟩ (fun r => ∀ c : Dev Cert.MixWRefIdeal.nD,
          r.2.mem ((c.tc : Thread Cert.MixWRefIdeal.nD Cert.MixWRefIdeal.τ).loc Cert.MixWRefIdeal.main_v6) = v0 c
          ∧ r.2.mem ((c.tc : Thread Cert.MixWRefIdeal.nD Cert.MixWRefIdeal.τ).loc Cert.MixWRefIdeal.main_arg0) = m' ((c.tc : Thread Cert.MixWRefIdeal.nD Cert.MixWRefIdeal.τ).loc Cert.MixWRefIdeal.main_arg0)
          ∧ r.2.mem ((c.tc : Thread Cert.MixWRefIdeal.nD Cert.MixWRefIdeal.τ).loc Cert.MixWRefIdeal.main_arg1) = m' ((c.tc : Thread Cert.MixWRefIdeal.nD Cert.MixWRefIdeal.τ).loc Cert.MixWRefIdeal.main_arg1))

def preserves_HMlp_HMlpIdeal : Prop :=
  True

def algebraic_HMlpIdeal_HMlpRefIdeal [hHMlpIdeal : Cert.HMlpIdeal.Facts] [hHMlpRefIdeal : Cert.HMlpRefIdeal.Facts] : Prop :=
  ∀ (m : (ℓ : Loc Cert.HMlpIdeal.nD Cert.HMlpIdeal.τ Cert.HMlpIdeal.sig) → Buf (Elt Ideal) ℓ) (g : Dev Cert.HMlpIdeal.nD → PrngReg)
    (m' : (ℓ : Loc Cert.HMlpRefIdeal.nD Cert.HMlpRefIdeal.τ Cert.HMlpRefIdeal.sig) → Buf (Elt Ideal) ℓ) (g' : Dev Cert.HMlpRefIdeal.nD → PrngReg), Pre_HMlpIdeal m →
    (∀ c : Dev Cert.HMlpIdeal.nD,
      m' ((c.tc : Thread Cert.HMlpRefIdeal.nD Cert.HMlpRefIdeal.τ).loc Cert.HMlpRefIdeal.main_arg0) = m ((c.tc : Thread Cert.HMlpIdeal.nD Cert.HMlpIdeal.τ).loc Cert.HMlpIdeal.main_arg0)
      ∧ m' ((c.tc : Thread Cert.HMlpRefIdeal.nD Cert.HMlpRefIdeal.τ).loc Cert.HMlpRefIdeal.main_arg1) = m ((c.tc : Thread Cert.HMlpIdeal.nD Cert.HMlpIdeal.τ).loc Cert.HMlpIdeal.main_arg1)
      ∧ m' ((c.tc : Thread Cert.HMlpRefIdeal.nD Cert.HMlpRefIdeal.τ).loc Cert.HMlpRefIdeal.main_arg2) = m ((c.tc : Thread Cert.HMlpIdeal.nD Cert.HMlpIdeal.τ).loc Cert.HMlpIdeal.main_arg2)
      ∧ m' ((c.tc : Thread Cert.HMlpRefIdeal.nD Cert.HMlpRefIdeal.τ).loc Cert.HMlpRefIdeal.main_arg3) = m ((c.tc : Thread Cert.HMlpIdeal.nD Cert.HMlpIdeal.τ).loc Cert.HMlpIdeal.main_arg3)
      ∧ m' ((c.tc : Thread Cert.HMlpRefIdeal.nD Cert.HMlpRefIdeal.τ).loc Cert.HMlpRefIdeal.main_arg4) = m ((c.tc : Thread Cert.HMlpIdeal.nD Cert.HMlpIdeal.τ).loc Cert.HMlpIdeal.main_arg4)
      ∧ m' ((c.tc : Thread Cert.HMlpRefIdeal.nD Cert.HMlpRefIdeal.τ).loc Cert.HMlpRefIdeal.main_arg5) = m ((c.tc : Thread Cert.HMlpIdeal.nD Cert.HMlpIdeal.τ).loc Cert.HMlpIdeal.main_arg5)
      ∧ m' ((c.tc : Thread Cert.HMlpRefIdeal.nD Cert.HMlpRefIdeal.τ).loc Cert.HMlpRefIdeal.main_arg6) = m ((c.tc : Thread Cert.HMlpIdeal.nD Cert.HMlpIdeal.τ).loc Cert.HMlpIdeal.main_arg6)) →
    ∃ (v0 : (c : Dev Cert.HMlpIdeal.nD) → Buf (Elt Ideal) ((c.tc : Thread Cert.HMlpIdeal.nD Cert.HMlpIdeal.τ).loc Cert.HMlpIdeal.main_v1_0)) (v1 : (c : Dev Cert.HMlpIdeal.nD) → Buf (Elt Ideal) ((c.tc : Thread Cert.HMlpIdeal.nD Cert.HMlpIdeal.τ).loc Cert.HMlpIdeal.main_v1_1)) (v2 : (c : Dev Cert.HMlpIdeal.nD) → Buf (Elt Ideal) ((c.tc : Thread Cert.HMlpIdeal.nD Cert.HMlpIdeal.τ).loc Cert.HMlpIdeal.main_v1_2)) (v3 : (c : Dev Cert.HMlpIdeal.nD) → Buf (Elt Ideal) ((c.tc : Thread Cert.HMlpIdeal.nD Cert.HMlpIdeal.τ).loc Cert.HMlpIdeal.main_v1_3)),
      θ_run (Cert.HMlpIdeal.defs (F := Ideal)) (onTc (τ := Cert.HMlpIdeal.τ) (Cert.HMlpIdeal.main (F := Ideal))) ⟨m, fun _ => 0, g⟩ (fun r => ∀ c : Dev Cert.HMlpIdeal.nD,
          r.2.mem ((c.tc : Thread Cert.HMlpIdeal.nD Cert.HMlpIdeal.τ).loc Cert.HMlpIdeal.main_v1_0) = v0 c
          ∧ r.2.mem ((c.tc : Thread Cert.HMlpIdeal.nD Cert.HMlpIdeal.τ).loc Cert.HMlpIdeal.main_v1_1) = v1 c
          ∧ r.2.mem ((c.tc : Thread Cert.HMlpIdeal.nD Cert.HMlpIdeal.τ).loc Cert.HMlpIdeal.main_v1_2) = v2 c
          ∧ r.2.mem ((c.tc : Thread Cert.HMlpIdeal.nD Cert.HMlpIdeal.τ).loc Cert.HMlpIdeal.main_v1_3) = v3 c
          ∧ r.2.mem ((c.tc : Thread Cert.HMlpIdeal.nD Cert.HMlpIdeal.τ).loc Cert.HMlpIdeal.main_arg0) = m ((c.tc : Thread Cert.HMlpIdeal.nD Cert.HMlpIdeal.τ).loc Cert.HMlpIdeal.main_arg0)
          ∧ r.2.mem ((c.tc : Thread Cert.HMlpIdeal.nD Cert.HMlpIdeal.τ).loc Cert.HMlpIdeal.main_arg1) = m ((c.tc : Thread Cert.HMlpIdeal.nD Cert.HMlpIdeal.τ).loc Cert.HMlpIdeal.main_arg1)
          ∧ r.2.mem ((c.tc : Thread Cert.HMlpIdeal.nD Cert.HMlpIdeal.τ).loc Cert.HMlpIdeal.main_arg2) = m ((c.tc : Thread Cert.HMlpIdeal.nD Cert.HMlpIdeal.τ).loc Cert.HMlpIdeal.main_arg2)
          ∧ r.2.mem ((c.tc : Thread Cert.HMlpIdeal.nD Cert.HMlpIdeal.τ).loc Cert.HMlpIdeal.main_arg3) = m ((c.tc : Thread Cert.HMlpIdeal.nD Cert.HMlpIdeal.τ).loc Cert.HMlpIdeal.main_arg3)
          ∧ r.2.mem ((c.tc : Thread Cert.HMlpIdeal.nD Cert.HMlpIdeal.τ).loc Cert.HMlpIdeal.main_arg4) = m ((c.tc : Thread Cert.HMlpIdeal.nD Cert.HMlpIdeal.τ).loc Cert.HMlpIdeal.main_arg4)
          ∧ r.2.mem ((c.tc : Thread Cert.HMlpIdeal.nD Cert.HMlpIdeal.τ).loc Cert.HMlpIdeal.main_arg5) = m ((c.tc : Thread Cert.HMlpIdeal.nD Cert.HMlpIdeal.τ).loc Cert.HMlpIdeal.main_arg5)
          ∧ r.2.mem ((c.tc : Thread Cert.HMlpIdeal.nD Cert.HMlpIdeal.τ).loc Cert.HMlpIdeal.main_arg6) = m ((c.tc : Thread Cert.HMlpIdeal.nD Cert.HMlpIdeal.τ).loc Cert.HMlpIdeal.main_arg6))
      ∧ θ_run (Cert.HMlpRefIdeal.defs (F := Ideal)) (onTc (τ := Cert.HMlpRefIdeal.τ) (Cert.HMlpRefIdeal.main (F := Ideal))) ⟨m', fun _ => 0, g'⟩ (fun r => ∀ c : Dev Cert.HMlpRefIdeal.nD,
          r.2.mem ((c.tc : Thread Cert.HMlpRefIdeal.nD Cert.HMlpRefIdeal.τ).loc Cert.HMlpRefIdeal.main_v60) = v0 c
          ∧ r.2.mem ((c.tc : Thread Cert.HMlpRefIdeal.nD Cert.HMlpRefIdeal.τ).loc Cert.HMlpRefIdeal.main_v82) = v1 c
          ∧ r.2.mem ((c.tc : Thread Cert.HMlpRefIdeal.nD Cert.HMlpRefIdeal.τ).loc Cert.HMlpRefIdeal.main_v83) = v2 c
          ∧ r.2.mem ((c.tc : Thread Cert.HMlpRefIdeal.nD Cert.HMlpRefIdeal.τ).loc Cert.HMlpRefIdeal.main_v84) = v3 c
          ∧ r.2.mem ((c.tc : Thread Cert.HMlpRefIdeal.nD Cert.HMlpRefIdeal.τ).loc Cert.HMlpRefIdeal.main_arg0) = m' ((c.tc : Thread Cert.HMlpRefIdeal.nD Cert.HMlpRefIdeal.τ).loc Cert.HMlpRefIdeal.main_arg0)
          ∧ r.2.mem ((c.tc : Thread Cert.HMlpRefIdeal.nD Cert.HMlpRefIdeal.τ).loc Cert.HMlpRefIdeal.main_arg1) = m' ((c.tc : Thread Cert.HMlpRefIdeal.nD Cert.HMlpRefIdeal.τ).loc Cert.HMlpRefIdeal.main_arg1)
          ∧ r.2.mem ((c.tc : Thread Cert.HMlpRefIdeal.nD Cert.HMlpRefIdeal.τ).loc Cert.HMlpRefIdeal.main_arg2) = m' ((c.tc : Thread Cert.HMlpRefIdeal.nD Cert.HMlpRefIdeal.τ).loc Cert.HMlpRefIdeal.main_arg2)
          ∧ r.2.mem ((c.tc : Thread Cert.HMlpRefIdeal.nD Cert.HMlpRefIdeal.τ).loc Cert.HMlpRefIdeal.main_arg3) = m' ((c.tc : Thread Cert.HMlpRefIdeal.nD Cert.HMlpRefIdeal.τ).loc Cert.HMlpRefIdeal.main_arg3)
          ∧ r.2.mem ((c.tc : Thread Cert.HMlpRefIdeal.nD Cert.HMlpRefIdeal.τ).loc Cert.HMlpRefIdeal.main_arg4) = m' ((c.tc : Thread Cert.HMlpRefIdeal.nD Cert.HMlpRefIdeal.τ).loc Cert.HMlpRefIdeal.main_arg4)
          ∧ r.2.mem ((c.tc : Thread Cert.HMlpRefIdeal.nD Cert.HMlpRefIdeal.τ).loc Cert.HMlpRefIdeal.main_arg5) = m' ((c.tc : Thread Cert.HMlpRefIdeal.nD Cert.HMlpRefIdeal.τ).loc Cert.HMlpRefIdeal.main_arg5)
          ∧ r.2.mem ((c.tc : Thread Cert.HMlpRefIdeal.nD Cert.HMlpRefIdeal.τ).loc Cert.HMlpRefIdeal.main_arg6) = m' ((c.tc : Thread Cert.HMlpRefIdeal.nD Cert.HMlpRefIdeal.τ).loc Cert.HMlpRefIdeal.main_arg6))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)
      ∧ m' ((c.tc : Thread Cert.MlpOutRefIdeal.nD Cert.MlpOutRefIdeal.τ).loc Cert.MlpOutRefIdeal.main_arg4) = m ((c.tc : Thread Cert.MlpOutIdeal.nD Cert.MlpOutIdeal.τ).loc Cert.MlpOutIdeal.main_arg4)) →
    ∃ (v0 : (c : Dev Cert.MlpOutIdeal.nD) → Buf (Elt Ideal) ((c.tc : Thread Cert.MlpOutIdeal.nD Cert.MlpOutIdeal.τ).loc Cert.MlpOutIdeal.main_v0_0)) (v1 : (c : Dev Cert.MlpOutIdeal.nD) → Buf (Elt Ideal) ((c.tc : Thread Cert.MlpOutIdeal.nD Cert.MlpOutIdeal.τ).loc Cert.MlpOutIdeal.main_v0_1)) (v2 : (c : Dev Cert.MlpOutIdeal.nD) → Buf (Elt Ideal) ((c.tc : Thread Cert.MlpOutIdeal.nD Cert.MlpOutIdeal.τ).loc Cert.MlpOutIdeal.main_v0_2)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0_0) = v0 c
          ∧ r.2.mem ((c.tc : Thread Cert.MlpOutIdeal.nD Cert.MlpOutIdeal.τ).loc Cert.MlpOutIdeal.main_v0_1) = v1 c
          ∧ r.2.mem ((c.tc : Thread Cert.MlpOutIdeal.nD Cert.MlpOutIdeal.τ).loc Cert.MlpOutIdeal.main_v0_2) = v2 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v4) = v0 c
          ∧ r.2.mem ((c.tc : Thread Cert.MlpOutRefIdeal.nD Cert.MlpOutRefIdeal.τ).loc Cert.MlpOutRefIdeal.main_v18) = v1 c
          ∧ r.2.mem ((c.tc : Thread Cert.MlpOutRefIdeal.nD Cert.MlpOutRefIdeal.τ).loc Cert.MlpOutRefIdeal.main_v32) = v2 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3)
          ∧ r.2.mem ((c.tc : Thread Cert.MlpOutRefIdeal.nD Cert.MlpOutRefIdeal.τ).loc Cert.MlpOutRefIdeal.main_arg4) = m' ((c.tc : Thread Cert.MlpOutRefIdeal.nD Cert.MlpOutRefIdeal.τ).loc Cert.MlpOutRefIdeal.main_arg4))

def preserves_CdOut_CdOutIdeal : Prop :=
  True

def algebraic_CdOutIdeal_CdOutRefIdeal [hCdOutIdeal : Cert.CdOutIdeal.Facts] [hCdOutRefIdeal : Cert.CdOutRefIdeal.Facts] : Prop :=
  ∀ (m : (ℓ : Loc Cert.CdOutIdeal.nD Cert.CdOutIdeal.τ Cert.CdOutIdeal.sig) → Buf (Elt Ideal) ℓ) (g : Dev Cert.CdOutIdeal.nD → PrngReg)
    (m' : (ℓ : Loc Cert.CdOutRefIdeal.nD Cert.CdOutRefIdeal.τ Cert.CdOutRefIdeal.sig) → Buf (Elt Ideal) ℓ) (g' : Dev Cert.CdOutRefIdeal.nD → PrngReg), Pre_CdOutIdeal m →
    (∀ c : Dev Cert.CdOutIdeal.nD,
      m' ((c.tc : Thread Cert.CdOutRefIdeal.nD Cert.CdOutRefIdeal.τ).loc Cert.CdOutRefIdeal.main_arg0) = m ((c.tc : Thread Cert.CdOutIdeal.nD Cert.CdOutIdeal.τ).loc Cert.CdOutIdeal.main_arg0)
      ∧ m' ((c.tc : Thread Cert.CdOutRefIdeal.nD Cert.CdOutRefIdeal.τ).loc Cert.CdOutRefIdeal.main_arg1) = m ((c.tc : Thread Cert.CdOutIdeal.nD Cert.CdOutIdeal.τ).loc Cert.CdOutIdeal.main_arg1)
      ∧ m' ((c.tc : Thread Cert.CdOutRefIdeal.nD Cert.CdOutRefIdeal.τ).loc Cert.CdOutRefIdeal.main_arg2) = m ((c.tc : Thread Cert.CdOutIdeal.nD Cert.CdOutIdeal.τ).loc Cert.CdOutIdeal.main_arg2)
      ∧ m' ((c.tc : Thread Cert.CdOutRefIdeal.nD Cert.CdOutRefIdeal.τ).loc Cert.CdOutRefIdeal.main_arg3) = m ((c.tc : Thread Cert.CdOutIdeal.nD Cert.CdOutIdeal.τ).loc Cert.CdOutIdeal.main_arg3)
      ∧ m' ((c.tc : Thread Cert.CdOutRefIdeal.nD Cert.CdOutRefIdeal.τ).loc Cert.CdOutRefIdeal.main_arg4) = m ((c.tc : Thread Cert.CdOutIdeal.nD Cert.CdOutIdeal.τ).loc Cert.CdOutIdeal.main_arg4)) →
    ∃ (v0 : (c : Dev Cert.CdOutIdeal.nD) → Buf (Elt Ideal) ((c.tc : Thread Cert.CdOutIdeal.nD Cert.CdOutIdeal.τ).loc Cert.CdOutIdeal.main_v0_0)) (v1 : (c : Dev Cert.CdOutIdeal.nD) → Buf (Elt Ideal) ((c.tc : Thread Cert.CdOutIdeal.nD Cert.CdOutIdeal.τ).loc Cert.CdOutIdeal.main_v0_1)) (v2 : (c : Dev Cert.CdOutIdeal.nD) → Buf (Elt Ideal) ((c.tc : Thread Cert.CdOutIdeal.nD Cert.CdOutIdeal.τ).loc Cert.CdOutIdeal.main_v0_2)),
      θ_run (Cert.CdOutIdeal.defs (F := Ideal)) (onTc (τ := Cert.CdOutIdeal.τ) (Cert.CdOutIdeal.main (F := Ideal))) ⟨m, fun _ => 0, g⟩ (fun r => ∀ c : Dev Cert.CdOutIdeal.nD,
          r.2.mem ((c.tc : Thread Cert.CdOutIdeal.nD Cert.CdOutIdeal.τ).loc Cert.CdOutIdeal.main_v0_0) = v0 c
          ∧ r.2.mem ((c.tc : Thread Cert.CdOutIdeal.nD Cert.CdOutIdeal.τ).loc Cert.CdOutIdeal.main_v0_1) = v1 c
          ∧ r.2.mem ((c.tc : Thread Cert.CdOutIdeal.nD Cert.CdOutIdeal.τ).loc Cert.CdOutIdeal.main_v0_2) = v2 c
          ∧ r.2.mem ((c.tc : Thread Cert.CdOutIdeal.nD Cert.CdOutIdeal.τ).loc Cert.CdOutIdeal.main_arg0) = m ((c.tc : Thread Cert.CdOutIdeal.nD Cert.CdOutIdeal.τ).loc Cert.CdOutIdeal.main_arg0)
          ∧ r.2.mem ((c.tc : Thread Cert.CdOutIdeal.nD Cert.CdOutIdeal.τ).loc Cert.CdOutIdeal.main_arg1) = m ((c.tc : Thread Cert.CdOutIdeal.nD Cert.CdOutIdeal.τ).loc Cert.CdOutIdeal.main_arg1)
          ∧ r.2.mem ((c.tc : Thread Cert.CdOutIdeal.nD Cert.CdOutIdeal.τ).loc Cert.CdOutIdeal.main_arg2) = m ((c.tc : Thread Cert.CdOutIdeal.nD Cert.CdOutIdeal.τ).loc Cert.CdOutIdeal.main_arg2)
          ∧ r.2.mem ((c.tc : Thread Cert.CdOutIdeal.nD Cert.CdOutIdeal.τ).loc Cert.CdOutIdeal.main_arg3) = m ((c.tc : Thread Cert.CdOutIdeal.nD Cert.CdOutIdeal.τ).loc Cert.CdOutIdeal.main_arg3)
          ∧ r.2.mem ((c.tc : Thread Cert.CdOutIdeal.nD Cert.CdOutIdeal.τ).loc Cert.CdOutIdeal.main_arg4) = m ((c.tc : Thread Cert.CdOutIdeal.nD Cert.CdOutIdeal.τ).loc Cert.CdOutIdeal.main_arg4))
      ∧ θ_run (Cert.CdOutRefIdeal.defs (F := Ideal)) (onTc (τ := Cert.CdOutRefIdeal.τ) (Cert.CdOutRefIdeal.main (F := Ideal))) ⟨m', fun _ => 0, g'⟩ (fun r => ∀ c : Dev Cert.CdOutRefIdeal.nD,
          r.2.mem ((c.tc : Thread Cert.CdOutRefIdeal.nD Cert.CdOutRefIdeal.τ).loc Cert.CdOutRefIdeal.main_v4) = v0 c
          ∧ r.2.mem ((c.tc : Thread Cert.CdOutRefIdeal.nD Cert.CdOutRefIdeal.τ).loc Cert.CdOutRefIdeal.main_v18) = v1 c
          ∧ r.2.mem ((c.tc : Thread Cert.CdOutRefIdeal.nD Cert.CdOutRefIdeal.τ).loc Cert.CdOutRefIdeal.main_v32) = v2 c
          ∧ r.2.mem ((c.tc : Thread Cert.CdOutRefIdeal.nD Cert.CdOutRefIdeal.τ).loc Cert.CdOutRefIdeal.main_arg0) = m' ((c.tc : Thread Cert.CdOutRefIdeal.nD Cert.CdOutRefIdeal.τ).loc Cert.CdOutRefIdeal.main_arg0)
          ∧ r.2.mem ((c.tc : Thread Cert.CdOutRefIdeal.nD Cert.CdOutRefIdeal.τ).loc Cert.CdOutRefIdeal.main_arg1) = m' ((c.tc : Thread Cert.CdOutRefIdeal.nD Cert.CdOutRefIdeal.τ).loc Cert.CdOutRefIdeal.main_arg1)
          ∧ r.2.mem ((c.tc : Thread Cert.CdOutRefIdeal.nD Cert.CdOutRefIdeal.τ).loc Cert.CdOutRefIdeal.main_arg2) = m' ((c.tc : Thread Cert.CdOutRefIdeal.nD Cert.CdOutRefIdeal.τ).loc Cert.CdOutRefIdeal.main_arg2)
          ∧ r.2.mem ((c.tc : Thread Cert.CdOutRefIdeal.nD Cert.CdOutRefIdeal.τ).loc Cert.CdOutRefIdeal.main_arg3) = m' ((c.tc : Thread Cert.CdOutRefIdeal.nD Cert.CdOutRefIdeal.τ).loc Cert.CdOutRefIdeal.main_arg3)
          ∧ r.2.mem ((c.tc : Thread Cert.CdOutRefIdeal.nD Cert.CdOutRefIdeal.τ).loc Cert.CdOutRefIdeal.main_arg4) = m' ((c.tc : Thread Cert.CdOutRefIdeal.nD Cert.CdOutRefIdeal.τ).loc Cert.CdOutRefIdeal.main_arg4))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v0_0)) (v1 : (c : Dev Cert.AttnOutIdeal.nD) → Buf (Elt Ideal) ((c.tc : Thread Cert.AttnOutIdeal.nD Cert.AttnOutIdeal.τ).loc Cert.AttnOutIdeal.main_v0_1)) (v2 : (c : Dev Cert.AttnOutIdeal.nD) → Buf (Elt Ideal) ((c.tc : Thread Cert.AttnOutIdeal.nD Cert.AttnOutIdeal.τ).loc Cert.AttnOutIdeal.main_v0_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0_0) = v0 c
          ∧ r.2.mem ((c.tc : Thread Cert.AttnOutIdeal.nD Cert.AttnOutIdeal.τ).loc Cert.AttnOutIdeal.main_v0_1) = v1 c
          ∧ r.2.mem ((c.tc : Thread Cert.AttnOutIdeal.nD Cert.AttnOutIdeal.τ).loc Cert.AttnOutIdeal.main_v0_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v4) = v0 c
          ∧ r.2.mem ((c.tc : Thread Cert.AttnOutRefIdeal.nD Cert.AttnOutRefIdeal.τ).loc Cert.AttnOutRefIdeal.main_v18) = v1 c
          ∧ r.2.mem ((c.tc : Thread Cert.AttnOutRefIdeal.nD Cert.AttnOutRefIdeal.τ).loc Cert.AttnOutRefIdeal.main_v32) = v2 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)) →
    ∃ (v0 : (c : Dev Cert.AbOutIdeal.nD) → Buf (Elt Ideal) ((c.tc : Thread Cert.AbOutIdeal.nD Cert.AbOutIdeal.τ).loc Cert.AbOutIdeal.main_v0_0)) (v1 : (c : Dev Cert.AbOutIdeal.nD) → Buf (Elt Ideal) ((c.tc : Thread Cert.AbOutIdeal.nD Cert.AbOutIdeal.τ).loc Cert.AbOutIdeal.main_v0_1)) (v2 : (c : Dev Cert.AbOutIdeal.nD) → Buf (Elt Ideal) ((c.tc : Thread Cert.AbOutIdeal.nD Cert.AbOutIdeal.τ).loc Cert.AbOutIdeal.main_v0_2)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0_0) = v0 c
          ∧ r.2.mem ((c.tc : Thread Cert.AbOutIdeal.nD Cert.AbOutIdeal.τ).loc Cert.AbOutIdeal.main_v0_1) = v1 c
          ∧ r.2.mem ((c.tc : Thread Cert.AbOutIdeal.nD Cert.AbOutIdeal.τ).loc Cert.AbOutIdeal.main_v0_2) = v2 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v4) = v0 c
          ∧ r.2.mem ((c.tc : Thread Cert.AbOutRefIdeal.nD Cert.AbOutRefIdeal.τ).loc Cert.AbOutRefIdeal.main_v18) = v1 c
          ∧ r.2.mem ((c.tc : Thread Cert.AbOutRefIdeal.nD Cert.AbOutRefIdeal.τ).loc Cert.AbOutRefIdeal.main_v32) = v2 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4))

def preserves_AbMix_AbMixIdeal : Prop :=
  True

def algebraic_AbMixIdeal_AbMixRefIdeal [hAbMixIdeal : Cert.AbMixIdeal.Facts] [hAbMixRefIdeal : Cert.AbMixRefIdeal.Facts] : Prop :=
  ∀ (m : (ℓ : Loc Cert.AbMixIdeal.nD Cert.AbMixIdeal.τ Cert.AbMixIdeal.sig) → Buf (Elt Ideal) ℓ) (g : Dev Cert.AbMixIdeal.nD → PrngReg)
    (m' : (ℓ : Loc Cert.AbMixRefIdeal.nD Cert.AbMixRefIdeal.τ Cert.AbMixRefIdeal.sig) → Buf (Elt Ideal) ℓ) (g' : Dev Cert.AbMixRefIdeal.nD → PrngReg), Pre_AbMixIdeal m →
    (∀ c : Dev Cert.AbMixIdeal.nD,
      m' ((c.tc : Thread Cert.AbMixRefIdeal.nD Cert.AbMixRefIdeal.τ).loc Cert.AbMixRefIdeal.main_arg0) = m ((c.tc : Thread Cert.AbMixIdeal.nD Cert.AbMixIdeal.τ).loc Cert.AbMixIdeal.main_arg0)
      ∧ m' ((c.tc : Thread Cert.AbMixRefIdeal.nD Cert.AbMixRefIdeal.τ).loc Cert.AbMixRefIdeal.main_arg1) = m ((c.tc : Thread Cert.AbMixIdeal.nD Cert.AbMixIdeal.τ).loc Cert.AbMixIdeal.main_arg1)) →
    ∃ (v0 : (c : Dev Cert.AbMixIdeal.nD) → Buf (Elt Ideal) ((c.tc : Thread Cert.AbMixIdeal.nD Cert.AbMixIdeal.τ).loc Cert.AbMixIdeal.main_v0)),
      θ_run (Cert.AbMixIdeal.defs (F := Ideal)) (onTc (τ := Cert.AbMixIdeal.τ) (Cert.AbMixIdeal.main (F := Ideal))) ⟨m, fun _ => 0, g⟩ (fun r => ∀ c : Dev Cert.AbMixIdeal.nD,
          r.2.mem ((c.tc : Thread Cert.AbMixIdeal.nD Cert.AbMixIdeal.τ).loc Cert.AbMixIdeal.main_v0) = v0 c
          ∧ r.2.mem ((c.tc : Thread Cert.AbMixIdeal.nD Cert.AbMixIdeal.τ).loc Cert.AbMixIdeal.main_arg0) = m ((c.tc : Thread Cert.AbMixIdeal.nD Cert.AbMixIdeal.τ).loc Cert.AbMixIdeal.main_arg0)
          ∧ r.2.mem ((c.tc : Thread Cert.AbMixIdeal.nD Cert.AbMixIdeal.τ).loc Cert.AbMixIdeal.main_arg1) = m ((c.tc : Thread Cert.AbMixIdeal.nD Cert.AbMixIdeal.τ).loc Cert.AbMixIdeal.main_arg1))
      ∧ θ_run (Cert.AbMixRefIdeal.defs (F := Ideal)) (onTc (τ := Cert.AbMixRefIdeal.τ) (Cert.AbMixRefIdeal.main (F := Ideal))) ⟨m', fun _ => 0, g'⟩ (fun r => ∀ c : Dev Cert.AbMixRefIdeal.nD,
          r.2.mem ((c.tc : Thread Cert.AbMixRefIdeal.nD Cert.AbMixRefIdeal.τ).loc Cert.AbMixRefIdeal.main_v4) = v0 c
          ∧ r.2.mem ((c.tc : Thread Cert.AbMixRefIdeal.nD Cert.AbMixRefIdeal.τ).loc Cert.AbMixRefIdeal.main_arg0) = m' ((c.tc : Thread Cert.AbMixRefIdeal.nD Cert.AbMixRefIdeal.τ).loc Cert.AbMixRefIdeal.main_arg0)
          ∧ r.2.mem ((c.tc : Thread Cert.AbMixRefIdeal.nD Cert.AbMixRefIdeal.τ).loc Cert.AbMixRefIdeal.main_arg1) = m' ((c.tc : Thread Cert.AbMixRefIdeal.nD Cert.AbMixRefIdeal.τ).loc Cert.AbMixRefIdeal.main_arg1))

def preserves_AbW_AbWIdeal : Prop :=
  True

def algebraic_AbWIdeal_AbWRefIdeal [hAbWIdeal : Cert.AbWIdeal.Facts] [hAbWRefIdeal : Cert.AbWRefIdeal.Facts] : Prop :=
  ∀ (m : (ℓ : Loc Cert.AbWIdeal.nD Cert.AbWIdeal.τ Cert.AbWIdeal.sig) → Buf (Elt Ideal) ℓ) (g : Dev Cert.AbWIdeal.nD → PrngReg)
    (m' : (ℓ : Loc Cert.AbWRefIdeal.nD Cert.AbWRefIdeal.τ Cert.AbWRefIdeal.sig) → Buf (Elt Ideal) ℓ) (g' : Dev Cert.AbWRefIdeal.nD → PrngReg), Pre_AbWIdeal m →
    (∀ c : Dev Cert.AbWIdeal.nD,
      m' ((c.tc : Thread Cert.AbWRefIdeal.nD Cert.AbWRefIdeal.τ).loc Cert.AbWRefIdeal.main_arg0) = m ((c.tc : Thread Cert.AbWIdeal.nD Cert.AbWIdeal.τ).loc Cert.AbWIdeal.main_arg0)
      ∧ m' ((c.tc : Thread Cert.AbWRefIdeal.nD Cert.AbWRefIdeal.τ).loc Cert.AbWRefIdeal.main_arg1) = m ((c.tc : Thread Cert.AbWIdeal.nD Cert.AbWIdeal.τ).loc Cert.AbWIdeal.main_arg1)) →
    ∃ (v0 : (c : Dev Cert.AbWIdeal.nD) → Buf (Elt Ideal) ((c.tc : Thread Cert.AbWIdeal.nD Cert.AbWIdeal.τ).loc Cert.AbWIdeal.main_v0)),
      θ_run (Cert.AbWIdeal.defs (F := Ideal)) (onTc (τ := Cert.AbWIdeal.τ) (Cert.AbWIdeal.main (F := Ideal))) ⟨m, fun _ => 0, g⟩ (fun r => ∀ c : Dev Cert.AbWIdeal.nD,
          r.2.mem ((c.tc : Thread Cert.AbWIdeal.nD Cert.AbWIdeal.τ).loc Cert.AbWIdeal.main_v0) = v0 c
          ∧ r.2.mem ((c.tc : Thread Cert.AbWIdeal.nD Cert.AbWIdeal.τ).loc Cert.AbWIdeal.main_arg0) = m ((c.tc : Thread Cert.AbWIdeal.nD Cert.AbWIdeal.τ).loc Cert.AbWIdeal.main_arg0)
          ∧ r.2.mem ((c.tc : Thread Cert.AbWIdeal.nD Cert.AbWIdeal.τ).loc Cert.AbWIdeal.main_arg1) = m ((c.tc : Thread Cert.AbWIdeal.nD Cert.AbWIdeal.τ).loc Cert.AbWIdeal.main_arg1))
      ∧ θ_run (Cert.AbWRefIdeal.defs (F := Ideal)) (onTc (τ := Cert.AbWRefIdeal.τ) (Cert.AbWRefIdeal.main (F := Ideal))) ⟨m', fun _ => 0, g'⟩ (fun r => ∀ c : Dev Cert.AbWRefIdeal.nD,
          r.2.mem ((c.tc : Thread Cert.AbWRefIdeal.nD Cert.AbWRefIdeal.τ).loc Cert.AbWRefIdeal.main_v6) = v0 c
          ∧ r.2.mem ((c.tc : Thread Cert.AbWRefIdeal.nD Cert.AbWRefIdeal.τ).loc Cert.AbWRefIdeal.main_arg0) = m' ((c.tc : Thread Cert.AbWRefIdeal.nD Cert.AbWRefIdeal.τ).loc Cert.AbWRefIdeal.main_arg0)
          ∧ r.2.mem ((c.tc : Thread Cert.AbWRefIdeal.nD Cert.AbWRefIdeal.τ).loc Cert.AbWRefIdeal.main_arg1) = m' ((c.tc : Thread Cert.AbWRefIdeal.nD Cert.AbWRefIdeal.τ).loc Cert.AbWRefIdeal.main_arg1))

def preserves_AbInW_AbInWIdeal : Prop :=
  True

def algebraic_AbInWIdeal_AbInWRefIdeal [hAbInWIdeal : Cert.AbInWIdeal.Facts] [hAbInWRefIdeal : Cert.AbInWRefIdeal.Facts] : Prop :=
  ∀ (m : (ℓ : Loc Cert.AbInWIdeal.nD Cert.AbInWIdeal.τ Cert.AbInWIdeal.sig) → Buf (Elt Ideal) ℓ) (g : Dev Cert.AbInWIdeal.nD → PrngReg)
    (m' : (ℓ : Loc Cert.AbInWRefIdeal.nD Cert.AbInWRefIdeal.τ Cert.AbInWRefIdeal.sig) → Buf (Elt Ideal) ℓ) (g' : Dev Cert.AbInWRefIdeal.nD → PrngReg), Pre_AbInWIdeal m →
    (∀ c : Dev Cert.AbInWIdeal.nD,
      m' ((c.tc : Thread Cert.AbInWRefIdeal.nD Cert.AbInWRefIdeal.τ).loc Cert.AbInWRefIdeal.main_arg0) = m ((c.tc : Thread Cert.AbInWIdeal.nD Cert.AbInWIdeal.τ).loc Cert.AbInWIdeal.main_arg0)
      ∧ m' ((c.tc : Thread Cert.AbInWRefIdeal.nD Cert.AbInWRefIdeal.τ).loc Cert.AbInWRefIdeal.main_arg1) = m ((c.tc : Thread Cert.AbInWIdeal.nD Cert.AbInWIdeal.τ).loc Cert.AbInWIdeal.main_arg1)) →
    ∃ (v0 : (c : Dev Cert.AbInWIdeal.nD) → Buf (Elt Ideal) ((c.tc : Thread Cert.AbInWIdeal.nD Cert.AbInWIdeal.τ).loc Cert.AbInWIdeal.main_v0)),
      θ_run (Cert.AbInWIdeal.defs (F := Ideal)) (onTc (τ := Cert.AbInWIdeal.τ) (Cert.AbInWIdeal.main (F := Ideal))) ⟨m, fun _ => 0, g⟩ (fun r => ∀ c : Dev Cert.AbInWIdeal.nD,
          r.2.mem ((c.tc : Thread Cert.AbInWIdeal.nD Cert.AbInWIdeal.τ).loc Cert.AbInWIdeal.main_v0) = v0 c
          ∧ r.2.mem ((c.tc : Thread Cert.AbInWIdeal.nD Cert.AbInWIdeal.τ).loc Cert.AbInWIdeal.main_arg0) = m ((c.tc : Thread Cert.AbInWIdeal.nD Cert.AbInWIdeal.τ).loc Cert.AbInWIdeal.main_arg0)
          ∧ r.2.mem ((c.tc : Thread Cert.AbInWIdeal.nD Cert.AbInWIdeal.τ).loc Cert.AbInWIdeal.main_arg1) = m ((c.tc : Thread Cert.AbInWIdeal.nD Cert.AbInWIdeal.τ).loc Cert.AbInWIdeal.main_arg1))
      ∧ θ_run (Cert.AbInWRefIdeal.defs (F := Ideal)) (onTc (τ := Cert.AbInWRefIdeal.τ) (Cert.AbInWRefIdeal.main (F := Ideal))) ⟨m', fun _ => 0, g'⟩ (fun r => ∀ c : Dev Cert.AbInWRefIdeal.nD,
          r.2.mem ((c.tc : Thread Cert.AbInWRefIdeal.nD Cert.AbInWRefIdeal.τ).loc Cert.AbInWRefIdeal.main_v7) = v0 c
          ∧ r.2.mem ((c.tc : Thread Cert.AbInWRefIdeal.nD Cert.AbInWRefIdeal.τ).loc Cert.AbInWRefIdeal.main_arg0) = m' ((c.tc : Thread Cert.AbInWRefIdeal.nD Cert.AbInWRefIdeal.τ).loc Cert.AbInWRefIdeal.main_arg0)
          ∧ r.2.mem ((c.tc : Thread Cert.AbInWRefIdeal.nD Cert.AbInWRefIdeal.τ).loc Cert.AbInWRefIdeal.main_arg1) = m' ((c.tc : Thread Cert.AbInWRefIdeal.nD Cert.AbInWRefIdeal.τ).loc Cert.AbInWRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v1)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v1) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v6) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v14) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v1)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v1) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def Claim : Prop :=
  ∃ (hConvBwd : Cert.ConvBwd.Facts) (hConvBwdIdeal : Cert.ConvBwdIdeal.Facts) (hConvRefIdeal : Cert.ConvRefIdeal.Facts) (hNormBwd : Cert.NormBwd.Facts) (hNormBwdIdeal : Cert.NormBwdIdeal.Facts) (hNormRefIdeal : Cert.NormRefIdeal.Facts) (hMlpW : Cert.MlpW.Facts) (hMlpWIdeal : Cert.MlpWIdeal.Facts) (hMlpWRefIdeal : Cert.MlpWRefIdeal.Facts) (hMlpR : Cert.MlpR.Facts) (hMlpRIdeal : Cert.MlpRIdeal.Facts) (hMlpRRefIdeal : Cert.MlpRRefIdeal.Facts) (hMlpFwd : Cert.MlpFwd.Facts) (hMlpFwdIdeal : Cert.MlpFwdIdeal.Facts) (hMlpFwdRefIdeal : Cert.MlpFwdRefIdeal.Facts) (hCdInW : Cert.CdInW.Facts) (hCdInWIdeal : Cert.CdInWIdeal.Facts) (hCdInWRefIdeal : Cert.CdInWRefIdeal.Facts) (hCdIn : Cert.CdIn.Facts) (hCdInIdeal : Cert.CdInIdeal.Facts) (hCdInRefIdeal : Cert.CdInRefIdeal.Facts) (hAttnO : Cert.AttnO.Facts) (hAttnOIdeal : Cert.AttnOIdeal.Facts) (hAttnORefIdeal : Cert.AttnORefIdeal.Facts) (hAttnQ : Cert.AttnQ.Facts) (hAttnQIdeal : Cert.AttnQIdeal.Facts) (hAttnQRefIdeal : Cert.AttnQRefIdeal.Facts) (hMixOut : Cert.MixOut.Facts) (hMixOutIdeal : Cert.MixOutIdeal.Facts) (hMixOutRefIdeal : Cert.MixOutRefIdeal.Facts) (hAttnW : Cert.AttnW.Facts) (hAttnWIdeal : Cert.AttnWIdeal.Facts) (hAttnWRefIdeal : Cert.AttnWRefIdeal.Facts) (hMixW : Cert.MixW.Facts) (hMixWIdeal : Cert.MixWIdeal.Facts) (hMixWRefIdeal : Cert.MixWRefIdeal.Facts) (hHMlp : Cert.HMlp.Facts) (hHMlpIdeal : Cert.HMlpIdeal.Facts) (hHMlpRefIdeal : Cert.HMlpRefIdeal.Facts) (hMlpOut : Cert.MlpOut.Facts) (hMlpOutIdeal : Cert.MlpOutIdeal.Facts) (hMlpOutRefIdeal : Cert.MlpOutRefIdeal.Facts) (hCdOut : Cert.CdOut.Facts) (hCdOutIdeal : Cert.CdOutIdeal.Facts) (hCdOutRefIdeal : Cert.CdOutRefIdeal.Facts) (hAttnOut : Cert.AttnOut.Facts) (hAttnOutIdeal : Cert.AttnOutIdeal.Facts) (hAttnOutRefIdeal : Cert.AttnOutRefIdeal.Facts) (hAbOut : Cert.AbOut.Facts) (hAbOutIdeal : Cert.AbOutIdeal.Facts) (hAbOutRefIdeal : Cert.AbOutRefIdeal.Facts) (hAbMix : Cert.AbMix.Facts) (hAbMixIdeal : Cert.AbMixIdeal.Facts) (hAbMixRefIdeal : Cert.AbMixRefIdeal.Facts) (hAbW : Cert.AbW.Facts) (hAbWIdeal : Cert.AbWIdeal.Facts) (hAbWRefIdeal : Cert.AbWRefIdeal.Facts) (hAbInW : Cert.AbInW.Facts) (hAbInWIdeal : Cert.AbInWIdeal.Facts) (hAbInWRefIdeal : Cert.AbInWRefIdeal.Facts) (hKv : Cert.Kv.Facts) (hKvIdeal : Cert.KvIdeal.Facts) (hKvRefIdeal : Cert.KvRefIdeal.Facts) (hKvW : Cert.KvW.Facts) (hKvWIdeal : Cert.KvWIdeal.Facts) (hKvWRefIdeal : Cert.KvWRefIdeal.Facts) (hNormIn : Cert.NormIn.Facts) (hNormInIdeal : Cert.NormInIdeal.Facts) (hNormInRefIdeal : Cert.NormInRefIdeal.Facts) (hAbIn : Cert.AbIn.Facts) (hAbInIdeal : Cert.AbInIdeal.Facts) (hAbInRefIdeal : Cert.AbInRefIdeal.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_NormBwd (hNormBwd := hNormBwd)
    ∧ quiescent_NormBwdIdeal (hNormBwdIdeal := hNormBwdIdeal)
    ∧ quiescent_NormRefIdeal (hNormRefIdeal := hNormRefIdeal)
    ∧ quiescent_MlpW (hMlpW := hMlpW)
    ∧ quiescent_MlpWIdeal (hMlpWIdeal := hMlpWIdeal)
    ∧ quiescent_MlpWRefIdeal (hMlpWRefIdeal := hMlpWRefIdeal)
    ∧ quiescent_MlpR (hMlpR := hMlpR)
    ∧ quiescent_MlpRIdeal (hMlpRIdeal := hMlpRIdeal)
    ∧ quiescent_MlpRRefIdeal (hMlpRRefIdeal := hMlpRRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_CdInW (hCdInW := hCdInW)
    ∧ quiescent_CdInWIdeal (hCdInWIdeal := hCdInWIdeal)
    ∧ quiescent_CdInWRefIdeal (hCdInWRefIdeal := hCdInWRefIdeal)
    ∧ quiescent_CdIn (hCdIn := hCdIn)
    ∧ quiescent_CdInIdeal (hCdInIdeal := hCdInIdeal)
    ∧ quiescent_CdInRefIdeal (hCdInRefIdeal := hCdInRefIdeal)
    ∧ quiescent_AttnO (hAttnO := hAttnO)
    ∧ quiescent_AttnOIdeal (hAttnOIdeal := hAttnOIdeal)
    ∧ quiescent_AttnORefIdeal (hAttnORefIdeal := hAttnORefIdeal)
    ∧ quiescent_AttnQ (hAttnQ := hAttnQ)
    ∧ quiescent_AttnQIdeal (hAttnQIdeal := hAttnQIdeal)
    ∧ quiescent_AttnQRefIdeal (hAttnQRefIdeal := hAttnQRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_AttnW (hAttnW := hAttnW)
    ∧ quiescent_AttnWIdeal (hAttnWIdeal := hAttnWIdeal)
    ∧ quiescent_AttnWRefIdeal (hAttnWRefIdeal := hAttnWRefIdeal)
    ∧ quiescent_MixW (hMixW := hMixW)
    ∧ quiescent_MixWIdeal (hMixWIdeal := hMixWIdeal)
    ∧ quiescent_MixWRefIdeal (hMixWRefIdeal := hMixWRefIdeal)
    ∧ quiescent_HMlp (hHMlp := hHMlp)
    ∧ quiescent_HMlpIdeal (hHMlpIdeal := hHMlpIdeal)
    ∧ quiescent_HMlpRefIdeal (hHMlpRefIdeal := hHMlpRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_CdOut (hCdOut := hCdOut)
    ∧ quiescent_CdOutIdeal (hCdOutIdeal := hCdOutIdeal)
    ∧ quiescent_CdOutRefIdeal (hCdOutRefIdeal := hCdOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_AbMix (hAbMix := hAbMix)
    ∧ quiescent_AbMixIdeal (hAbMixIdeal := hAbMixIdeal)
    ∧ quiescent_AbMixRefIdeal (hAbMixRefIdeal := hAbMixRefIdeal)
    ∧ quiescent_AbW (hAbW := hAbW)
    ∧ quiescent_AbWIdeal (hAbWIdeal := hAbWIdeal)
    ∧ quiescent_AbWRefIdeal (hAbWRefIdeal := hAbWRefIdeal)
    ∧ quiescent_AbInW (hAbInW := hAbInW)
    ∧ quiescent_AbInWIdeal (hAbInWIdeal := hAbInWIdeal)
    ∧ quiescent_AbInWRefIdeal (hAbInWRefIdeal := hAbInWRefIdeal)
    ∧ quiescent_Kv (hKv := hKv)
    ∧ quiescent_KvIdeal (hKvIdeal := hKvIdeal)
    ∧ quiescent_KvRefIdeal (hKvRefIdeal := hKvRefIdeal)
    ∧ quiescent_KvW (hKvW := hKvW)
    ∧ quiescent_KvWIdeal (hKvWIdeal := hKvWIdeal)
    ∧ quiescent_KvWRefIdeal (hKvWRefIdeal := hKvWRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_AbIn (hAbIn := hAbIn)
    ∧ quiescent_AbInIdeal (hAbInIdeal := hAbInIdeal)
    ∧ quiescent_AbInRefIdeal (hAbInRefIdeal := hAbInRefIdeal)
    ∧ preserves_ConvBwd_ConvBwdIdeal
    ∧ algebraic_ConvBwdIdeal_ConvRefIdeal (hConvBwdIdeal := hConvBwdIdeal) (hConvRefIdeal := hConvRefIdeal)
    ∧ preserves_NormBwd_NormBwdIdeal
    ∧ algebraic_NormBwdIdeal_NormRefIdeal (hNormBwdIdeal := hNormBwdIdeal) (hNormRefIdeal := hNormRefIdeal)
    ∧ preserves_MlpW_MlpWIdeal
    ∧ algebraic_MlpWIdeal_MlpWRefIdeal (hMlpWIdeal := hMlpWIdeal) (hMlpWRefIdeal := hMlpWRefIdeal)
    ∧ preserves_MlpR_MlpRIdeal
    ∧ algebraic_MlpRIdeal_MlpRRefIdeal (hMlpRIdeal := hMlpRIdeal) (hMlpRRefIdeal := hMlpRRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_CdInW_CdInWIdeal
    ∧ algebraic_CdInWIdeal_CdInWRefIdeal (hCdInWIdeal := hCdInWIdeal) (hCdInWRefIdeal := hCdInWRefIdeal)
    ∧ preserves_CdIn_CdInIdeal
    ∧ algebraic_CdInIdeal_CdInRefIdeal (hCdInIdeal := hCdInIdeal) (hCdInRefIdeal := hCdInRefIdeal)
    ∧ preserves_AttnO_AttnOIdeal
    ∧ algebraic_AttnOIdeal_AttnORefIdeal (hAttnOIdeal := hAttnOIdeal) (hAttnORefIdeal := hAttnORefIdeal)
    ∧ preserves_AttnQ_AttnQIdeal
    ∧ algebraic_AttnQIdeal_AttnQRefIdeal (hAttnQIdeal := hAttnQIdeal) (hAttnQRefIdeal := hAttnQRefIdeal)
    ∧ preserves_MixOut_MixOutIdeal
    ∧ algebraic_MixOutIdeal_MixOutRefIdeal (hMixOutIdeal := hMixOutIdeal) (hMixOutRefIdeal := hMixOutRefIdeal)
    ∧ preserves_AttnW_AttnWIdeal
    ∧ algebraic_AttnWIdeal_AttnWRefIdeal (hAttnWIdeal := hAttnWIdeal) (hAttnWRefIdeal := hAttnWRefIdeal)
    ∧ preserves_MixW_MixWIdeal
    ∧ algebraic_MixWIdeal_MixWRefIdeal (hMixWIdeal := hMixWIdeal) (hMixWRefIdeal := hMixWRefIdeal)
    ∧ preserves_HMlp_HMlpIdeal
    ∧ algebraic_HMlpIdeal_HMlpRefIdeal (hHMlpIdeal := hHMlpIdeal) (hHMlpRefIdeal := hHMlpRefIdeal)
    ∧ preserves_MlpOut_MlpOutIdeal
    ∧ algebraic_MlpOutIdeal_MlpOutRefIdeal (hMlpOutIdeal := hMlpOutIdeal) (hMlpOutRefIdeal := hMlpOutRefIdeal)
    ∧ preserves_CdOut_CdOutIdeal
    ∧ algebraic_CdOutIdeal_CdOutRefIdeal (hCdOutIdeal := hCdOutIdeal) (hCdOutRefIdeal := hCdOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AbOut_AbOutIdeal
    ∧ algebraic_AbOutIdeal_AbOutRefIdeal (hAbOutIdeal := hAbOutIdeal) (hAbOutRefIdeal := hAbOutRefIdeal)
    ∧ preserves_AbMix_AbMixIdeal
    ∧ algebraic_AbMixIdeal_AbMixRefIdeal (hAbMixIdeal := hAbMixIdeal) (hAbMixRefIdeal := hAbMixRefIdeal)
    ∧ preserves_AbW_AbWIdeal
    ∧ algebraic_AbWIdeal_AbWRefIdeal (hAbWIdeal := hAbWIdeal) (hAbWRefIdeal := hAbWRefIdeal)
    ∧ preserves_AbInW_AbInWIdeal
    ∧ algebraic_AbInWIdeal_AbInWRefIdeal (hAbInWIdeal := hAbInWIdeal) (hAbInWRefIdeal := hAbInWRefIdeal)
    ∧ preserves_Kv_KvIdeal
    ∧ algebraic_KvIdeal_KvRefIdeal (hKvIdeal := hKvIdeal) (hKvRefIdeal := hKvRefIdeal)
    ∧ preserves_KvW_KvWIdeal
    ∧ algebraic_KvWIdeal_KvWRefIdeal (hKvWIdeal := hKvWIdeal) (hKvWRefIdeal := hKvWRefIdeal)
    ∧ preserves_NormIn_NormInIdeal
    ∧ algebraic_NormInIdeal_NormInRefIdeal (hNormInIdeal := hNormInIdeal) (hNormInRefIdeal := hNormInRefIdeal)
    ∧ preserves_AbIn_AbInIdeal
    ∧ algebraic_AbInIdeal_AbInRefIdeal (hAbInIdeal := hAbInIdeal) (hAbInRefIdeal := hAbInRefIdeal)
-- ==== ConvBwd.lean ====
abbrev S4096x5120 : Shape := ⟨2, ![4096, 5120]⟩
abbrev S1x31x1024 : Shape := ⟨3, ![1, 31, 1024]⟩
abbrev S1x1024 : Shape := ⟨2, ![1, 1024]⟩
abbrev S1x3x1024 : Shape := ⟨3, ![1, 3, 1024]⟩
abbrev S4096x1024 : Shape := ⟨2, ![4096, 1024]⟩
abbrev S4096x2048 : Shape := ⟨2, ![4096, 2048]⟩
abbrev S4096x5x8x128 : Shape := ⟨4, ![4096, 5, 8, 128]⟩
abbrev S4096x8x5x128 : Shape := ⟨4, ![4096, 8, 5, 128]⟩
abbrev S31x1024 : Shape := ⟨2, ![31, 1024]⟩
abbrev S3x1024 : Shape := ⟨2, ![3, 1024]⟩
abbrev S2048x640 : Shape := ⟨2, ![2048, 640]⟩
abbrev S31x128 : Shape := ⟨2, ![31, 128]⟩
abbrev S1x128 : Shape := ⟨2, ![1, 128]⟩
abbrev S3x128 : Shape := ⟨2, ![3, 128]⟩
abbrev S2048x128 : Shape := ⟨2, ![2048, 128]⟩
abbrev S8x128 : Shape := ⟨2, ![8, 128]⟩
abbrev S2056x128 : Shape := ⟨2, ![2056, 128]⟩
abbrev S128 : Shape := ⟨1, ![128]⟩
abbrev S32x128 : Shape := ⟨2, ![32, 128]⟩
abbrev S2080x128 : Shape := ⟨2, ![2080, 128]⟩
abbrev S2048x512 : Shape := ⟨2, ![2048, 512]⟩
abbrev S2048x384 : Shape := ⟨2, ![2048, 384]⟩
abbrev S2048x256 : Shape := ⟨2, ![2048, 256]⟩

abbrev nBuf : Space → Nat
  | .hbm => 15
  | .vmem => 20
  | .smem => 0
  | _ => 0

abbrev bufTy : (tb : Table) → Fin (tcTables nBuf tb) → BufTy
  | .hbm, ⟨0, _⟩ => ⟨S4096x5120, .f32⟩
  | .hbm, ⟨1, _⟩ => ⟨S1x31x1024, .f32⟩
  | .hbm, ⟨2, _⟩ => ⟨S1x1024, .f32⟩
  | .hbm, ⟨3, _⟩ => ⟨S1x3x1024, .f32⟩
  | .hbm, ⟨4, _⟩ => ⟨S4096x1024, .f32⟩
  | .hbm, ⟨5, _⟩ => ⟨S4096x2048, .f32⟩
  | .hbm, ⟨6, _⟩ => ⟨S4096x5x8x128, .f32⟩
  | .hbm, ⟨7, _⟩ => ⟨S4096x8x5x128, .f32⟩
  | .hbm, ⟨8, _⟩ => ⟨S4096x5120, .f32⟩
  | .hbm, ⟨9, _⟩ => ⟨S31x1024, .f32⟩
  | .hbm, ⟨10, _⟩ => ⟨S3x1024, .f32⟩
  | .hbm, ⟨11, _⟩ => ⟨S4096x5120, .bf16⟩
  | .hbm, ⟨12, _⟩ => ⟨S31x1024, .f32⟩
  | .hbm, ⟨13, _⟩ => ⟨S1x1024, .f32⟩
  | .hbm, ⟨14, _⟩ => ⟨S3x1024, .f32⟩
  | .local _ .vmem, ⟨0, _⟩ => ⟨S2048x640, .f32⟩
  | .local _ .vmem, ⟨1, _⟩ => ⟨S2048x640, .f32⟩
  | .local _ .vmem, ⟨2, _⟩ => ⟨S31x128, .f32⟩
  | .local _ .vmem, ⟨3, _⟩ => ⟨S31x128, .f32⟩
  | .local _ .vmem, ⟨4, _⟩ => ⟨S1x128, .f32⟩
  | .local _ .vmem, ⟨5, _⟩ => ⟨S1x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x640, .bf16⟩
  | .local _ .vmem, ⟨13, _⟩ => ⟨S2048x640, .bf16⟩
  | .local _ .vmem, ⟨14, _⟩ => ⟨S31x128, .f32⟩
  | .local _ .vmem, ⟨15, _⟩ => ⟨S31x128, .f32⟩
  | .local _ .vmem, ⟨16, _⟩ => ⟨S1x128, .f32⟩
  | .local _ .vmem, ⟨17, _⟩ => ⟨S1x128, .f32⟩
  | .local _ .vmem, ⟨18, _⟩ => ⟨S3x128, .f32⟩
  | .local _ .vmem, ⟨19, _⟩ => ⟨S3x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S31x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvRefIdeal.lean ====
abbrev S4096x5120 : Shape := ⟨2, ![4096, 5120]⟩
abbrev S1x31x1024 : Shape := ⟨3, ![1, 31, 1024]⟩
abbrev S1x1024 : Shape := ⟨2, ![1, 1024]⟩
abbrev S1x3x1024 : Shape := ⟨3, ![1, 3, 1024]⟩
abbrev S4096x1024 : Shape := ⟨2, ![4096, 1024]⟩
abbrev S4096x2048 : Shape := ⟨2, ![4096, 2048]⟩
abbrev S2x2048x1024 : Shape := ⟨3, ![2, 2048, 1024]⟩
abbrev S2x2048x2048 : Shape := ⟨3, ![2, 2048, 2048]⟩
abbrev S2x2048x5120 : Shape := ⟨3, ![2, 2048, 5120]⟩
abbrev S31x1024 : Shape := ⟨2, ![31, 1024]⟩
abbrev S1024 : Shape := ⟨1, ![1024]⟩
abbrev S3x1024 : Shape := ⟨2, ![3, 1024]⟩
abbrev S_ : Shape := ⟨0, ![]⟩
abbrev S2x30x1024 : Shape := ⟨3, ![2, 30, 1024]⟩
abbrev S2x2078x1024 : Shape := ⟨3, ![2, 2078, 1024]⟩
abbrev S1x1x1024 : Shape := ⟨3, ![1, 1, 1024]⟩
abbrev S2x2x1024 : Shape := ⟨3, ![2, 2, 1024]⟩
abbrev S2x2050x1024 : Shape := ⟨3, ![2, 2050, 1024]⟩
abbrev S4096x5x8x128 : Shape := ⟨4, ![4096, 5, 8, 128]⟩
abbrev S4096x8x5x128 : Shape := ⟨4, ![4096, 8, 5, 128]⟩

abbrev nBuf : Space → Nat
  | .hbm => 789
  | .vmem => 0
  | .smem => 0
  | _ => 0

abbrev hbmTy0_0 (i : Nat) : BufTy := match i % 128 with
  | 0 => ⟨S4096x5120, .f32⟩
  | 1 => ⟨S1x31x1024, .f32⟩
  | 2 => ⟨S1x1024, .f32⟩
  | 3 => ⟨S1x3x1024, .f32⟩
  | 4 => ⟨S4096x1024, .f32⟩
  | 5 => ⟨S4096x2048, .f32⟩
  | 6 => ⟨S2x2048x1024, .f32⟩
  | 7 => ⟨S2x2048x2048, .f32⟩
  | 8 => ⟨S2x2048x1024, .f32⟩
  | 9 => ⟨S2x2048x5120, .f32⟩
  | 10 => ⟨S31x1024, .f32⟩
  | 11 => ⟨S1024, .f32⟩
  | 12 => ⟨S3x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S_, .f32⟩
  | 18 => ⟨S2x2048x1024, .f32⟩
  | 19 => ⟨S2x2048x1024, .f32⟩
  | 20 => ⟨S_, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S2x2048x1024, .f32⟩
  | 27 => ⟨S2x2048x1024, .f32⟩
  | 28 => ⟨S_, .f32⟩
  | 29 => ⟨S2x30x1024, .f32⟩
  | 30 => ⟨S2x2078x1024, .f32⟩
  | 31 => ⟨S_, .f32⟩
  | 32 => ⟨S2x30x1024, .f32⟩
  | 33 => ⟨S2x2048x1024, .f32⟩
  | 34 => ⟨S1x1024, .f32⟩
  | 35 => ⟨S1x1x1024, .f32⟩
  | 36 => ⟨S2x2048x1024, .f32⟩
  | 37 => ⟨S2x2048x1024, .f32⟩
  | 38 => ⟨S2x2048x1024, .f32⟩
  | 39 => ⟨S1x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S1x1024, .f32⟩
  | 46 => ⟨S1x1x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S1x1024, .f32⟩
  | 52 => ⟨S1x1x1024, .f32⟩
  | 53 => ⟨S2x2048x1024, .f32⟩
  | 54 => ⟨S2x2048x1024, .f32⟩
  | 55 => ⟨S2x2048x1024, .f32⟩
  | 56 => ⟨S2x2048x1024, .f32⟩
  | 57 => ⟨S1x1024, .f32⟩
  | 58 => ⟨S1x1x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S1x1024, .f32⟩
  | 64 => ⟨S1x1x1024, .f32⟩
  | 65 => ⟨S2x2048x1024, .f32⟩
  | 66 => ⟨S2x2048x1024, .f32⟩
  | 67 => ⟨S2x2048x1024, .f32⟩
  | 68 => ⟨S2x2048x1024, .f32⟩
  | 69 => ⟨S1x1024, .f32⟩
  | 70 => ⟨S1x1x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S1x1024, .f32⟩
  | 76 => ⟨S1x1x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S1x1024, .f32⟩
  | 82 => ⟨S1x1x1024, .f32⟩
  | 83 => ⟨S2x2048x1024, .f32⟩
  | 84 => ⟨S2x2048x1024, .f32⟩
  | 85 => ⟨S2x2048x1024, .f32⟩
  | 86 => ⟨S2x2048x1024, .f32⟩
  | 87 => ⟨S1x1024, .f32⟩
  | 88 => ⟨S1x1x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S1x1024, .f32⟩
  | 94 => ⟨S1x1x1024, .f32⟩
  | 95 => ⟨S2x2048x1024, .f32⟩
  | 96 => ⟨S2x2048x1024, .f32⟩
  | 97 => ⟨S2x2048x1024, .f32⟩
  | 98 => ⟨S2x2048x1024, .f32⟩
  | 99 => ⟨S1x1024, .f32⟩
  | 100 => ⟨S1x1x1024, .f32⟩
  | 101 => ⟨S2x2048x1024, .f32⟩
  | 102 => ⟨S2x2048x1024, .f32⟩
  | 103 => ⟨S2x2048x1024, .f32⟩
  | 104 => ⟨S2x2048x1024, .f32⟩
  | 105 => ⟨S1x1024, .f32⟩
  | 106 => ⟨S1x1x1024, .f32⟩
  | 107 => ⟨S2x2048x1024, .f32⟩
  | 108 => ⟨S2x2048x1024, .f32⟩
  | 109 => ⟨S2x2048x1024, .f32⟩
  | 110 => ⟨S2x2048x1024, .f32⟩
  | 111 => ⟨S1x1024, .f32⟩
  | 112 => ⟨S1x1x1024, .f32⟩
  | 113 => ⟨S2x2048x1024, .f32⟩
  | 114 => ⟨S2x2048x1024, .f32⟩
  | 115 => ⟨S2x2048x1024, .f32⟩
  | 116 => ⟨S2x2048x1024, .f32⟩
  | 117 => ⟨S1x1024, .f32⟩
  | 118 => ⟨S1x1x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S1x1024, .f32⟩
  | 124 => ⟨S1x1x1024, .f32⟩
  | 125 => ⟨S2x2048x1024, .f32⟩
  | 126 => ⟨S2x2048x1024, .f32⟩
  | 127 => ⟨S2x2048x1024, .f32⟩
  | _ => ⟨S4096x5120, .f32⟩

abbrev hbmTy0_1 (i : Nat) : BufTy := match i % 128 with
  | 0 => ⟨S2x2048x1024, .f32⟩
  | 1 => ⟨S1x1024, .f32⟩
  | 2 => ⟨S1x1x1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S1x1024, .f32⟩
  | 8 => ⟨S1x1x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S1x1024, .f32⟩
  | 14 => ⟨S1x1x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S1x1024, .f32⟩
  | 20 => ⟨S1x1x1024, .f32⟩
  | 21 => ⟨S2x2048x1024, .f32⟩
  | 22 => ⟨S2x2048x1024, .f32⟩
  | 23 => ⟨S2x2048x1024, .f32⟩
  | 24 => ⟨S2x2048x1024, .f32⟩
  | 25 => ⟨S1x1024, .f32⟩
  | 26 => ⟨S1x1x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S1x1024, .f32⟩
  | 32 => ⟨S1x1x1024, .f32⟩
  | 33 => ⟨S2x2048x1024, .f32⟩
  | 34 => ⟨S2x2048x1024, .f32⟩
  | 35 => ⟨S2x2048x1024, .f32⟩
  | 36 => ⟨S2x2048x1024, .f32⟩
  | 37 => ⟨S1x1024, .f32⟩
  | 38 => ⟨S1x1x1024, .f32⟩
  | 39 => ⟨S2x2048x1024, .f32⟩
  | 40 => ⟨S2x2048x1024, .f32⟩
  | 41 => ⟨S2x2048x1024, .f32⟩
  | 42 => ⟨S2x2048x1024, .f32⟩
  | 43 => ⟨S1x1024, .f32⟩
  | 44 => ⟨S1x1x1024, .f32⟩
  | 45 => ⟨S2x2048x1024, .f32⟩
  | 46 => ⟨S2x2048x1024, .f32⟩
  | 47 => ⟨S2x2048x1024, .f32⟩
  | 48 => ⟨S2x2048x1024, .f32⟩
  | 49 => ⟨S1x1024, .f32⟩
  | 50 => ⟨S1x1x1024, .f32⟩
  | 51 => ⟨S2x2048x1024, .f32⟩
  | 52 => ⟨S2x2048x1024, .f32⟩
  | 53 => ⟨S2x2048x1024, .f32⟩
  | 54 => ⟨S2x2048x1024, .f32⟩
  | 55 => ⟨S1x1024, .f32⟩
  | 56 => ⟨S1x1x1024, .f32⟩
  | 57 => ⟨S2x2048x1024, .f32⟩
  | 58 => ⟨S2x2048x1024, .f32⟩
  | 59 => ⟨S2x2048x1024, .f32⟩
  | 60 => ⟨S2x2048x1024, .f32⟩
  | 61 => ⟨S1x1024, .f32⟩
  | 62 => ⟨S1x1x1024, .f32⟩
  | 63 => ⟨S2x2048x1024, .f32⟩
  | 64 => ⟨S2x2048x1024, .f32⟩
  | 65 => ⟨S2x2048x1024, .f32⟩
  | 66 => ⟨S2x2048x1024, .f32⟩
  | 67 => ⟨S1x1024, .f32⟩
  | 68 => ⟨S1x1x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S1x1024, .f32⟩
  | 74 => ⟨S1x1x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S1x1024, .f32⟩
  | 80 => ⟨S1x1x1024, .f32⟩
  | 81 => ⟨S2x2048x1024, .f32⟩
  | 82 => ⟨S2x2048x1024, .f32⟩
  | 83 => ⟨S2x2048x1024, .f32⟩
  | 84 => ⟨S2x2048x1024, .f32⟩
  | 85 => ⟨S1x1024, .f32⟩
  | 86 => ⟨S1x1x1024, .f32⟩
  | 87 => ⟨S2x2048x1024, .f32⟩
  | 88 => ⟨S2x2048x1024, .f32⟩
  | 89 => ⟨S2x2048x1024, .f32⟩
  | 90 => ⟨S1x1x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S_, .f32⟩
  | 98 => ⟨S2x2x1024, .f32⟩
  | 99 => ⟨S2x2050x1024, .f32⟩
  | 100 => ⟨S_, .f32⟩
  | 101 => ⟨S2x2x1024, .f32⟩
  | 102 => ⟨S2x2048x1024, .f32⟩
  | 103 => ⟨S1x1024, .f32⟩
  | 104 => ⟨S1x1x1024, .f32⟩
  | 105 => ⟨S2x2048x1024, .f32⟩
  | 106 => ⟨S2x2048x1024, .f32⟩
  | 107 => ⟨S2x2048x1024, .f32⟩
  | 108 => ⟨S1x1024, .f32⟩
  | 109 => ⟨S1x1x1024, .f32⟩
  | 110 => ⟨S2x2048x1024, .f32⟩
  | 111 => ⟨S2x2048x1024, .f32⟩
  | 112 => ⟨S2x2048x1024, .f32⟩
  | 113 => ⟨S2x2048x1024, .f32⟩
  | 114 => ⟨S1x1024, .f32⟩
  | 115 => ⟨S1x1x1024, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S_, .f32⟩
  | 124 => ⟨S1024, .f32⟩
  | 125 => ⟨S1x1x1024, .f32⟩
  | 126 => ⟨S2x2048x1024, .f32⟩
  | 127 => ⟨S2x2048x1024, .f32⟩
  | _ => ⟨S4096x5120, .f32⟩

abbrev hbmTy0_2 (i : Nat) : BufTy := match i % 128 with
  | 0 => ⟨S_, .f32⟩
  | 1 => ⟨S1024, .f32⟩
  | 2 => ⟨S1x1024, .f32⟩
  | 3 => ⟨S_, .f32⟩
  | 4 => ⟨S3x1024, .f32⟩
  | 5 => ⟨S_, .f32⟩
  | 6 => ⟨S2x2050x1024, .f32⟩
  | 7 => ⟨S2x2048x1024, .f32⟩
  | 8 => ⟨S_, .f32⟩
  | 9 => ⟨S1024, .f32⟩
  | 10 => ⟨S1x1x1024, .f32⟩
  | 11 => ⟨S2x2048x1024, .f32⟩
  | 12 => ⟨S2x2048x1024, .f32⟩
  | 13 => ⟨S_, .f32⟩
  | 14 => ⟨S1024, .f32⟩
  | 15 => ⟨S1x1024, .f32⟩
  | 16 => ⟨S_, .f32⟩
  | 17 => ⟨S3x1024, .f32⟩
  | 18 => ⟨S3x1024, .f32⟩
  | 19 => ⟨S_, .f32⟩
  | 20 => ⟨S2x2050x1024, .f32⟩
  | 21 => ⟨S2x2050x1024, .f32⟩
  | 22 => ⟨S2x2048x1024, .f32⟩
  | 23 => ⟨S_, .f32⟩
  | 24 => ⟨S1024, .f32⟩
  | 25 => ⟨S1x1x1024, .f32⟩
  | 26 => ⟨S2x2048x1024, .f32⟩
  | 27 => ⟨S2x2048x1024, .f32⟩
  | 28 => ⟨S_, .f32⟩
  | 29 => ⟨S1024, .f32⟩
  | 30 => ⟨S1x1024, .f32⟩
  | 31 => ⟨S_, .f32⟩
  | 32 => ⟨S3x1024, .f32⟩
  | 33 => ⟨S3x1024, .f32⟩
  | 34 => ⟨S_, .f32⟩
  | 35 => ⟨S2x2050x1024, .f32⟩
  | 36 => ⟨S2x2050x1024, .f32⟩
  | 37 => ⟨S2x2x1024, .f32⟩
  | 38 => ⟨S2x2048x1024, .f32⟩
  | 39 => ⟨S2x2048x1024, .f32⟩
  | 40 => ⟨S2x2048x1024, .f32⟩
  | 41 => ⟨S_, .f32⟩
  | 42 => ⟨S2x2048x5120, .f32⟩
  | 43 => ⟨S_, .f32⟩
  | 44 => ⟨S2x2048x5120, .f32⟩
  | 45 => ⟨S2x2048x5120, .f32⟩
  | 46 => ⟨S_, .f32⟩
  | 47 => ⟨S2x2048x5120, .f32⟩
  | 48 => ⟨S2x2048x5120, .f32⟩
  | 49 => ⟨S_, .f32⟩
  | 50 => ⟨S1024, .f32⟩
  | 51 => ⟨S1x1x1024, .f32⟩
  | 52 => ⟨S_, .f32⟩
  | 53 => ⟨S1024, .f32⟩
  | 54 => ⟨S2x2048x1024, .f32⟩
  | 55 => ⟨S_, .f32⟩
  | 56 => ⟨S1024, .f32⟩
  | 57 => ⟨S1x1x1024, .f32⟩
  | 58 => ⟨S2x2048x1024, .f32⟩
  | 59 => ⟨S2x2048x1024, .f32⟩
  | 60 => ⟨S_, .f32⟩
  | 61 => ⟨S1024, .f32⟩
  | 62 => ⟨S1x1024, .f32⟩
  | 63 => ⟨S_, .f32⟩
  | 64 => ⟨S31x1024, .f32⟩
  | 65 => ⟨S_, .f32⟩
  | 66 => ⟨S2x2078x1024, .f32⟩
  | 67 => ⟨S2x2048x1024, .f32⟩
  | 68 => ⟨S_, .f32⟩
  | 69 => ⟨S1024, .f32⟩
  | 70 => ⟨S1x1x1024, .f32⟩
  | 71 => ⟨S2x2048x1024, .f32⟩
  | 72 => ⟨S2x2048x1024, .f32⟩
  | 73 => ⟨S_, .f32⟩
  | 74 => ⟨S1024, .f32⟩
  | 75 => ⟨S1x1024, .f32⟩
  | 76 => ⟨S_, .f32⟩
  | 77 => ⟨S31x1024, .f32⟩
  | 78 => ⟨S31x1024, .f32⟩
  | 79 => ⟨S_, .f32⟩
  | 80 => ⟨S2x2078x1024, .f32⟩
  | 81 => ⟨S2x2078x1024, .f32⟩
  | 82 => ⟨S2x2048x1024, .f32⟩
  | 83 => ⟨S_, .f32⟩
  | 84 => ⟨S1024, .f32⟩
  | 85 => ⟨S1x1x1024, .f32⟩
  | 86 => ⟨S2x2048x1024, .f32⟩
  | 87 => ⟨S2x2048x1024, .f32⟩
  | 88 => ⟨S_, .f32⟩
  | 89 => ⟨S1024, .f32⟩
  | 90 => ⟨S1x1024, .f32⟩
  | 91 => ⟨S_, .f32⟩
  | 92 => ⟨S31x1024, .f32⟩
  | 93 => ⟨S31x1024, .f32⟩
  | 94 => ⟨S_, .f32⟩
  | 95 => ⟨S2x2078x1024, .f32⟩
  | 96 => ⟨S2x2078x1024, .f32⟩
  | 97 => ⟨S2x2048x1024, .f32⟩
  | 98 => ⟨S_, .f32⟩
  | 99 => ⟨S1024, .f32⟩
  | 100 => ⟨S1x1x1024, .f32⟩
  | 101 => ⟨S2x2048x1024, .f32⟩
  | 102 => ⟨S2x2048x1024, .f32⟩
  | 103 => ⟨S_, .f32⟩
  | 104 => ⟨S1024, .f32⟩
  | 105 => ⟨S1x1024, .f32⟩
  | 106 => ⟨S_, .f32⟩
  | 107 => ⟨S31x1024, .f32⟩
  | 108 => ⟨S31x1024, .f32⟩
  | 109 => ⟨S_, .f32⟩
  | 110 => ⟨S2x2078x1024, .f32⟩
  | 111 => ⟨S2x2078x1024, .f32⟩
  | 112 => ⟨S2x2048x1024, .f32⟩
  | 113 => ⟨S_, .f32⟩
  | 114 => ⟨S1024, .f32⟩
  | 115 => ⟨S1x1x1024, .f32⟩
  | 116 => ⟨S2x2048x1024, .f32⟩
  | 117 => ⟨S2x2048x1024, .f32⟩
  | 118 => ⟨S_, .f32⟩
  | 119 => ⟨S1024, .f32⟩
  | 120 => ⟨S1x1024, .f32⟩
  | 121 => ⟨S_, .f32⟩
  | 122 => ⟨S31x1024, .f32⟩
  | 123 => ⟨S31x1024, .f32⟩
  | 124 => ⟨S_, .f32⟩
  | 125 => ⟨S2x2078x1024, .f32⟩
  | 126 => ⟨S2x2078x1024, .f32⟩
  | 127 => ⟨S2x2048x1024, .f32⟩
  | _ => ⟨S4096x5120, .f32⟩

abbrev hbmTy0_3 (i : Nat) : BufTy := match i % 128 with
  | 0 => ⟨S_, .f32⟩
  | 1 => ⟨S1024, .f32⟩
  | 2 => ⟨S1x1x1024, .f32⟩
  | 3 => ⟨S2x2048x1024, .f32⟩
  | 4 => ⟨S2x2048x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S_, .f32⟩
  | 12 => ⟨S2x2078x1024, .f32⟩
  | 13 => ⟨S2x2078x1024, .f32⟩
  | 14 => ⟨S2x2048x1024, .f32⟩
  | 15 => ⟨S_, .f32⟩
  | 16 => ⟨S1024, .f32⟩
  | 17 => ⟨S1x1x1024, .f32⟩
  | 18 => ⟨S2x2048x1024, .f32⟩
  | 19 => ⟨S2x2048x1024, .f32⟩
  | 20 => ⟨S_, .f32⟩
  | 21 => ⟨S1024, .f32⟩
  | 22 => ⟨S1x1024, .f32⟩
  | 23 => ⟨S_, .f32⟩
  | 24 => ⟨S31x1024, .f32⟩
  | 25 => ⟨S31x1024, .f32⟩
  | 26 => ⟨S_, .f32⟩
  | 27 => ⟨S2x2078x1024, .f32⟩
  | 28 => ⟨S2x2078x1024, .f32⟩
  | 29 => ⟨S2x2048x1024, .f32⟩
  | 30 => ⟨S_, .f32⟩
  | 31 => ⟨S1024, .f32⟩
  | 32 => ⟨S1x1x1024, .f32⟩
  | 33 => ⟨S2x2048x1024, .f32⟩
  | 34 => ⟨S2x2048x1024, .f32⟩
  | 35 => ⟨S_, .f32⟩
  | 36 => ⟨S1024, .f32⟩
  | 37 => ⟨S1x1024, .f32⟩
  | 38 => ⟨S_, .f32⟩
  | 39 => ⟨S31x1024, .f32⟩
  | 40 => ⟨S31x1024, .f32⟩
  | 41 => ⟨S_, .f32⟩
  | 42 => ⟨S2x2078x1024, .f32⟩
  | 43 => ⟨S2x2078x1024, .f32⟩
  | 44 => ⟨S2x2048x1024, .f32⟩
  | 45 => ⟨S_, .f32⟩
  | 46 => ⟨S1024, .f32⟩
  | 47 => ⟨S1x1x1024, .f32⟩
  | 48 => ⟨S2x2048x1024, .f32⟩
  | 49 => ⟨S2x2048x1024, .f32⟩
  | 50 => ⟨S_, .f32⟩
  | 51 => ⟨S1024, .f32⟩
  | 52 => ⟨S1x1024, .f32⟩
  | 53 => ⟨S_, .f32⟩
  | 54 => ⟨S31x1024, .f32⟩
  | 55 => ⟨S31x1024, .f32⟩
  | 56 => ⟨S_, .f32⟩
  | 57 => ⟨S2x2078x1024, .f32⟩
  | 58 => ⟨S2x2078x1024, .f32⟩
  | 59 => ⟨S2x2048x1024, .f32⟩
  | 60 => ⟨S_, .f32⟩
  | 61 => ⟨S1024, .f32⟩
  | 62 => ⟨S1x1x1024, .f32⟩
  | 63 => ⟨S2x2048x1024, .f32⟩
  | 64 => ⟨S2x2048x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S_, .f32⟩
  | 72 => ⟨S2x2078x1024, .f32⟩
  | 73 => ⟨S2x2078x1024, .f32⟩
  | 74 => ⟨S2x2048x1024, .f32⟩
  | 75 => ⟨S_, .f32⟩
  | 76 => ⟨S1024, .f32⟩
  | 77 => ⟨S1x1x1024, .f32⟩
  | 78 => ⟨S2x2048x1024, .f32⟩
  | 79 => ⟨S2x2048x1024, .f32⟩
  | 80 => ⟨S_, .f32⟩
  | 81 => ⟨S1024, .f32⟩
  | 82 => ⟨S1x1024, .f32⟩
  | 83 => ⟨S_, .f32⟩
  | 84 => ⟨S31x1024, .f32⟩
  | 85 => ⟨S31x1024, .f32⟩
  | 86 => ⟨S_, .f32⟩
  | 87 => ⟨S2x2078x1024, .f32⟩
  | 88 => ⟨S2x2078x1024, .f32⟩
  | 89 => ⟨S2x2048x1024, .f32⟩
  | 90 => ⟨S_, .f32⟩
  | 91 => ⟨S1024, .f32⟩
  | 92 => ⟨S1x1x1024, .f32⟩
  | 93 => ⟨S2x2048x1024, .f32⟩
  | 94 => ⟨S2x2048x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S_, .f32⟩
  | 102 => ⟨S2x2078x1024, .f32⟩
  | 103 => ⟨S2x2078x1024, .f32⟩
  | 104 => ⟨S2x2048x1024, .f32⟩
  | 105 => ⟨S_, .f32⟩
  | 106 => ⟨S1024, .f32⟩
  | 107 => ⟨S1x1x1024, .f32⟩
  | 108 => ⟨S2x2048x1024, .f32⟩
  | 109 => ⟨S2x2048x1024, .f32⟩
  | 110 => ⟨S_, .f32⟩
  | 111 => ⟨S1024, .f32⟩
  | 112 => ⟨S1x1024, .f32⟩
  | 113 => ⟨S_, .f32⟩
  | 114 => ⟨S31x1024, .f32⟩
  | 115 => ⟨S31x1024, .f32⟩
  | 116 => ⟨S_, .f32⟩
  | 117 => ⟨S2x2078x1024, .f32⟩
  | 118 => ⟨S2x2078x1024, .f32⟩
  | 119 => ⟨S2x2048x1024, .f32⟩
  | 120 => ⟨S_, .f32⟩
  | 121 => ⟨S1024, .f32⟩
  | 122 => ⟨S1x1x1024, .f32⟩
  | 123 => ⟨S2x2048x1024, .f32⟩
  | 124 => ⟨S2x2048x1024, .f32⟩
  | 125 => ⟨S_, .f32⟩
  | 126 => ⟨S1024, .f32⟩
  | 127 => ⟨S1x1024, .f32⟩
  | _ => ⟨S4096x5120, .f32⟩

abbrev hbmTy0_4 (i : Nat) : BufTy := match i % 128 with
  | 0 => ⟨S_, .f32⟩
  | 1 => ⟨S31x1024, .f32⟩
  | 2 => ⟨S31x1024, .f32⟩
  | 3 => ⟨S_, .f32⟩
  | 4 => ⟨S2x2078x1024, .f32⟩
  | 5 => ⟨S2x2078x1024, .f32⟩
  | 6 => ⟨S2x2048x1024, .f32⟩
  | 7 => ⟨S_, .f32⟩
  | 8 => ⟨S1024, .f32⟩
  | 9 => ⟨S1x1x1024, .f32⟩
  | 10 => ⟨S2x2048x1024, .f32⟩
  | 11 => ⟨S2x2048x1024, .f32⟩
  | 12 => ⟨S_, .f32⟩
  | 13 => ⟨S1024, .f32⟩
  | 14 => ⟨S1x1024, .f32⟩
  | 15 => ⟨S_, .f32⟩
  | 16 => ⟨S31x1024, .f32⟩
  | 17 => ⟨S31x1024, .f32⟩
  | 18 => ⟨S_, .f32⟩
  | 19 => ⟨S2x2078x1024, .f32⟩
  | 20 => ⟨S2x2078x1024, .f32⟩
  | 21 => ⟨S2x2048x1024, .f32⟩
  | 22 => ⟨S_, .f32⟩
  | 23 => ⟨S1024, .f32⟩
  | 24 => ⟨S1x1x1024, .f32⟩
  | 25 => ⟨S2x2048x1024, .f32⟩
  | 26 => ⟨S2x2048x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S_, .f32⟩
  | 34 => ⟨S2x2078x1024, .f32⟩
  | 35 => ⟨S2x2078x1024, .f32⟩
  | 36 => ⟨S2x2048x1024, .f32⟩
  | 37 => ⟨S_, .f32⟩
  | 38 => ⟨S1024, .f32⟩
  | 39 => ⟨S1x1x1024, .f32⟩
  | 40 => ⟨S2x2048x1024, .f32⟩
  | 41 => ⟨S2x2048x1024, .f32⟩
  | 42 => ⟨S_, .f32⟩
  | 43 => ⟨S1024, .f32⟩
  | 44 => ⟨S1x1024, .f32⟩
  | 45 => ⟨S_, .f32⟩
  | 46 => ⟨S31x1024, .f32⟩
  | 47 => ⟨S31x1024, .f32⟩
  | 48 => ⟨S_, .f32⟩
  | 49 => ⟨S2x2078x1024, .f32⟩
  | 50 => ⟨S2x2078x1024, .f32⟩
  | 51 => ⟨S2x2048x1024, .f32⟩
  | 52 => ⟨S_, .f32⟩
  | 53 => ⟨S1024, .f32⟩
  | 54 => ⟨S1x1x1024, .f32⟩
  | 55 => ⟨S2x2048x1024, .f32⟩
  | 56 => ⟨S2x2048x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S_, .f32⟩
  | 64 => ⟨S2x2078x1024, .f32⟩
  | 65 => ⟨S2x2078x1024, .f32⟩
  | 66 => ⟨S2x2048x1024, .f32⟩
  | 67 => ⟨S_, .f32⟩
  | 68 => ⟨S1024, .f32⟩
  | 69 => ⟨S1x1x1024, .f32⟩
  | 70 => ⟨S2x2048x1024, .f32⟩
  | 71 => ⟨S2x2048x1024, .f32⟩
  | 72 => ⟨S_, .f32⟩
  | 73 => ⟨S1024, .f32⟩
  | 74 => ⟨S1x1024, .f32⟩
  | 75 => ⟨S_, .f32⟩
  | 76 => ⟨S31x1024, .f32⟩
  | 77 => ⟨S31x1024, .f32⟩
  | 78 => ⟨S_, .f32⟩
  | 79 => ⟨S2x2078x1024, .f32⟩
  | 80 => ⟨S2x2078x1024, .f32⟩
  | 81 => ⟨S2x2048x1024, .f32⟩
  | 82 => ⟨S_, .f32⟩
  | 83 => ⟨S1024, .f32⟩
  | 84 => ⟨S1x1x1024, .f32⟩
  | 85 => ⟨S2x2048x1024, .f32⟩
  | 86 => ⟨S2x2048x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S_, .f32⟩
  | 94 => ⟨S2x2078x1024, .f32⟩
  | 95 => ⟨S2x2078x1024, .f32⟩
  | 96 => ⟨S2x2048x1024, .f32⟩
  | 97 => ⟨S_, .f32⟩
  | 98 => ⟨S1024, .f32⟩
  | 99 => ⟨S1x1x1024, .f32⟩
  | 100 => ⟨S2x2048x1024, .f32⟩
  | 101 => ⟨S2x2048x1024, .f32⟩
  | 102 => ⟨S_, .f32⟩
  | 103 => ⟨S1024, .f32⟩
  | 104 => ⟨S1x1024, .f32⟩
  | 105 => ⟨S_, .f32⟩
  | 106 => ⟨S31x1024, .f32⟩
  | 107 => ⟨S31x1024, .f32⟩
  | 108 => ⟨S_, .f32⟩
  | 109 => ⟨S2x2078x1024, .f32⟩
  | 110 => ⟨S2x2078x1024, .f32⟩
  | 111 => ⟨S2x2048x1024, .f32⟩
  | 112 => ⟨S_, .f32⟩
  | 113 => ⟨S1024, .f32⟩
  | 114 => ⟨S1x1x1024, .f32⟩
  | 115 => ⟨S2x2048x1024, .f32⟩
  | 116 => ⟨S2x2048x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S_, .f32⟩
  | 124 => ⟨S2x2078x1024, .f32⟩
  | 125 => ⟨S2x2078x1024, .f32⟩
  | 126 => ⟨S2x2048x1024, .f32⟩
  | 127 => ⟨S_, .f32⟩
  | _ => ⟨S4096x5120, .f32⟩

abbrev hbmTy0_5 (i : Nat) : BufTy := match i % 128 with
  | 0 => ⟨S1024, .f32⟩
  | 1 => ⟨S1x1x1024, .f32⟩
  | 2 => ⟨S2x2048x1024, .f32⟩
  | 3 => ⟨S2x2048x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S31x1024, .f32⟩
  | 10 => ⟨S_, .f32⟩
  | 11 => ⟨S2x2078x1024, .f32⟩
  | 12 => ⟨S2x2078x1024, .f32⟩
  | 13 => ⟨S2x2048x1024, .f32⟩
  | 14 => ⟨S_, .f32⟩
  | 15 => ⟨S1024, .f32⟩
  | 16 => ⟨S1x1x1024, .f32⟩
  | 17 => ⟨S2x2048x1024, .f32⟩
  | 18 => ⟨S2x2048x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S_, .f32⟩
  | 26 => ⟨S2x2078x1024, .f32⟩
  | 27 => ⟨S2x2078x1024, .f32⟩
  | 28 => ⟨S2x2048x1024, .f32⟩
  | 29 => ⟨S_, .f32⟩
  | 30 => ⟨S1024, .f32⟩
  | 31 => ⟨S1x1x1024, .f32⟩
  | 32 => ⟨S2x2048x1024, .f32⟩
  | 33 => ⟨S2x2048x1024, .f32⟩
  | 34 => ⟨S_, .f32⟩
  | 35 => ⟨S1024, .f32⟩
  | 36 => ⟨S1x1024, .f32⟩
  | 37 => ⟨S_, .f32⟩
  | 38 => ⟨S31x1024, .f32⟩
  | 39 => ⟨S31x1024, .f32⟩
  | 40 => ⟨S_, .f32⟩
  | 41 => ⟨S2x2078x1024, .f32⟩
  | 42 => ⟨S2x2078x1024, .f32⟩
  | 43 => ⟨S2x2048x1024, .f32⟩
  | 44 => ⟨S_, .f32⟩
  | 45 => ⟨S1024, .f32⟩
  | 46 => ⟨S1x1x1024, .f32⟩
  | 47 => ⟨S2x2048x1024, .f32⟩
  | 48 => ⟨S2x2048x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S_, .f32⟩
  | 56 => ⟨S2x2078x1024, .f32⟩
  | 57 => ⟨S2x2078x1024, .f32⟩
  | 58 => ⟨S2x2048x1024, .f32⟩
  | 59 => ⟨S_, .f32⟩
  | 60 => ⟨S1024, .f32⟩
  | 61 => ⟨S1x1x1024, .f32⟩
  | 62 => ⟨S2x2048x1024, .f32⟩
  | 63 => ⟨S2x2048x1024, .f32⟩
  | 64 => ⟨S_, .f32⟩
  | 65 => ⟨S1024, .f32⟩
  | 66 => ⟨S1x1024, .f32⟩
  | 67 => ⟨S_, .f32⟩
  | 68 => ⟨S31x1024, .f32⟩
  | 69 => ⟨S31x1024, .f32⟩
  | 70 => ⟨S_, .f32⟩
  | 71 => ⟨S2x2078x1024, .f32⟩
  | 72 => ⟨S2x2078x1024, .f32⟩
  | 73 => ⟨S2x2048x1024, .f32⟩
  | 74 => ⟨S_, .f32⟩
  | 75 => ⟨S1024, .f32⟩
  | 76 => ⟨S1x1x1024, .f32⟩
  | 77 => ⟨S2x2048x1024, .f32⟩
  | 78 => ⟨S2x2048x1024, .f32⟩
  | 79 => ⟨S_, .f32⟩
  | 80 => ⟨S1024, .f32⟩
  | 81 => ⟨S1x1024, .f32⟩
  | 82 => ⟨S_, .f32⟩
  | 83 => ⟨S31x1024, .f32⟩
  | 84 => ⟨S31x1024, .f32⟩
  | 85 => ⟨S_, .f32⟩
  | 86 => ⟨S2x2078x1024, .f32⟩
  | 87 => ⟨S2x2078x1024, .f32⟩
  | 88 => ⟨S2x2048x1024, .f32⟩
  | 89 => ⟨S_, .f32⟩
  | 90 => ⟨S1024, .f32⟩
  | 91 => ⟨S1x1x1024, .f32⟩
  | 92 => ⟨S2x2048x1024, .f32⟩
  | 93 => ⟨S2x2048x1024, .f32⟩
  | 94 => ⟨S_, .f32⟩
  | 95 => ⟨S1024, .f32⟩
  | 96 => ⟨S1x1024, .f32⟩
  | 97 => ⟨S_, .f32⟩
  | 98 => ⟨S31x1024, .f32⟩
  | 99 => ⟨S31x1024, .f32⟩
  | 100 => ⟨S_, .f32⟩
  | 101 => ⟨S2x2078x1024, .f32⟩
  | 102 => ⟨S2x2078x1024, .f32⟩
  | 103 => ⟨S2x2048x1024, .f32⟩
  | 104 => ⟨S_, .f32⟩
  | 105 => ⟨S1024, .f32⟩
  | 106 => ⟨S1x1x1024, .f32⟩
  | 107 => ⟨S2x2048x1024, .f32⟩
  | 108 => ⟨S2x2048x1024, .f32⟩
  | 109 => ⟨S_, .f32⟩
  | 110 => ⟨S1024, .f32⟩
  | 111 => ⟨S1x1024, .f32⟩
  | 112 => ⟨S_, .f32⟩
  | 113 => ⟨S31x1024, .f32⟩
  | 114 => ⟨S31x1024, .f32⟩
  | 115 => ⟨S_, .f32⟩
  | 116 => ⟨S2x2078x1024, .f32⟩
  | 117 => ⟨S2x2078x1024, .f32⟩
  | 118 => ⟨S2x2048x1024, .f32⟩
  | 119 => ⟨S_, .f32⟩
  | 120 => ⟨S1024, .f32⟩
  | 121 => ⟨S1x1x1024, .f32⟩
  | 122 => ⟨S2x2048x1024, .f32⟩
  | 123 => ⟨S2x2048x1024, .f32⟩
  | 124 => ⟨S_, .f32⟩
  | 125 => ⟨S1024, .f32⟩
  | 126 => ⟨S1x1024, .f32⟩
  | 127 => ⟨S_, .f32⟩
  | _ => ⟨S4096x5120, .f32⟩

abbrev hbmTy0_6 (i : Nat) : BufTy := match i % 128 with
  | 0 => ⟨S31x1024, .f32⟩
  | 1 => ⟨S31x1024, .f32⟩
  | 2 => ⟨S_, .f32⟩
  | 3 => ⟨S2x2078x1024, .f32⟩
  | 4 => ⟨S2x2078x1024, .f32⟩
  | 5 => ⟨S2x30x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S_, .f32⟩
  | 11 => ⟨S2x2048x5120, .f32⟩
  | 12 => ⟨S2x2048x5120, .f32⟩
  | 13 => ⟨S_, .f32⟩
  | 14 => ⟨S2x2048x5120, .f32⟩
  | 15 => ⟨S2x2048x5120, .f32⟩
  | 16 => ⟨S4096x5x8x128, .f32⟩
  | 17 => ⟨S4096x8x5x128, .f32⟩
  | 18 => ⟨S4096x5120, .f32⟩
  | 19 => ⟨S4096x5120, .bf16⟩
  | 20 => ⟨S1x1024, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_cst_4 : Ref sig .tc := ⟨.hbm, 225, rfl⟩
abbrev main_v214 : Ref sig .tc := ⟨.hbm, 226, rfl⟩
abbrev main_v215 : Ref sig .tc := ⟨.hbm, 227, rfl⟩
abbrev main_cst_5 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_cst_6 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_cst_7 : Ref sig .tc := ⟨.hbm, 256, rfl⟩
abbrev main_v242 : Ref sig .tc := ⟨.hbm, 257, rfl⟩
abbrev main_v243 : Ref sig .tc := ⟨.hbm, 258, rfl⟩
abbrev main_cst_8 : Ref sig .tc := ⟨.hbm, 259, rfl⟩
abbrev main_v244 : Ref sig .tc := ⟨.hbm, 260, rfl⟩
abbrev main_cst_9 : Ref sig .tc := ⟨.hbm, 261, rfl⟩
abbrev main_v245 : Ref sig .tc := ⟨.hbm, 262, rfl⟩
abbrev main_v246 : Ref sig .tc := ⟨.hbm, 263, rfl⟩
abbrev main_cst_10 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_cst_11 : Ref sig .tc := ⟨.hbm, 269, rfl⟩
abbrev main_v251 : Ref sig .tc := ⟨.hbm, 270, rfl⟩
abbrev main_v252 : Ref sig .tc := ⟨.hbm, 271, rfl⟩
abbrev main_cst_12 : Ref sig .tc := ⟨.hbm, 272, rfl⟩
abbrev main_v253 : Ref sig .tc := ⟨.hbm, 273, rfl⟩
abbrev main_v254 : Ref sig .tc := ⟨.hbm, 274, rfl⟩
abbrev main_cst_13 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_cst_14 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_cst_15 : Ref sig .tc := ⟨.hbm, 284, rfl⟩
abbrev main_v262 : Ref sig .tc := ⟨.hbm, 285, rfl⟩
abbrev main_v263 : Ref sig .tc := ⟨.hbm, 286, rfl⟩
abbrev main_cst_16 : Ref sig .tc := ⟨.hbm, 287, rfl⟩
abbrev main_v264 : Ref sig .tc := ⟨.hbm, 288, rfl⟩
abbrev main_v265 : Ref sig .tc := ⟨.hbm, 289, rfl⟩
abbrev main_cst_17 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_cst_18 : Ref sig .tc := ⟨.hbm, 297, rfl⟩
abbrev main_v272 : Ref sig .tc := ⟨.hbm, 298, rfl⟩
abbrev main_cst_19 : Ref sig .tc := ⟨.hbm, 299, rfl⟩
abbrev main_v273 : Ref sig .tc := ⟨.hbm, 300, rfl⟩
abbrev main_v274 : Ref sig .tc := ⟨.hbm, 301, rfl⟩
abbrev main_cst_20 : Ref sig .tc := ⟨.hbm, 302, rfl⟩
abbrev main_v275 : Ref sig .tc := ⟨.hbm, 303, rfl⟩
abbrev main_v276 : Ref sig .tc := ⟨.hbm, 304, rfl⟩
abbrev main_cst_21 : Ref sig .tc := ⟨.hbm, 305, rfl⟩
abbrev main_v277 : Ref sig .tc := ⟨.hbm, 306, rfl⟩
abbrev main_v278 : Ref sig .tc := ⟨.hbm, 307, rfl⟩
abbrev main_cst_22 : Ref sig .tc := ⟨.hbm, 308, rfl⟩
abbrev main_v279 : Ref sig .tc := ⟨.hbm, 309, rfl⟩
abbrev main_v280 : Ref sig .tc := ⟨.hbm, 310, rfl⟩
abbrev main_cst_23 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_cst_24 : Ref sig .tc := ⟨.hbm, 316, rfl⟩
abbrev main_v285 : Ref sig .tc := ⟨.hbm, 317, rfl⟩
abbrev main_v286 : Ref sig .tc := ⟨.hbm, 318, rfl⟩
abbrev main_cst_25 : Ref sig .tc := ⟨.hbm, 319, rfl⟩
abbrev main_v287 : Ref sig .tc := ⟨.hbm, 320, rfl⟩
abbrev main_cst_26 : Ref sig .tc := ⟨.hbm, 321, rfl⟩
abbrev main_v288 : Ref sig .tc := ⟨.hbm, 322, rfl⟩
abbrev main_v289 : Ref sig .tc := ⟨.hbm, 323, rfl⟩
abbrev main_cst_27 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_cst_28 : Ref sig .tc := ⟨.hbm, 329, rfl⟩
abbrev main_v294 : Ref sig .tc := ⟨.hbm, 330, rfl⟩
abbrev main_v295 : Ref sig .tc := ⟨.hbm, 331, rfl⟩
abbrev main_cst_29 : Ref sig .tc := ⟨.hbm, 332, rfl⟩
abbrev main_v296 : Ref sig .tc := ⟨.hbm, 333, rfl⟩
abbrev main_v297 : Ref sig .tc := ⟨.hbm, 334, rfl⟩
abbrev main_cst_30 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_cst_31 : Ref sig .tc := ⟨.hbm, 339, rfl⟩
abbrev main_v301 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_cst_32 : Ref sig .tc := ⟨.hbm, 344, rfl⟩
abbrev main_v305 : Ref sig .tc := ⟨.hbm, 345, rfl⟩
abbrev main_v306 : Ref sig .tc := ⟨.hbm, 346, rfl⟩
abbrev main_cst_33 : Ref sig .tc := ⟨.hbm, 347, rfl⟩
abbrev main_v307 : Ref sig .tc := ⟨.hbm, 348, rfl⟩
abbrev main_v308 : Ref sig .tc := ⟨.hbm, 349, rfl⟩
abbrev main_cst_34 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_cst_35 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_cst_36 : Ref sig .tc := ⟨.hbm, 359, rfl⟩
abbrev main_v316 : Ref sig .tc := ⟨.hbm, 360, rfl⟩
abbrev main_v317 : Ref sig .tc := ⟨.hbm, 361, rfl⟩
abbrev main_cst_37 : Ref sig .tc := ⟨.hbm, 362, rfl⟩
abbrev main_v318 : Ref sig .tc := ⟨.hbm, 363, rfl⟩
abbrev main_v319 : Ref sig .tc := ⟨.hbm, 364, rfl⟩
abbrev main_cst_38 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_cst_39 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_cst_40 : Ref sig .tc := ⟨.hbm, 374, rfl⟩
abbrev main_v327 : Ref sig .tc := ⟨.hbm, 375, rfl⟩
abbrev main_v328 : Ref sig .tc := ⟨.hbm, 376, rfl⟩
abbrev main_cst_41 : Ref sig .tc := ⟨.hbm, 377, rfl⟩
abbrev main_v329 : Ref sig .tc := ⟨.hbm, 378, rfl⟩
abbrev main_v330 : Ref sig .tc := ⟨.hbm, 379, rfl⟩
abbrev main_cst_42 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_cst_43 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_cst_44 : Ref sig .tc := ⟨.hbm, 389, rfl⟩
abbrev main_v338 : Ref sig .tc := ⟨.hbm, 390, rfl⟩
abbrev main_v339 : Ref sig .tc := ⟨.hbm, 391, rfl⟩
abbrev main_cst_45 : Ref sig .tc := ⟨.hbm, 392, rfl⟩
abbrev main_v340 : Ref sig .tc := ⟨.hbm, 393, rfl⟩
abbrev main_v341 : Ref sig .tc := ⟨.hbm, 394, rfl⟩
abbrev main_cst_46 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_cst_47 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_cst_48 : Ref sig .tc := ⟨.hbm, 404, rfl⟩
abbrev main_v349 : Ref sig .tc := ⟨.hbm, 405, rfl⟩
abbrev main_v350 : Ref sig .tc := ⟨.hbm, 406, rfl⟩
abbrev main_cst_49 : Ref sig .tc := ⟨.hbm, 407, rfl⟩
abbrev main_v351 : Ref sig .tc := ⟨.hbm, 408, rfl⟩
abbrev main_v352 : Ref sig .tc := ⟨.hbm, 409, rfl⟩
abbrev main_cst_50 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_cst_51 : Ref sig .tc := ⟨.hbm, 414, rfl⟩
abbrev main_v356 : Ref sig .tc := ⟨.hbm, 415, rfl⟩
abbrev main_v357 : Ref sig .tc := ⟨.hbm, 416, rfl⟩
abbrev main_v358 : Ref sig .tc := ⟨.hbm, 417, rfl⟩
abbrev main_v359 : Ref sig .tc := ⟨.hbm, 418, rfl⟩
abbrev main_cst_52 : Ref sig .tc := ⟨.hbm, 419, rfl⟩
abbrev main_v360 : Ref sig .tc := ⟨.hbm, 420, rfl⟩
abbrev main_v361 : Ref sig .tc := ⟨.hbm, 421, rfl⟩
abbrev main_cst_53 : Ref sig .tc := ⟨.hbm, 422, rfl⟩
abbrev main_v362 : Ref sig .tc := ⟨.hbm, 423, rfl⟩
abbrev main_v363 : Ref sig .tc := ⟨.hbm, 424, rfl⟩
abbrev main_cst_54 : Ref sig .tc := ⟨.hbm, 425, rfl⟩
abbrev main_v364 : Ref sig .tc := ⟨.hbm, 426, rfl⟩
abbrev main_v365 : Ref sig .tc := ⟨.hbm, 427, rfl⟩
abbrev main_v366 : Ref sig .tc := ⟨.hbm, 428, rfl⟩
abbrev main_cst_55 : Ref sig .tc := ⟨.hbm, 429, rfl⟩
abbrev main_v367 : Ref sig .tc := ⟨.hbm, 430, rfl⟩
abbrev main_v368 : Ref sig .tc := ⟨.hbm, 431, rfl⟩
abbrev main_v369 : Ref sig .tc := ⟨.hbm, 432, rfl⟩
abbrev main_v370 : Ref sig .tc := ⟨.hbm, 433, rfl⟩
abbrev main_cst_56 : Ref sig .tc := ⟨.hbm, 434, rfl⟩
abbrev main_v371 : Ref sig .tc := ⟨.hbm, 435, rfl⟩
abbrev main_v372 : Ref sig .tc := ⟨.hbm, 436, rfl⟩
abbrev main_cst_57 : Ref sig .tc := ⟨.hbm, 437, rfl⟩
abbrev main_v373 : Ref sig .tc := ⟨.hbm, 438, rfl⟩
abbrev main_v374 : Ref sig .tc := ⟨.hbm, 439, rfl⟩
abbrev main_cst_58 : Ref sig .tc := ⟨.hbm, 440, rfl⟩
abbrev main_v375 : Ref sig .tc := ⟨.hbm, 441, rfl⟩
abbrev main_v376 : Ref sig .tc := ⟨.hbm, 442, rfl⟩
abbrev main_v377 : Ref sig .tc := ⟨.hbm, 443, rfl⟩
abbrev main_cst_59 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_cst_60 : Ref sig .tc := ⟨.hbm, 449, rfl⟩
abbrev main_v382 : Ref sig .tc := ⟨.hbm, 450, rfl⟩
abbrev main_v383 : Ref sig .tc := ⟨.hbm, 451, rfl⟩
abbrev main_cst_61 : Ref sig .tc := ⟨.hbm, 452, rfl⟩
abbrev main_v384 : Ref sig .tc := ⟨.hbm, 453, rfl⟩
abbrev main_v385 : Ref sig .tc := ⟨.hbm, 454, rfl⟩
abbrev main_cst_62 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_cst_63 : Ref sig .tc := ⟨.hbm, 459, rfl⟩
abbrev main_v389 : Ref sig .tc := ⟨.hbm, 460, rfl⟩
abbrev main_v390 : Ref sig .tc := ⟨.hbm, 461, rfl⟩
abbrev main_v391 : Ref sig .tc := ⟨.hbm, 462, rfl⟩
abbrev main_v392 : Ref sig .tc := ⟨.hbm, 463, rfl⟩
abbrev main_cst_64 : Ref sig .tc := ⟨.hbm, 464, rfl⟩
abbrev main_v393 : Ref sig .tc := ⟨.hbm, 465, rfl⟩
abbrev main_v394 : Ref sig .tc := ⟨.hbm, 466, rfl⟩
abbrev main_cst_65 : Ref sig .tc := ⟨.hbm, 467, rfl⟩
abbrev main_v395 : Ref sig .tc := ⟨.hbm, 468, rfl⟩
abbrev main_v396 : Ref sig .tc := ⟨.hbm, 469, rfl⟩
abbrev main_cst_66 : Ref sig .tc := ⟨.hbm, 470, rfl⟩
abbrev main_v397 : Ref sig .tc := ⟨.hbm, 471, rfl⟩
abbrev main_v398 : Ref sig .tc := ⟨.hbm, 472, rfl⟩
abbrev main_v399 : Ref sig .tc := ⟨.hbm, 473, rfl⟩
abbrev main_cst_67 : Ref sig .tc := ⟨.hbm, 474, rfl⟩
abbrev main_v400 : Ref sig .tc := ⟨.hbm, 475, rfl⟩
abbrev main_v401 : Ref sig .tc := ⟨.hbm, 476, rfl⟩
abbrev main_v402 : Ref sig .tc := ⟨.hbm, 477, rfl⟩
abbrev main_v403 : Ref sig .tc := ⟨.hbm, 478, rfl⟩
abbrev main_cst_68 : Ref sig .tc := ⟨.hbm, 479, rfl⟩
abbrev main_v404 : Ref sig .tc := ⟨.hbm, 480, rfl⟩
abbrev main_v405 : Ref sig .tc := ⟨.hbm, 481, rfl⟩
abbrev main_cst_69 : Ref sig .tc := ⟨.hbm, 482, rfl⟩
abbrev main_v406 : Ref sig .tc := ⟨.hbm, 483, rfl⟩
abbrev main_v407 : Ref sig .tc := ⟨.hbm, 484, rfl⟩
abbrev main_cst_70 : Ref sig .tc := ⟨.hbm, 485, rfl⟩
abbrev main_v408 : Ref sig .tc := ⟨.hbm, 486, rfl⟩
abbrev main_v409 : Ref sig .tc := ⟨.hbm, 487, rfl⟩
abbrev main_v410 : Ref sig .tc := ⟨.hbm, 488, rfl⟩
abbrev main_cst_71 : Ref sig .tc := ⟨.hbm, 489, rfl⟩
abbrev main_v411 : Ref sig .tc := ⟨.hbm, 490, rfl⟩
abbrev main_v412 : Ref sig .tc := ⟨.hbm, 491, rfl⟩
abbrev main_v413 : Ref sig .tc := ⟨.hbm, 492, rfl⟩
abbrev main_v414 : Ref sig .tc := ⟨.hbm, 493, rfl⟩
abbrev main_cst_72 : Ref sig .tc := ⟨.hbm, 494, rfl⟩
abbrev main_v415 : Ref sig .tc := ⟨.hbm, 495, rfl⟩
abbrev main_v416 : Ref sig .tc := ⟨.hbm, 496, rfl⟩
abbrev main_cst_73 : Ref sig .tc := ⟨.hbm, 497, rfl⟩
abbrev main_v417 : Ref sig .tc := ⟨.hbm, 498, rfl⟩
abbrev main_v418 : Ref sig .tc := ⟨.hbm, 499, rfl⟩
abbrev main_cst_74 : Ref sig .tc := ⟨.hbm, 500, rfl⟩
abbrev main_v419 : Ref sig .tc := ⟨.hbm, 501, rfl⟩
abbrev main_v420 : Ref sig .tc := ⟨.hbm, 502, rfl⟩
abbrev main_v421 : Ref sig .tc := ⟨.hbm, 503, rfl⟩
abbrev main_cst_75 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩
abbrev main_v425 : Ref sig .tc := ⟨.hbm, 508, rfl⟩
abbrev main_cst_76 : Ref sig .tc := ⟨.hbm, 509, rfl⟩
abbrev main_v426 : Ref sig .tc := ⟨.hbm, 510, rfl⟩
abbrev main_v427 : Ref sig .tc := ⟨.hbm, 511, rfl⟩
abbrev main_cst_77 : Ref sig .tc := ⟨.hbm, 512, rfl⟩
abbrev main_v428 : Ref sig .tc := ⟨.hbm, 513, rfl⟩
abbrev main_v429 : Ref sig .tc := ⟨.hbm, 514, rfl⟩
abbrev main_cst_78 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_cst_79 : Ref sig .tc := ⟨.hbm, 519, rfl⟩
abbrev main_v433 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_cst_80 : Ref sig .tc := ⟨.hbm, 524, rfl⟩
abbrev main_v437 : Ref sig .tc := ⟨.hbm, 525, rfl⟩
abbrev main_v438 : Ref sig .tc := ⟨.hbm, 526, rfl⟩
abbrev main_cst_81 : Ref sig .tc := ⟨.hbm, 527, rfl⟩
abbrev main_v439 : Ref sig .tc := ⟨.hbm, 528, rfl⟩
abbrev main_v440 : Ref sig .tc := ⟨.hbm, 529, rfl⟩
abbrev main_cst_82 : Ref sig .tc := ⟨.hbm, 530, rfl⟩
abbrev main_v441 : Ref sig .tc := ⟨.hbm, 531, rfl⟩
abbrev main_v442 : Ref sig .tc := ⟨.hbm, 532, rfl⟩
abbrev main_v443 : Ref sig .tc := ⟨.hbm, 533, rfl⟩
abbrev main_cst_83 : Ref sig .tc := ⟨.hbm, 534, rfl⟩
abbrev main_v444 : Ref sig .tc := ⟨.hbm, 535, rfl⟩
abbrev main_v445 : Ref sig .tc := ⟨.hbm, 536, rfl⟩
abbrev main_v446 : Ref sig .tc := ⟨.hbm, 537, rfl⟩
abbrev main_v447 : Ref sig .tc := ⟨.hbm, 538, rfl⟩
abbrev main_cst_84 : Ref sig .tc := ⟨.hbm, 539, rfl⟩
abbrev main_v448 : Ref sig .tc := ⟨.hbm, 540, rfl⟩
abbrev main_v449 : Ref sig .tc := ⟨.hbm, 541, rfl⟩
abbrev main_cst_85 : Ref sig .tc := ⟨.hbm, 542, rfl⟩
abbrev main_v450 : Ref sig .tc := ⟨.hbm, 543, rfl⟩
abbrev main_v451 : Ref sig .tc := ⟨.hbm, 544, rfl⟩
abbrev main_cst_86 : Ref sig .tc := ⟨.hbm, 545, rfl⟩
abbrev main_v452 : Ref sig .tc := ⟨.hbm, 546, rfl⟩
abbrev main_v453 : Ref sig .tc := ⟨.hbm, 547, rfl⟩
abbrev main_v454 : Ref sig .tc := ⟨.hbm, 548, rfl⟩
abbrev main_cst_87 : Ref sig .tc := ⟨.hbm, 549, rfl⟩
abbrev main_v455 : Ref sig .tc := ⟨.hbm, 550, rfl⟩
abbrev main_v456 : Ref sig .tc := ⟨.hbm, 551, rfl⟩
abbrev main_v457 : Ref sig .tc := ⟨.hbm, 552, rfl⟩
abbrev main_v458 : Ref sig .tc := ⟨.hbm, 553, rfl⟩
abbrev main_cst_88 : Ref sig .tc := ⟨.hbm, 554, rfl⟩
abbrev main_v459 : Ref sig .tc := ⟨.hbm, 555, rfl⟩
abbrev main_v460 : Ref sig .tc := ⟨.hbm, 556, rfl⟩
abbrev main_cst_89 : Ref sig .tc := ⟨.hbm, 557, rfl⟩
abbrev main_v461 : Ref sig .tc := ⟨.hbm, 558, rfl⟩
abbrev main_v462 : Ref sig .tc := ⟨.hbm, 559, rfl⟩
abbrev main_cst_90 : Ref sig .tc := ⟨.hbm, 560, rfl⟩
abbrev main_v463 : Ref sig .tc := ⟨.hbm, 561, rfl⟩
abbrev main_v464 : Ref sig .tc := ⟨.hbm, 562, rfl⟩
abbrev main_v465 : Ref sig .tc := ⟨.hbm, 563, rfl⟩
abbrev main_cst_91 : Ref sig .tc := ⟨.hbm, 564, rfl⟩
abbrev main_v466 : Ref sig .tc := ⟨.hbm, 565, rfl⟩
abbrev main_v467 : Ref sig .tc := ⟨.hbm, 566, rfl⟩
abbrev main_v468 : Ref sig .tc := ⟨.hbm, 567, rfl⟩
abbrev main_v469 : Ref sig .tc := ⟨.hbm, 568, rfl⟩
abbrev main_cst_92 : Ref sig .tc := ⟨.hbm, 569, rfl⟩
abbrev main_v470 : Ref sig .tc := ⟨.hbm, 570, rfl⟩
abbrev main_v471 : Ref sig .tc := ⟨.hbm, 571, rfl⟩
abbrev main_cst_93 : Ref sig .tc := ⟨.hbm, 572, rfl⟩
abbrev main_v472 : Ref sig .tc := ⟨.hbm, 573, rfl⟩
abbrev main_v473 : Ref sig .tc := ⟨.hbm, 574, rfl⟩
abbrev main_cst_94 : Ref sig .tc := ⟨.hbm, 575, rfl⟩
abbrev main_v474 : Ref sig .tc := ⟨.hbm, 576, rfl⟩
abbrev main_v475 : Ref sig .tc := ⟨.hbm, 577, rfl⟩
abbrev main_v476 : Ref sig .tc := ⟨.hbm, 578, rfl⟩
abbrev main_cst_95 : Ref sig .tc := ⟨.hbm, 579, rfl⟩
abbrev main_v477 : Ref sig .tc := ⟨.hbm, 580, rfl⟩
abbrev main_v478 : Ref sig .tc := ⟨.hbm, 581, rfl⟩
abbrev main_v479 : Ref sig .tc := ⟨.hbm, 582, rfl⟩
abbrev main_v480 : Ref sig .tc := ⟨.hbm, 583, rfl⟩
abbrev main_cst_96 : Ref sig .tc := ⟨.hbm, 584, rfl⟩
abbrev main_v481 : Ref sig .tc := ⟨.hbm, 585, rfl⟩
abbrev main_v482 : Ref sig .tc := ⟨.hbm, 586, rfl⟩
abbrev main_cst_97 : Ref sig .tc := ⟨.hbm, 587, rfl⟩
abbrev main_v483 : Ref sig .tc := ⟨.hbm, 588, rfl⟩
abbrev main_v484 : Ref sig .tc := ⟨.hbm, 589, rfl⟩
abbrev main_cst_98 : Ref sig .tc := ⟨.hbm, 590, rfl⟩
abbrev main_v485 : Ref sig .tc := ⟨.hbm, 591, rfl⟩
abbrev main_v486 : Ref sig .tc := ⟨.hbm, 592, rfl⟩
abbrev main_v487 : Ref sig .tc := ⟨.hbm, 593, rfl⟩
abbrev main_cst_99 : Ref sig .tc := ⟨.hbm, 594, rfl⟩
abbrev main_v488 : Ref sig .tc := ⟨.hbm, 595, rfl⟩
abbrev main_v489 : Ref sig .tc := ⟨.hbm, 596, rfl⟩
abbrev main_v490 : Ref sig .tc := ⟨.hbm, 597, rfl⟩
abbrev main_v491 : Ref sig .tc := ⟨.hbm, 598, rfl⟩
abbrev main_cst_100 : Ref sig .tc := ⟨.hbm, 599, rfl⟩
abbrev main_v492 : Ref sig .tc := ⟨.hbm, 600, rfl⟩
abbrev main_v493 : Ref sig .tc := ⟨.hbm, 601, rfl⟩
abbrev main_cst_101 : Ref sig .tc := ⟨.hbm, 602, rfl⟩
abbrev main_v494 : Ref sig .tc := ⟨.hbm, 603, rfl⟩
abbrev main_v495 : Ref sig .tc := ⟨.hbm, 604, rfl⟩
abbrev main_cst_102 : Ref sig .tc := ⟨.hbm, 605, rfl⟩
abbrev main_v496 : Ref sig .tc := ⟨.hbm, 606, rfl⟩
abbrev main_v497 : Ref sig .tc := ⟨.hbm, 607, rfl⟩
abbrev main_v498 : Ref sig .tc := ⟨.hbm, 608, rfl⟩
abbrev main_cst_103 : Ref sig .tc := ⟨.hbm, 609, rfl⟩
abbrev main_v499 : Ref sig .tc := ⟨.hbm, 610, rfl⟩
abbrev main_v500 : Ref sig .tc := ⟨.hbm, 611, rfl⟩
abbrev main_v501 : Ref sig .tc := ⟨.hbm, 612, rfl⟩
abbrev main_v502 : Ref sig .tc := ⟨.hbm, 613, rfl⟩
abbrev main_cst_104 : Ref sig .tc := ⟨.hbm, 614, rfl⟩
abbrev main_v503 : Ref sig .tc := ⟨.hbm, 615, rfl⟩
abbrev main_v504 : Ref sig .tc := ⟨.hbm, 616, rfl⟩
abbrev main_cst_105 : Ref sig .tc := ⟨.hbm, 617, rfl⟩
abbrev main_v505 : Ref sig .tc := ⟨.hbm, 618, rfl⟩
abbrev main_v506 : Ref sig .tc := ⟨.hbm, 619, rfl⟩
abbrev main_cst_106 : Ref sig .tc := ⟨.hbm, 620, rfl⟩
abbrev main_v507 : Ref sig .tc := ⟨.hbm, 621, rfl⟩
abbrev main_v508 : Ref sig .tc := ⟨.hbm, 622, rfl⟩
abbrev main_v509 : Ref sig .tc := ⟨.hbm, 623, rfl⟩
abbrev main_cst_107 : Ref sig .tc := ⟨.hbm, 624, rfl⟩
abbrev main_v510 : Ref sig .tc := ⟨.hbm, 625, rfl⟩
abbrev main_v511 : Ref sig .tc := ⟨.hbm, 626, rfl⟩
abbrev main_v512 : Ref sig .tc := ⟨.hbm, 627, rfl⟩
abbrev main_v513 : Ref sig .tc := ⟨.hbm, 628, rfl⟩
abbrev main_cst_108 : Ref sig .tc := ⟨.hbm, 629, rfl⟩
abbrev main_v514 : Ref sig .tc := ⟨.hbm, 630, rfl⟩
abbrev main_v515 : Ref sig .tc := ⟨.hbm, 631, rfl⟩
abbrev main_cst_109 : Ref sig .tc := ⟨.hbm, 632, rfl⟩
abbrev main_v516 : Ref sig .tc := ⟨.hbm, 633, rfl⟩
abbrev main_v517 : Ref sig .tc := ⟨.hbm, 634, rfl⟩
abbrev main_cst_110 : Ref sig .tc := ⟨.hbm, 635, rfl⟩
abbrev main_v518 : Ref sig .tc := ⟨.hbm, 636, rfl⟩
abbrev main_v519 : Ref sig .tc := ⟨.hbm, 637, rfl⟩
abbrev main_v520 : Ref sig .tc := ⟨.hbm, 638, rfl⟩
abbrev main_cst_111 : Ref sig .tc := ⟨.hbm, 639, rfl⟩
abbrev main_v521 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_cst_112 : Ref sig .tc := ⟨.hbm, 644, rfl⟩
abbrev main_v525 : Ref sig .tc := ⟨.hbm, 645, rfl⟩
abbrev main_v526 : Ref sig .tc := ⟨.hbm, 646, rfl⟩
abbrev main_cst_113 : Ref sig .tc := ⟨.hbm, 647, rfl⟩
abbrev main_v527 : Ref sig .tc := ⟨.hbm, 648, rfl⟩
abbrev main_v528 : Ref sig .tc := ⟨.hbm, 649, rfl⟩
abbrev main_cst_114 : Ref sig .tc := ⟨.hbm, 650, rfl⟩
abbrev main_v529 : Ref sig .tc := ⟨.hbm, 651, rfl⟩
abbrev main_v530 : Ref sig .tc := ⟨.hbm, 652, rfl⟩
abbrev main_v531 : Ref sig .tc := ⟨.hbm, 653, rfl⟩
abbrev main_cst_115 : Ref sig .tc := ⟨.hbm, 654, rfl⟩
abbrev main_v532 : Ref sig .tc := ⟨.hbm, 655, rfl⟩
abbrev main_v533 : Ref sig .tc := ⟨.hbm, 656, rfl⟩
abbrev main_v534 : Ref sig .tc := ⟨.hbm, 657, rfl⟩
abbrev main_v535 : Ref sig .tc := ⟨.hbm, 658, rfl⟩
abbrev main_cst_116 : Ref sig .tc := ⟨.hbm, 659, rfl⟩
abbrev main_v536 : Ref sig .tc := ⟨.hbm, 660, rfl⟩
abbrev main_v537 : Ref sig .tc := ⟨.hbm, 661, rfl⟩
abbrev main_cst_117 : Ref sig .tc := ⟨.hbm, 662, rfl⟩
abbrev main_v538 : Ref sig .tc := ⟨.hbm, 663, rfl⟩
abbrev main_v539 : Ref sig .tc := ⟨.hbm, 664, rfl⟩
abbrev main_cst_118 : Ref sig .tc := ⟨.hbm, 665, rfl⟩
abbrev main_v540 : Ref sig .tc := ⟨.hbm, 666, rfl⟩
abbrev main_v541 : Ref sig .tc := ⟨.hbm, 667, rfl⟩
abbrev main_v542 : Ref sig .tc := ⟨.hbm, 668, rfl⟩
abbrev main_cst_119 : Ref sig .tc := ⟨.hbm, 669, rfl⟩
abbrev main_v543 : Ref sig .tc := ⟨.hbm, 670, rfl⟩
abbrev main_v544 : Ref sig .tc := ⟨.hbm, 671, rfl⟩
abbrev main_v545 : Ref sig .tc := ⟨.hbm, 672, rfl⟩
abbrev main_v546 : Ref sig .tc := ⟨.hbm, 673, rfl⟩
abbrev main_cst_120 : Ref sig .tc := ⟨.hbm, 674, rfl⟩
abbrev main_v547 : Ref sig .tc := ⟨.hbm, 675, rfl⟩
abbrev main_v548 : Ref sig .tc := ⟨.hbm, 676, rfl⟩
abbrev main_cst_121 : Ref sig .tc := ⟨.hbm, 677, rfl⟩
abbrev main_v549 : Ref sig .tc := ⟨.hbm, 678, rfl⟩
abbrev main_v550 : Ref sig .tc := ⟨.hbm, 679, rfl⟩
abbrev main_cst_122 : Ref sig .tc := ⟨.hbm, 680, rfl⟩
abbrev main_v551 : Ref sig .tc := ⟨.hbm, 681, rfl⟩
abbrev main_v552 : Ref sig .tc := ⟨.hbm, 682, rfl⟩
abbrev main_v553 : Ref sig .tc := ⟨.hbm, 683, rfl⟩
abbrev main_cst_123 : Ref sig .tc := ⟨.hbm, 684, rfl⟩
abbrev main_v554 : Ref sig .tc := ⟨.hbm, 685, rfl⟩
abbrev main_v555 : Ref sig .tc := ⟨.hbm, 686, rfl⟩
abbrev main_v556 : Ref sig .tc := ⟨.hbm, 687, rfl⟩
abbrev main_v557 : Ref sig .tc := ⟨.hbm, 688, rfl⟩
abbrev main_cst_124 : Ref sig .tc := ⟨.hbm, 689, rfl⟩
abbrev main_v558 : Ref sig .tc := ⟨.hbm, 690, rfl⟩
abbrev main_v559 : Ref sig .tc := ⟨.hbm, 691, rfl⟩
abbrev main_cst_125 : Ref sig .tc := ⟨.hbm, 692, rfl⟩
abbrev main_v560 : Ref sig .tc := ⟨.hbm, 693, rfl⟩
abbrev main_v561 : Ref sig .tc := ⟨.hbm, 694, rfl⟩
abbrev main_cst_126 : Ref sig .tc := ⟨.hbm, 695, rfl⟩
abbrev main_v562 : Ref sig .tc := ⟨.hbm, 696, rfl⟩
abbrev main_v563 : Ref sig .tc := ⟨.hbm, 697, rfl⟩
abbrev main_v564 : Ref sig .tc := ⟨.hbm, 698, rfl⟩
abbrev main_cst_127 : Ref sig .tc := ⟨.hbm, 699, rfl⟩
abbrev main_v565 : Ref sig .tc := ⟨.hbm, 700, rfl⟩
abbrev main_v566 : Ref sig .tc := ⟨.hbm, 701, rfl⟩
abbrev main_v567 : Ref sig .tc := ⟨.hbm, 702, rfl⟩
abbrev main_v568 : Ref sig .tc := ⟨.hbm, 703, rfl⟩
abbrev main_cst_128 : Ref sig .tc := ⟨.hbm, 704, rfl⟩
abbrev main_v569 : Ref sig .tc := ⟨.hbm, 705, rfl⟩
abbrev main_v570 : Ref sig .tc := ⟨.hbm, 706, rfl⟩
abbrev main_cst_129 : Ref sig .tc := ⟨.hbm, 707, rfl⟩
abbrev main_v571 : Ref sig .tc := ⟨.hbm, 708, rfl⟩
abbrev main_v572 : Ref sig .tc := ⟨.hbm, 709, rfl⟩
abbrev main_cst_130 : Ref sig .tc := ⟨.hbm, 710, rfl⟩
abbrev main_v573 : Ref sig .tc := ⟨.hbm, 711, rfl⟩
abbrev main_v574 : Ref sig .tc := ⟨.hbm, 712, rfl⟩
abbrev main_v575 : Ref sig .tc := ⟨.hbm, 713, rfl⟩
abbrev main_cst_131 : Ref sig .tc := ⟨.hbm, 714, rfl⟩
abbrev main_v576 : Ref sig .tc := ⟨.hbm, 715, rfl⟩
abbrev main_v577 : Ref sig .tc := ⟨.hbm, 716, rfl⟩
abbrev main_v578 : Ref sig .tc := ⟨.hbm, 717, rfl⟩
abbrev main_v579 : Ref sig .tc := ⟨.hbm, 718, rfl⟩
abbrev main_cst_132 : Ref sig .tc := ⟨.hbm, 719, rfl⟩
abbrev main_v580 : Ref sig .tc := ⟨.hbm, 720, rfl⟩
abbrev main_v581 : Ref sig .tc := ⟨.hbm, 721, rfl⟩
abbrev main_cst_133 : Ref sig .tc := ⟨.hbm, 722, rfl⟩
abbrev main_v582 : Ref sig .tc := ⟨.hbm, 723, rfl⟩
abbrev main_v583 : Ref sig .tc := ⟨.hbm, 724, rfl⟩
abbrev main_cst_134 : Ref sig .tc := ⟨.hbm, 725, rfl⟩
abbrev main_v584 : Ref sig .tc := ⟨.hbm, 726, rfl⟩
abbrev main_v585 : Ref sig .tc := ⟨.hbm, 727, rfl⟩
abbrev main_v586 : Ref sig .tc := ⟨.hbm, 728, rfl⟩
abbrev main_cst_135 : Ref sig .tc := ⟨.hbm, 729, rfl⟩
abbrev main_v587 : Ref sig .tc := ⟨.hbm, 730, rfl⟩
abbrev main_v588 : Ref sig .tc := ⟨.hbm, 731, rfl⟩
abbrev main_v589 : Ref sig .tc := ⟨.hbm, 732, rfl⟩
abbrev main_v590 : Ref sig .tc := ⟨.hbm, 733, rfl⟩
abbrev main_cst_136 : Ref sig .tc := ⟨.hbm, 734, rfl⟩
abbrev main_v591 : Ref sig .tc := ⟨.hbm, 735, rfl⟩
abbrev main_v592 : Ref sig .tc := ⟨.hbm, 736, rfl⟩
abbrev main_cst_137 : Ref sig .tc := ⟨.hbm, 737, rfl⟩
abbrev main_v593 : Ref sig .tc := ⟨.hbm, 738, rfl⟩
abbrev main_v594 : Ref sig .tc := ⟨.hbm, 739, rfl⟩
abbrev main_cst_138 : Ref sig .tc := ⟨.hbm, 740, rfl⟩
abbrev main_v595 : Ref sig .tc := ⟨.hbm, 741, rfl⟩
abbrev main_v596 : Ref sig .tc := ⟨.hbm, 742, rfl⟩
abbrev main_v597 : Ref sig .tc := ⟨.hbm, 743, rfl⟩
abbrev main_cst_139 : Ref sig .tc := ⟨.hbm, 744, rfl⟩
abbrev main_v598 : Ref sig .tc := ⟨.hbm, 745, rfl⟩
abbrev main_v599 : Ref sig .tc := ⟨.hbm, 746, rfl⟩
abbrev main_v600 : Ref sig .tc := ⟨.hbm, 747, rfl⟩
abbrev main_v601 : Ref sig .tc := ⟨.hbm, 748, rfl⟩
abbrev main_cst_140 : Ref sig .tc := ⟨.hbm, 749, rfl⟩
abbrev main_v602 : Ref sig .tc := ⟨.hbm, 750, rfl⟩
abbrev main_v603 : Ref sig .tc := ⟨.hbm, 751, rfl⟩
abbrev main_cst_141 : Ref sig .tc := ⟨.hbm, 752, rfl⟩
abbrev main_v604 : Ref sig .tc := ⟨.hbm, 753, rfl⟩
abbrev main_v605 : Ref sig .tc := ⟨.hbm, 754, rfl⟩
abbrev main_cst_142 : Ref sig .tc := ⟨.hbm, 755, rfl⟩
abbrev main_v606 : Ref sig .tc := ⟨.hbm, 756, rfl⟩
abbrev main_v607 : Ref sig .tc := ⟨.hbm, 757, rfl⟩
abbrev main_v608 : Ref sig .tc := ⟨.hbm, 758, rfl⟩
abbrev main_cst_143 : Ref sig .tc := ⟨.hbm, 759, rfl⟩
abbrev main_v609 : Ref sig .tc := ⟨.hbm, 760, rfl⟩
abbrev main_v610 : Ref sig .tc := ⟨.hbm, 761, rfl⟩
abbrev main_v611 : Ref sig .tc := ⟨.hbm, 762, rfl⟩
abbrev main_v612 : Ref sig .tc := ⟨.hbm, 763, rfl⟩
abbrev main_cst_144 : Ref sig .tc := ⟨.hbm, 764, rfl⟩
abbrev main_v613 : Ref sig .tc := ⟨.hbm, 765, rfl⟩
abbrev main_v614 : Ref sig .tc := ⟨.hbm, 766, rfl⟩
abbrev main_cst_145 : Ref sig .tc := ⟨.hbm, 767, rfl⟩
abbrev main_v615 : Ref sig .tc := ⟨.hbm, 768, rfl⟩
abbrev main_v616 : Ref sig .tc := ⟨.hbm, 769, rfl⟩
abbrev main_cst_146 : Ref sig .tc := ⟨.hbm, 770, rfl⟩
abbrev main_v617 : Ref sig .tc := ⟨.hbm, 771, rfl⟩
abbrev main_v618 : Ref sig .tc := ⟨.hbm, 772, rfl⟩
abbrev main_v619 : Ref sig .tc := ⟨.hbm, 773, rfl⟩
abbrev main_v620 : Ref sig .tc := ⟨.hbm, 774, rfl⟩
abbrev main_v621 : Ref sig .tc := ⟨.hbm, 775, rfl⟩
abbrev main_v622 : Ref sig .tc := ⟨.hbm, 776, rfl⟩
abbrev main_v623 : Ref sig .tc := ⟨.hbm, 777, rfl⟩
abbrev main_cst_147 : Ref sig .tc := ⟨.hbm, 778, rfl⟩
abbrev main_v624 : Ref sig .tc := ⟨.hbm, 779, rfl⟩
abbrev main_v625 : Ref sig .tc := ⟨.hbm, 780, rfl⟩
abbrev main_cst_148 : Ref sig .tc := ⟨.hbm, 781, rfl⟩
abbrev main_v626 : Ref sig .tc := ⟨.hbm, 782, rfl⟩
abbrev main_v627 : Ref sig .tc := ⟨.hbm, 783, rfl⟩
abbrev main_v628 : Ref sig .tc := ⟨.hbm, 784, rfl⟩
abbrev main_v629 : Ref sig .tc := ⟨.hbm, 785, rfl⟩
abbrev main_v630 : Ref sig .tc := ⟨.hbm, 786, rfl⟩
abbrev main_v631 : Ref sig .tc := ⟨.hbm, 787, rfl⟩
abbrev main_v632 : Ref sig .tc := ⟨.hbm, 788, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S4096x2048 : Shape := ⟨2, ![4096, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x2048, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x1024 : Shape := ⟨2, ![4096, 1024]⟩
abbrev S1x1024 : Shape := ⟨2, ![1, 1024]⟩
abbrev S4096x2048 : Shape := ⟨2, ![4096, 2048]⟩
abbrev S2x2048x2048 : Shape := ⟨3, ![2, 2048, 2048]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x2048, .f32⟩
  | .hbm, ⟨4, _⟩ => ⟨S2x2048x2048, .f32⟩
  | .hbm, ⟨5, _⟩ => ⟨S2x2048x1024, .f32⟩
  | .hbm, ⟨6, _⟩ => ⟨S2x2048x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S1x1x1024, .f32⟩
  | .hbm, ⟨65, _⟩ => ⟨S_, .f32⟩
  | .hbm, ⟨66, _⟩ => ⟨S1024, .f32⟩
  | .hbm, ⟨67, _⟩ => ⟨S2x2048x1024, .f32⟩
  | .hbm, ⟨68, _⟩ => ⟨S_, .f32⟩
  | .hbm, ⟨69, _⟩ => ⟨S1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S1024, .f32⟩
  | .hbm, ⟨75, _⟩ => ⟨S2x2048x1024, .f32⟩
  | .hbm, ⟨76, _⟩ => ⟨S_, .f32⟩
  | .hbm, ⟨77, _⟩ => ⟨S2x2048, .f32⟩
  | .hbm, ⟨78, _⟩ => ⟨S2x2048x1, .f32⟩
  | .hbm, ⟨79, _⟩ => ⟨S2x2048x1024, .f32⟩
  | .hbm, ⟨80, _⟩ => ⟨S2x2048x1024, .f32⟩
  | .hbm, ⟨81, _⟩ => ⟨S2x2048x1, .f32⟩
  | .hbm, ⟨82, _⟩ => ⟨S2x2048x1024, .f32⟩
  | .hbm, ⟨83, _⟩ => ⟨S_, .f32⟩
  | .hbm, ⟨84, _⟩ => ⟨S2x2048, .f32⟩
  | .hbm, ⟨85, _⟩ => ⟨S2x2048x1, .f32⟩
  | .hbm, ⟨86, _⟩ => ⟨S_, .f32⟩
  | .hbm, ⟨87, _⟩ => ⟨S2x2048x1, .f32⟩
  | .hbm, ⟨88, _⟩ => ⟨S2x2048x1, .f32⟩
  | .hbm, ⟨89, _⟩ => ⟨S_, .f32⟩
  | .hbm, ⟨90, _⟩ => ⟨S2x2048, .f32⟩
  | .hbm, ⟨91, _⟩ => ⟨S2x2048x1024, .f32⟩
  | .hbm, ⟨92, _⟩ => ⟨S2x2048x1024, .f32⟩
  | .hbm, ⟨93, _⟩ => ⟨S2x2048x1024, .f32⟩
  | .hbm, ⟨94, _⟩ => ⟨S_, .f32⟩
  | .hbm, ⟨95, _⟩ => ⟨S2x2048, .f32⟩
  | .hbm, ⟨96, _⟩ => ⟨S2x2048x1, .f32⟩
  | .hbm, ⟨97, _⟩ => ⟨S2x2048x1024, .f32⟩
  | .hbm, ⟨98, _⟩ => ⟨S2x2048x1, .f32⟩
  | .hbm, ⟨99, _⟩ => ⟨S_, .f32⟩
  | .hbm, ⟨100, _⟩ => ⟨S2x2048x1, .f32⟩
  | .hbm, ⟨101, _⟩ => ⟨S2x2048x1, .f32⟩
  | .hbm, ⟨102, _⟩ => ⟨S_, .f32⟩
  | .hbm, ⟨103, _⟩ => ⟨S2x2048, .f32⟩
  | .hbm, ⟨104, _⟩ => ⟨S2x2048x1024, .f32⟩
  | .hbm, ⟨105, _⟩ => ⟨S2x2048x1024, .f32⟩
  | .hbm, ⟨106, _⟩ => ⟨S4096x1024, .f32⟩
  | .hbm, ⟨107, _⟩ => ⟨S1x1024, .f32⟩
  | .hbm, ⟨108, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v34_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v34_1 : Ref sig .tc := ⟨.hbm, 56, rfl⟩
abbrev main_v34_0 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== MlpW.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpWIdeal.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpWRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpR.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpRRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== MlpFwd.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x4096, .bf16⟩
  | .hbm, ⟨4, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpFwdRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== CdInW.lean ====
abbrev S4096x5120 : Shape := ⟨2, ![4096, 5120]⟩
abbrev S4096x1024 : Shape := ⟨2, ![4096, 1024]⟩
abbrev S4096x5x8x128 : Shape := ⟨4, ![4096, 5, 8, 128]⟩
abbrev S4096x8x5x128 : Shape := ⟨4, ![4096, 8, 5, 128]⟩
abbrev S5120x1024 : Shape := ⟨2, ![5120, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S4096x5x8x128, .bf16⟩
  | .hbm, ⟨3, _⟩ => ⟨S4096x8x5x128, .bf16⟩
  | .hbm, ⟨4, _⟩ => ⟨S4096x5120, .bf16⟩
  | .hbm, ⟨5, _⟩ => ⟨S5120x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdInWRefIdeal.lean ====
abbrev S4096x5120 : Shape := ⟨2, ![4096, 5120]⟩
abbrev S4096x1024 : Shape := ⟨2, ![4096, 1024]⟩
abbrev S_ : Shape := ⟨0, ![]⟩
abbrev S1024x5120 : Shape := ⟨2, ![1024, 5120]⟩
abbrev S5120x1024 : Shape := ⟨2, ![5120, 1024]⟩
abbrev S5x8x128x1024 : Shape := ⟨4, ![5, 8, 128, 1024]⟩
abbrev S8x5x128x1024 : Shape := ⟨4, ![8, 5, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x1024, .bf16⟩
  | .hbm, ⟨2, _⟩ => ⟨S4096x1024, .f32⟩
  | .hbm, ⟨3, _⟩ => ⟨S4096x5120, .f32⟩
  | .hbm, ⟨4, _⟩ => ⟨S_, .f32⟩
  | .hbm, ⟨5, _⟩ => ⟨S1024x5120, .f32⟩
  | .hbm, ⟨6, _⟩ => ⟨S4096x5120, .f32⟩
  | .hbm, ⟨7, _⟩ => ⟨S5120x1024, .f32⟩
  | .hbm, ⟨8, _⟩ => ⟨S1024x5120, .f32⟩
  | .hbm, ⟨9, _⟩ => ⟨S5120x1024, .f32⟩
  | .hbm, ⟨10, _⟩ => ⟨S5x8x128x1024, .f32⟩
  | .hbm, ⟨11, _⟩ => ⟨S8x5x128x1024, .f32⟩
  | .hbm, ⟨12, _⟩ => ⟨S5120x1024, .f32⟩
  | .hbm, ⟨13, _⟩ => ⟨S5120x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== CdIn.lean ====
abbrev S4096x1024 : Shape := ⟨2, ![4096, 1024]⟩
abbrev S1024x5120 : Shape := ⟨2, ![1024, 5120]⟩
abbrev S5120x1024 : Shape := ⟨2, ![5120, 1024]⟩
abbrev S5x8x128x1024 : Shape := ⟨4, ![5, 8, 128, 1024]⟩
abbrev S8x5x128x1024 : Shape := ⟨4, ![8, 5, 128, 1024]⟩
abbrev S4096x5120 : Shape := ⟨2, ![4096, 5120]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S5120x1024, .bf16⟩
  | .hbm, ⟨3, _⟩ => ⟨S5x8x128x1024, .bf16⟩
  | .hbm, ⟨4, _⟩ => ⟨S8x5x128x1024, .bf16⟩
  | .hbm, ⟨5, _⟩ => ⟨S5120x1024, .bf16⟩
  | .hbm, ⟨6, _⟩ => ⟨S4096x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CdInRefIdeal.lean ====
abbrev S4096x1024 : Shape := ⟨2, ![4096, 1024]⟩
abbrev S1024x5120 : Shape := ⟨2, ![1024, 5120]⟩
abbrev S4096x5120 : Shape := ⟨2, ![4096, 5120]⟩
abbrev S4096x5x8x128 : Shape := ⟨4, ![4096, 5, 8, 128]⟩
abbrev S4096x8x5x128 : Shape := ⟨4, ![4096, 8, 5, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5120, .bf16⟩
  | .hbm, ⟨2, _⟩ => ⟨S4096x1024, .f32⟩
  | .hbm, ⟨3, _⟩ => ⟨S1024x5120, .f32⟩
  | .hbm, ⟨4, _⟩ => ⟨S4096x5120, .f32⟩
  | .hbm, ⟨5, _⟩ => ⟨S4096x5x8x128, .f32⟩
  | .hbm, ⟨6, _⟩ => ⟨S4096x8x5x128, .f32⟩
  | .hbm, ⟨7, _⟩ => ⟨S4096x5120, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnO.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnORefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnQ.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnQRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutIdeal.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S2048x1024, .f32⟩
  | .hbm, ⟨3, _⟩ => ⟨S4096x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnW.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnWIdeal.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnWRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixW.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWIdeal.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HMlp.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== HMlpRefIdeal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1024x4096, .f32⟩
  | .hbm, ⟨8, _⟩ => ⟨S_, .f32⟩
  | .hbm, ⟨9, _⟩ => ⟨S4096x1024, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S1024, .f32⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S4096x1024, .f32⟩
  | .hbm, ⟨92, _⟩ => ⟨S_, .f32⟩
  | .hbm, ⟨93, _⟩ => ⟨S4096, .f32⟩
  | .hbm, ⟨94, _⟩ => ⟨S4096x1, .f32⟩
  | .hbm, ⟨95, _⟩ => ⟨S4096x1024, .f32⟩
  | .hbm, ⟨96, _⟩ => ⟨S4096x1024, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .bf16⟩
  | .hbm, ⟨109, _⟩ => ⟨S1x1024, .f32⟩
  | .hbm, ⟨110, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== MlpOut.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MlpOutIdeal.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MlpOutRefIdeal.lean ====
abbrev S4096x4096 : Shape := ⟨2, ![4096, 4096]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== CdOut.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== CdOutIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== CdOutRefIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2048, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== AttnOut.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AttnOutIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AttnOutRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== AbOut.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S1024x1536 : Shape := ⟨2, ![1024, 1536]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AbOutRefIdeal.lean ====
abbrev S4096x1536 : Shape := ⟨2, ![4096, 1536]⟩
abbrev S1536x1024 : Shape := ⟨2, ![1536, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1536, .f32⟩
  | .hbm, ⟨6, _⟩ => ⟨S1536x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== AbMix.lean ====
abbrev S4096x1024 : Shape := ⟨2, ![4096, 1024]⟩
abbrev S1536x1024 : Shape := ⟨2, ![1536, 1024]⟩
abbrev S4096x1536 : Shape := ⟨2, ![4096, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbMixRefIdeal.lean ====
abbrev S4096x1024 : Shape := ⟨2, ![4096, 1024]⟩
abbrev S1536x1024 : Shape := ⟨2, ![1536, 1024]⟩
abbrev S_ : Shape := ⟨0, ![]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S1536x1024, .f32⟩
  | .hbm, ⟨3, _⟩ => ⟨S4096x1024, .f32⟩
  | .hbm, ⟨4, _⟩ => ⟨S_, .f32⟩
  | .hbm, ⟨5, _⟩ => ⟨S4096x1536, .f32⟩
  | .hbm, ⟨6, _⟩ => ⟨S4096x1024, .f32⟩
  | .hbm, ⟨7, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbW.lean ====
abbrev S4096x1536 : Shape := ⟨2, ![4096, 1536]⟩
abbrev S4096x1024 : Shape := ⟨2, ![4096, 1024]⟩
abbrev S1536x1024 : Shape := ⟨2, ![1536, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbWIdeal.lean ====
abbrev S4096x1536 : Shape := ⟨2, ![4096, 1536]⟩
abbrev S4096x1024 : Shape := ⟨2, ![4096, 1024]⟩
abbrev S1536x1024 : Shape := ⟨2, ![1536, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbWRefIdeal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S4096x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbInW.lean ====
abbrev S4096x3200 : Shape := ⟨2, ![4096, 3200]⟩
abbrev S4096x1024 : Shape := ⟨2, ![4096, 1024]⟩
abbrev S3200x1024 : Shape := ⟨2, ![3200, 1024]⟩
abbrev S4096x640 : Shape := ⟨2, ![4096, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S3200x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInWRefIdeal.lean ====
abbrev S4096x3200 : Shape := ⟨2, ![4096, 3200]⟩
abbrev S4096x1024 : Shape := ⟨2, ![4096, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S4096x3200, .f32⟩
  | .hbm, ⟨3, _⟩ => ⟨S4096x1024, .f32⟩
  | .hbm, ⟨4, _⟩ => ⟨S_, .f32⟩
  | .hbm, ⟨5, _⟩ => ⟨S1024x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kv.lean ====
abbrev S2x256x1024 : Shape := ⟨3, ![2, 256, 1024]⟩
abbrev S1024x2048 : Shape := ⟨2, ![1024, 2048]⟩
abbrev S512x1024 : Shape := ⟨2, ![512, 1024]⟩
abbrev S2048x1024 : Shape := ⟨2, ![2048, 1024]⟩
abbrev S512x2048 : Shape := ⟨2, ![512, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1024x2048, .bf16⟩
  | .hbm, ⟨2, _⟩ => ⟨S512x1024, .f32⟩
  | .hbm, ⟨3, _⟩ => ⟨S2048x1024, .bf16⟩
  | .hbm, ⟨4, _⟩ => ⟨S512x2048, .bf16⟩
  | .local _ .vmem, ⟨0, _⟩ => ⟨S512x1024, .f32⟩
  | .local _ .vmem, ⟨1, _⟩ => ⟨S1024x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S2x256x1024 : Shape := ⟨3, ![2, 256, 1024]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x2048, .bf16⟩
  | .hbm, ⟨2, _⟩ => ⟨S1024x2048, .f32⟩
  | .hbm, ⟨3, _⟩ => ⟨S2x256x2048, .f32⟩
  | .hbm, ⟨4, _⟩ => ⟨S512x2048, .f32⟩
  | .hbm, ⟨5, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvW.lean ====
abbrev S512x2048 : Shape := ⟨2, ![512, 2048]⟩
abbrev S2x256x1024 : Shape := ⟨3, ![2, 256, 1024]⟩
abbrev S512x1024 : Shape := ⟨2, ![512, 1024]⟩
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2x256x1024, .f32⟩
  | .hbm, ⟨2, _⟩ => ⟨S512x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1024x1024, .bf16⟩
  | .local _ .vmem, ⟨4, _⟩ => ⟨S1024x1024, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S512x2048 : Shape := ⟨2, ![512, 2048]⟩
abbrev S2x256x1024 : Shape := ⟨3, ![2, 256, 1024]⟩
abbrev S512x1024 : Shape := ⟨2, ![512, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x256x1024, .f32⟩
  | .hbm, ⟨2, _⟩ => ⟨S512x1024, .f32⟩
  | .hbm, ⟨3, _⟩ => ⟨S_, .f32⟩
  | .hbm, ⟨4, _⟩ => ⟨S1024x2048, .f32⟩
  | .hbm, ⟨5, _⟩ => ⟨S512x2048, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormIn.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AbIn.lean ====
abbrev S4096x1024 : Shape := ⟨2, ![4096, 1024]⟩
abbrev S1024x3200 : Shape := ⟨2, ![1024, 3200]⟩
abbrev S3200x1024 : Shape := ⟨2, ![3200, 1024]⟩
abbrev S4096x3200 : Shape := ⟨2, ![4096, 3200]⟩
abbrev S1024x1024 : Shape := ⟨2, ![1024, 1024]⟩
abbrev S640x1024 : Shape := ⟨2, ![640, 1024]⟩
abbrev S1024x640 : Shape := ⟨2, ![1024, 640]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S3200x1024, .bf16⟩
  | .hbm, ⟨3, _⟩ => ⟨S4096x3200, .f32⟩
  | .local _ .vmem, ⟨0, _⟩ => ⟨S1024x1024, .bf16⟩
  | .local _ .vmem, ⟨1, _⟩ => ⟨S1024x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .f32⟩
  | .hbm, ⟨3, _⟩ => ⟨S1024x3200, .f32⟩
  | .hbm, ⟨4, _⟩ => ⟨S4096x3200, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.ReduceLead.lean ====
/- Sums along the two leading axes of a rank-3 array, read at an index of the kept axis: the form in which a
   bias or scale gradient of a batch of sequences leaves its sum over batch and position. -/
module

public import Idealize.ShloMosaic.Lib.Pointwise

@[expose] public section

noncomputable section

namespace ReduceLead

open Idealize.ShloMosaic

variable {A B C : Nat}

/-- The host's sum over axes 0 and 1 of a rank-3 array at kept index `k`: the initial value plus the double sum. -/
theorem hostReduceAdd_lead (h : (⟨3, ![A, B, C]⟩ : Shape).ReducesTo [0, 1] ⟨1, ![C]⟩)
    (v : (⟨3, ![A, B, C]⟩ : Shape).Idx → EReal) (init : EReal) (k : Fin C) :
    Ideal.hostReduceAdd h v init (ix1 k) = init + ∑ p : Fin A, ∑ s : Fin B, v (ix3 p s k) := by
  unfold Ideal.hostReduceAdd
  rw [Finset.sum_filter_eq_sum_of_fiber (κ := Fin A × Fin B) _ (fun q => ix3 q.1 q.2 k)
    (fun _ _ e => Prod.ext (congrFun e 0) (congrFun e 1)) ?_ v, Fintype.sum_prod_type]
  intro i
  constructor
  · intro e
    refine ⟨(i 0, i 1), ?_⟩
    funext a
    match a with
    | ⟨0, _⟩ => rfl
    | ⟨1, _⟩ => rfl
    | ⟨2, _⟩ => exact Fin.ext (congrArg Fin.val (congrFun e 0)).symm
  · rintro ⟨q, rfl⟩
    funext b
    match b with
    | ⟨0, _⟩ => rfl

/-- A sum over `A` groups of `B` positions is the sum over `A'` groups of `B'` positions, when both count the
    same positions in order. -/
theorem sum_regroup {M : Type*} [AddCommMonoid M] {N : Nat} (A B A' B' : Nat) (h : A * B = N) (h' : A' * B' = N)
    (f : Fin N → M) :
    (∑ p : Fin A, ∑ s : Fin B, f ⟨p.val * B + s.val, by
        calc p.val * B + s.val < p.val * B + B := by omega
          _ = (p.val + 1) * B := by ring
          _ ≤ A * B := Nat.mul_le_mul_right _ p.isLt
          _ = N := h⟩)
      = ∑ p : Fin A', ∑ s : Fin B', f ⟨p.val * B' + s.val, by
        calc p.val * B' + s.val < p.val * B' + B' := by omega
          _ = (p.val + 1) * B' := by ring
          _ ≤ A' * B' := Nat.mul_le_mul_right _ p.isLt
          _ = N := h'⟩ := by
  rw [← Fin.sum_univ_tiles A B h f, ← Fin.sum_univ_tiles A' B' h' f]

end ReduceLead

end
-- ==== Proof.ConvSeq.lean ====
/- The gradient of a causal depthwise convolution and of the gates around it, one channel at a time. -/
module

public import proofs.«01_k».proof.Proof.ReduceLead
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace ConvSeq

/-- One channel of one sequence. -/
abbrev Seq := Fin 2048 → EReal

/-- The channel delayed by `k` steps, zero before its start. -/
def dn (x : Seq) (k : ℕ) : Seq := fun s => if h : s.val < k then 0 else x ⟨s.val - k, by omega⟩
/-- The channel advanced by `k` steps, zero past its end. -/
def up (x : Seq) (k : ℕ) : Seq := fun s => if h : s.val + k < 2048 then x ⟨s.val + k, h⟩ else 0

/-- The gradient of a causal convolution's argument, from the gradient `g` of its result. -/
def back {n : ℕ} (g : Seq) (w : Fin (n + 1) → EReal) : Seq := fun s => ∑ j, up g (n - j.val) s * w j
/-- The causal convolution. -/
def fwd {n : ℕ} (x : Seq) (w : Fin (n + 1) → EReal) : Seq := fun s => ∑ j, dn x (n - j.val) s * w j
/-- The gradient of the weights. -/
def dw {n : ℕ} (x g : Seq) (j : Fin (n + 1)) : EReal := ∑ s, g s * dn x (n - j.val) s

/-- The part of the projection's gradient in its strip `q`, from the five strips `u`, the weights of the two
    convolutions and the gradients of the two results. -/
def du (u : Fin 5 → Seq) (w : Fin 31 → EReal) (v : Fin 3 → EReal) (g d : Seq) (s : Fin 2048) : Fin 5 → EReal :=
  ![back g w s * Ideal.logistic (u 1 s),
    u 0 s * back g w s * (Ideal.logistic (u 1 s) * (1 - Ideal.logistic (u 1 s))),
    d s * fwd (fun s => u 3 s * u 4 s) v s,
    back (fun s => u 2 s * d s) v s * u 4 s,
    u 3 s * back (fun s => u 2 s * d s) v s]

theorem up_zero (x : Seq) (s : Fin 2048) : up x 0 s = x s := by simp [up]
theorem dn_zero (x : Seq) (s : Fin 2048) : dn x 0 s = x s := by simp [dn]

/-- Reading past the end of a channel padded with zeros. -/
theorem up_of (x : Seq) (n k : ℕ) (s : Fin 2048) (h : n < 2048 ∨ s.val + k < 2048 → n = s.val + k) :
    (if h : n < 2048 then x ⟨n, h⟩ else 0) = up x k s := by
  unfold up
  split_ifs with h1 h2 h2
  · exact congrArg x (Fin.ext (h (.inl h1)))
  · exact absurd ((h (.inl h1)) ▸ h1) h2
  · exact absurd ((h (.inr h2)).symm ▸ h2) h1
  · rfl
/-- Reading before the start of a channel padded with `c` zeros. -/
theorem dn_of (x : Seq) (n c k : ℕ) (s : Fin 2048) (hn : ∀ h : ¬ n < c, n - c < 2048)
    (h : n < c ↔ s.val < k) (h' : ¬ n < c → n - c = s.val - k) :
    (if h : n < c then 0 else x ⟨n - c, hn h⟩) = dn x k s := by
  unfold dn
  split_ifs with h1 h2 h2
  · rfl
  · exact absurd (h.mp h1) h2
  · exact absurd (h.mpr h2) h1
  · exact congrArg x (Fin.ext (h' h1))

/-- A product padded by `j` zeros in front and read `m` places on. -/
theorem pad_of (x : Seq) (m : ℕ) (s : Fin 2048) (a : EReal) (j : ℕ) (hj : j ≤ m) :
    (if h : j ≤ m + s.val ∧ m + s.val - j < 2048 then x ⟨m + s.val - j, h.2⟩ * a else 0) = up x (m - j) s * a := by
  have e : m + s.val - j = s.val + (m - j) := by omega
  unfold up
  split_ifs with h1 h2 h2
  · exact congrArg (x · * a) (Fin.ext e)
  · exact absurd (e ▸ h1.2) h2
  · exact absurd ⟨by omega, e.symm ▸ h2⟩ h1
  · exact (zero_mul a).symm
theorem pad_zero (x : Seq) (m : ℕ) (s : Fin 2048) (a : EReal) :
    (if h : m + s.val < 2048 then x ⟨m + s.val, h⟩ * a else 0) = up x m s * a := by
  unfold up
  simp only [Nat.add_comm m]
  split_ifs with h1
  · rfl
  · exact (zero_mul a).symm

end ConvSeq
-- ==== Proof.ConvTaps.lean ====
/- The shifted channels of the kernel's body, and the two sums over the long convolution's taps. -/
module

public import proofs.«01_k».proof.Proof.ConvSeq
public import proofs.«01_k».proof.Proof.Gen.ConvBwdIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace ConvKernel

open Cert.ConvBwdIdeal Cert.ConvBwdIdeal.Gen ConvSeq

variable (u : Vec Ideal S2048x640 .f32) (w : Vec Ideal S31x128 .f32) (v : Vec Ideal S3x128 .f32)
  (g d : Vec Ideal S2048x128 .f32) (x : FVec Ideal S2048x128 .f32)

/-- Channel `l` of a tile. -/
abbrev col (x : Vec Ideal S2048x128 .f32) (l : Fin 128) : Seq := fun s => x (ix2 s l)
/-- Channel `l` of strip `q`. -/
abbrev strip (u : Vec Ideal S2048x640 .f32) (l : Fin 128) (q : Fin 5) : Seq :=
  fun s => u (ix2 s ⟨q.val * 128 + l.val, by omega⟩)

set_option maxHeartbeats 1000000 in
/-- The kernel's advanced channels: a rotation of the padded channel, then a slice. -/
theorem ups (s : Fin 2048) (l : Fin 128) :
    k0_pay36 (F := Ideal) g (ix2 s l) = up (col g l) 1 s ∧
    k0_pay38 (F := Ideal) g (ix2 s l) = up (col g l) 2 s ∧
    k0_pay40 (F := Ideal) g (ix2 s l) = up (col g l) 3 s ∧
    k0_pay42 (F := Ideal) g (ix2 s l) = up (col g l) 4 s ∧
    k0_pay44 (F := Ideal) g (ix2 s l) = up (col g l) 5 s ∧
    k0_pay46 (F := Ideal) g (ix2 s l) = up (col g l) 6 s ∧
    k0_pay48 (F := Ideal) g (ix2 s l) = up (col g l) 7 s ∧
    k0_pay49 (F := Ideal) g (ix2 s l) = up (col g l) 8 s ∧
    k0_pay50 (F := Ideal) g (ix2 s l) = up (col g l) 9 s ∧
    k0_pay51 (F := Ideal) g (ix2 s l) = up (col g l) 10 s ∧
    k0_pay52 (F := Ideal) g (ix2 s l) = up (col g l) 11 s ∧
    k0_pay53 (F := Ideal) g (ix2 s l) = up (col g l) 12 s ∧
    k0_pay54 (F := Ideal) g (ix2 s l) = up (col g l) 13 s ∧
    k0_pay55 (F := Ideal) g (ix2 s l) = up (col g l) 14 s ∧
    k0_pay56 (F := Ideal) g (ix2 s l) = up (col g l) 15 s ∧
    k0_pay57 (F := Ideal) g (ix2 s l) = up (col g l) 16 s ∧
    k0_pay58 (F := Ideal) g (ix2 s l) = up (col g l) 17 s ∧
    k0_pay59 (F := Ideal) g (ix2 s l) = up (col g l) 18 s ∧
    k0_pay60 (F := Ideal) g (ix2 s l) = up (col g l) 19 s ∧
    k0_pay61 (F := Ideal) (k0_pay41 g) (ix2 s l) = up (col g l) 20 s ∧
    k0_pay62 (F := Ideal) (k0_pay43 g) (ix2 s l) = up (col g l) 21 s ∧
    k0_pay63 (F := Ideal) (k0_pay45 g) (ix2 s l) = up (col g l) 22 s ∧
    k0_pay64 (F := Ideal) (k0_pay47 g) (ix2 s l) = up (col g l) 23 s ∧
    k0_pay65 (F := Ideal) (k0_pay34 g) (ix2 s l) = up (col g l) 24 s ∧
    k0_pay66 (F := Ideal) (k0_pay35 g) (ix2 s l) = up (col g l) 25 s ∧
    k0_pay67 (F := Ideal) (k0_pay37 g) (ix2 s l) = up (col g l) 26 s ∧
    k0_pay68 (F := Ideal) (k0_pay39 g) (ix2 s l) = up (col g l) 27 s ∧
    k0_pay69 (F := Ideal) (k0_pay41 g) (ix2 s l) = up (col g l) 28 s ∧
    k0_pay70 (F := Ideal) (k0_pay43 g) (ix2 s l) = up (col g l) 29 s ∧
    k0_pay71 (F := Ideal) (k0_pay45 g) (ix2 s l) = up (col g l) 30 s := by
  refine ⟨?_, ?_, ?_, ?_, ?_, ?_, ?_, ?_, ?_, ?_, ?_, ?_, ?_, ?_, ?_,
    ?_, ?_, ?_, ?_, ?_, ?_, ?_, ?_, ?_, ?_, ?_, ?_, ?_, ?_, ?_⟩ <;>
    (pointwise [
      k0_pay30, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62,
      k0_pay63, k0_pay64, k0_pay65, k0_pay66, k0_pay67, k0_pay68, k0_pay69, k0_pay70, k0_pay71]
     exact up_of (col g l) _ _ s (by omega))
set_option maxHeartbeats 1000000 in
/-- The kernel's delayed channels. -/
theorem dns (s : Fin 2048) (l : Fin 128) :
    k0_pay74 (F := Ideal) x (ix2 s l) = dn (col x l) 1 s ∧
    k0_pay76 (F := Ideal) x (ix2 s l) = dn (col x l) 2 s ∧
    k0_pay78 (F := Ideal) x (ix2 s l) = dn (col x l) 3 s ∧
    k0_pay80 (F := Ideal) x (ix2 s l) = dn (col x l) 4 s ∧
    k0_pay82 (F := Ideal) x (ix2 s l) = dn (col x l) 5 s ∧
    k0_pay84 (F := Ideal) x (ix2 s l) = dn (col x l) 6 s ∧
    k0_pay86 (F := Ideal) x (ix2 s l) = dn (col x l) 7 s ∧
    k0_pay87 (F := Ideal) x (ix2 s l) = dn (col x l) 8 s ∧
    k0_pay88 (F := Ideal) x (ix2 s l) = dn (col x l) 9 s ∧
    k0_pay89 (F := Ideal) x (ix2 s l) = dn (col x l) 10 s ∧
    k0_pay90 (F := Ideal) x (ix2 s l) = dn (col x l) 11 s ∧
    k0_pay91 (F := Ideal) x (ix2 s l) = dn (col x l) 12 s ∧
    k0_pay92 (F := Ideal) x (ix2 s l) = dn (col x l) 13 s ∧
    k0_pay93 (F := Ideal) x (ix2 s l) = dn (col x l) 14 s ∧
    k0_pay94 (F := Ideal) x (ix2 s l) = dn (col x l) 15 s ∧
    k0_pay95 (F := Ideal) x (ix2 s l) = dn (col x l) 16 s ∧
    k0_pay96 (F := Ideal) x (ix2 s l) = dn (col x l) 17 s ∧
    k0_pay97 (F := Ideal) x (ix2 s l) = dn (col x l) 18 s ∧
    k0_pay98 (F := Ideal) x (ix2 s l) = dn (col x l) 19 s ∧
    k0_pay99 (F := Ideal) x (ix2 s l) = dn (col x l) 20 s ∧
    k0_pay100 (F := Ideal) x (ix2 s l) = dn (col x l) 21 s ∧
    k0_pay101 (F := Ideal) x (ix2 s l) = dn (col x l) 22 s ∧
    k0_pay102 (F := Ideal) x (ix2 s l) = dn (col x l) 23 s ∧
    k0_pay103 (F := Ideal) x (ix2 s l) = dn (col x l) 24 s ∧
    k0_pay104 (F := Ideal) x (ix2 s l) = dn (col x l) 25 s ∧
    k0_pay105 (F := Ideal) x (ix2 s l) = dn (col x l) 26 s ∧
    k0_pay106 (F := Ideal) x (ix2 s l) = dn (col x l) 27 s ∧
    k0_pay107 (F := Ideal) x (ix2 s l) = dn (col x l) 28 s ∧
    k0_pay108 (F := Ideal) x (ix2 s l) = dn (col x l) 29 s ∧
    k0_pay109 (F := Ideal) x (ix2 s l) = dn (col x l) 30 s := by
  refine ⟨?_, ?_, ?_, ?_, ?_, ?_, ?_, ?_, ?_, ?_, ?_, ?_, ?_, ?_, ?_,
    ?_, ?_, ?_, ?_, ?_, ?_, ?_, ?_, ?_, ?_, ?_, ?_, ?_, ?_, ?_⟩ <;>
    (pointwise [
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109]
     exact dn_of (col x l) _ _ _ s (by omega) (by omega) (by omega))
/-- The gradient of the long convolution's argument. -/
abbrev long : FVec Ideal S2048x128 .f32 :=
  k0_pay135 (k0_pay8 w) (k0_pay38 g) (k0_pay40 g) (k0_pay42 g) (k0_pay44 g) (k0_pay131 (k0_pay8 w) (k0_pay46 g)
    (k0_pay48 g) (k0_pay49 g) (k0_pay129 (k0_pay8 w) (k0_pay50 g) (k0_pay51 g) (k0_pay52 g) (k0_pay53 g)
    (k0_pay125 (k0_pay8 w) (k0_pay54 g) (k0_pay55 g) (k0_pay56 g) (k0_pay123 (k0_pay8 w) (k0_pay57 g) (k0_pay58
    g) (k0_pay59 g) (k0_pay60 g) (k0_pay119 (k0_pay8 w) (k0_pay61 (k0_pay41 g)) (k0_pay62 (k0_pay43 g))
    (k0_pay63 (k0_pay45 g)) (k0_pay115 (k0_pay8 w) (k0_pay65 (k0_pay34 g)) (k0_pay66 (k0_pay35 g)) (k0_pay67
    (k0_pay37 g)) (k0_pay112 (k0_pay8 w) (k0_pay32 (k0_pay8 w) g) (k0_pay68 (k0_pay39 g)) (k0_pay69 (k0_pay41
    g)) (k0_pay70 (k0_pay43 g)) (k0_pay71 (k0_pay45 g)) (k0_pay110 (k0_pay8 w)))) (k0_pay117 (k0_pay8 w)
    (k0_pay64 (k0_pay47 g))))))))

theorem long_eq (s : Fin 2048) (l : Fin 128) :
    long w g (ix2 s l) + up (col g l) 1 s * w (ix2 29 l) = back (col g l) (fun j : Fin 31 => w (ix2 j l)) s := by
  pointwise [
    k0_pay8, k0_pay30, k0_pay32, k0_pay110, k0_pay112, k0_pay115, k0_pay117, k0_pay119, k0_pay123, k0_pay125,
    k0_pay129, k0_pay131, k0_pay135, ups]
  show _ = ∑ j : Fin 31, _
  simp [Fin.sum_univ_ofNat, up_zero]
  abel
/-- The gradient of the long convolution's weights over one sequence. -/
abbrev taps : FVec Ideal S31x128 .f32 :=
  k0_pay137 (k0_pay30 g) (iota .tc S31x128 32 [0] iota_S31x128_d0_w32) (k0_pay74 x) (k0_pay76 x) (k0_pay134
    (k0_pay30 g) (iota .tc S31x128 32 [0] iota_S31x128_d0_w32) (k0_pay78 x) (k0_pay80 x) (k0_pay82 x)
    (k0_pay130 (k0_pay30 g) (iota .tc S31x128 32 [0] iota_S31x128_d0_w32) (k0_pay86 x) (k0_pay87 x) (k0_pay88
    x) (k0_pay128 (k0_pay30 g) (iota .tc S31x128 32 [0] iota_S31x128_d0_w32) (k0_pay89 x) (k0_pay90 x)
    (k0_pay91 x) (k0_pay124 (k0_pay30 g) (iota .tc S31x128 32 [0] iota_S31x128_d0_w32) (k0_pay93 x) (k0_pay94
    x) (k0_pay95 x) (k0_pay122 (k0_pay30 g) (iota .tc S31x128 32 [0] iota_S31x128_d0_w32) (k0_pay96 x)
    (k0_pay97 x) (k0_pay98 x) (k0_pay118 (k0_pay30 g) (iota .tc S31x128 32 [0] iota_S31x128_d0_w32) (k0_pay100
    x) (k0_pay101 x) (k0_pay102 x) (k0_pay116 (k0_pay30 g) (iota .tc S31x128 32 [0] iota_S31x128_d0_w32)
    (k0_pay103 x) (k0_pay104 x) (k0_pay105 x) (k0_pay111 (k0_pay30 g) (iota .tc S31x128 32 [0]
    iota_S31x128_d0_w32) (k0_pay33 x g) (k0_pay107 x) (k0_pay108 x) (k0_pay109 x)) (k0_pay113 (iota .tc S31x128
    32 [0] iota_S31x128_d0_w32)) (k0_pay114 (k0_pay30 g) (k0_pay106 x)))) (k0_pay120 (iota .tc S31x128 32 [0]
    iota_S31x128_d0_w32)) (k0_pay121 (k0_pay30 g) (k0_pay99 x)) (FloatOps.ofBits FTy.f32 0#32))) (k0_pay126
    (iota .tc S31x128 32 [0] iota_S31x128_d0_w32)) (FloatOps.ofBits FTy.f32 0#32) (k0_pay127 (k0_pay30 g)
    (k0_pay92 x))) 21#32) (k0_pay132 (iota .tc S31x128 32 [0] iota_S31x128_d0_w32)) (FloatOps.ofBits FTy.f32
    0#32) (k0_pay133 (k0_pay30 g) (k0_pay84 x))) k0_pay136

theorem taps_eq (j : Fin 31) (l : Fin 128) : taps g x (ix2 j l) = dw (col x l) (col g l) j := by
  pointwise [
    k0_pay30, k0_pay33, k0_pay111, k0_pay113, k0_pay114, k0_pay116, k0_pay118, k0_pay120, k0_pay121, k0_pay122,
    k0_pay124, k0_pay126, k0_pay127, k0_pay128, k0_pay130, k0_pay132, k0_pay133, k0_pay134, k0_pay136,
    k0_pay137, dns]
  fin_cases j <;> simp [Scalar.select, IntOp.cmpi, dw, dn_zero]

end ConvKernel
-- ==== Proof.ConvKernel.lean ====
/- What the kernel's body computes for one channel. -/
module

public import proofs.«01_k».proof.Proof.ConvTaps
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace ConvKernel

open Cert.ConvBwdIdeal Cert.ConvBwdIdeal.Gen ConvSeq

variable (u : Vec Ideal S2048x640 .f32) (w : Vec Ideal S31x128 .f32) (v : Vec Ideal S3x128 .f32)
  (g d : Vec Ideal S2048x128 .f32) (x : FVec Ideal S2048x128 .f32)

theorem pay15 (s : Fin 2048) (l : Fin 128) :
    k0_pay15 (F := Ideal) u (ix2 s l) = strip u l 0 s * Ideal.logistic (strip u l 1 s) := by
  pointwise! [k0_pay15, k0_pay10, k0_pay13, k0_pay7, Ideal.logistic, strip]
theorem pay16 (s : Fin 2048) (l : Fin 128) :
    k0_pay16 (F := Ideal) u (ix2 s l) = strip u l 3 s * strip u l 4 s := by
  pointwise! [k0_pay16, k0_pay11, k0_pay12, k0_pay7, strip]
theorem pay17 (s : Fin 2048) (l : Fin 128) :
    k0_pay17 (F := Ideal) u d (ix2 s l) = strip u l 2 s * col d l s := by
  pointwise! [k0_pay17, k0_pay7, strip]
theorem pay23 (x y : FVec Ideal S2048x128 .f32) (s : Fin 2048) (l : Fin 128) :
    k0_pay23 (F := Ideal) (k0_pay9 v) x y (ix2 s l)
      = y (ix2 s l) + up (col x l) 2 s * v (ix2 0 l) + up (col x l) 1 s * v (ix2 1 l) := by
  pointwise [k0_pay23, k0_pay9]
  exact congrArg₂ (· + ·) (congrArg₂ (· + ·) rfl (congrArg (· * _) (up_of (col x l) _ _ s (by omega))))
    (congrArg (· * _) (up_of (col x l) _ _ s (by omega)))
theorem sback (s : Fin 2048) (l : Fin 128) :
    k0_pay23 (F := Ideal) (k0_pay9 v) (k0_pay17 u d) (k0_pay19 u v d) (ix2 s l)
      = back (fun s => strip u l 2 s * col d l s) (fun j : Fin 3 => v (ix2 j l)) s := by
  have h : col (k0_pay17 u d) l = fun s => strip u l 2 s * col d l s := funext fun s => pay17 u d s l
  rw [pay23, h]
  pointwise [k0_pay19, k0_pay9, pay17]
  show _ = ∑ j : Fin 3, _
  simp [Fin.sum_univ_ofNat, up_zero]
  abel
theorem pay18 (s : Fin 2048) (l : Fin 128) :
    k0_pay18 (F := Ideal) u v d (ix2 s l)
      = col d l s * fwd (fun s => strip u l 3 s * strip u l 4 s) (fun j : Fin 3 => v (ix2 j l)) s := by
  have h : (fun s => strip u l 3 s * strip u l 4 s) = col (k0_pay16 u) l := funext fun s => (pay16 u s l).symm
  rw [h]
  pointwise [k0_pay18, k0_pay9]
  refine congrArg (_ * ·) ((congrArg₂ (· + ·) (congrArg₂ (· + ·) rfl
    (congrArg (· * _) (dn_of (col (k0_pay16 u) l) _ _ 2 s (by omega) (by omega) (by omega))))
    (congrArg (· * _) (dn_of (col (k0_pay16 u) l) _ _ 1 s (by omega) (by omega) (by omega)))).trans ?_)
  show _ = ∑ j : Fin 3, _
  simp [Fin.sum_univ_ofNat, dn_zero]
  abel
theorem pay138 (a b c e f p q r : FVec Ideal S2048x128 .f32) (s : Fin 2048) (i : Fin 5) (l : Fin 128) :
    k0_pay138 (F := Ideal) (k0_pay8 w) a b c e f p q r (ix2 s ⟨i.val * 128 + l.val, by omega⟩)
      = (![(r (ix2 s l) + q (ix2 s l) * w (ix2 29 l)) * b (ix2 s l),
          a (ix2 s l) * (r (ix2 s l) + q (ix2 s l) * w (ix2 29 l)) * c (ix2 s l),
          e (ix2 s l), p (ix2 s l), f (ix2 s l)] : Fin 5 → EReal) i := by
  pointwise [k0_pay138, k0_pay8]
  rcases i with ⟨i, hi⟩
  interval_cases i <;> simp <;> split_ifs <;> first | omega | simp
theorem pay10 (s : Fin 2048) (l : Fin 128) : k0_pay10 (F := Ideal) u (ix2 s l) = strip u l 0 s := by
  pointwise! [k0_pay10, k0_pay7, strip]
theorem pay13 (s : Fin 2048) (l : Fin 128) :
    k0_pay13 (F := Ideal) u (ix2 s l) = Ideal.logistic (strip u l 1 s) := by
  pointwise! [k0_pay13, k0_pay7, strip, Ideal.logistic]
theorem pay14 (s : Fin 2048) (l : Fin 128) :
    k0_pay14 (F := Ideal) u (ix2 s l)
      = Ideal.logistic (strip u l 1 s) * (1 - Ideal.logistic (strip u l 1 s)) := by
  pointwise! [k0_pay14, pay13]
theorem out28 (s : Fin 2048) (l : Fin 128) :
    k0_pay28 (F := Ideal) (k0_pay11 u) x (ix2 s l) = strip u l 3 s * x (ix2 s l) := by
  pointwise! [k0_pay28, k0_pay11, k0_pay7, strip]
theorem out29 (s : Fin 2048) (l : Fin 128) :
    k0_pay29 (F := Ideal) (k0_pay12 u) x (ix2 s l) = x (ix2 s l) * strip u l 4 s := by
  pointwise! [k0_pay29, k0_pay12, k0_pay7, strip]
theorem out6 (s : Fin 2048) (i : Fin 5) (l : Fin 128) :
    k0_pay138 (F := Ideal) (k0_pay8 w) (k0_pay10 u) (k0_pay13 u) (k0_pay14 u) (k0_pay18 u v d)
      (k0_pay28 (k0_pay11 u) (k0_pay23 (k0_pay9 v) (k0_pay17 u d) (k0_pay19 u v d)))
      (k0_pay29 (k0_pay12 u) (k0_pay23 (k0_pay9 v) (k0_pay17 u d) (k0_pay19 u v d))) (k0_pay36 g) (long w g)
      (ix2 s ⟨i.val * 128 + l.val, by omega⟩)
      = du (strip u l) (fun j => w (ix2 j l)) (fun j => v (ix2 j l)) (col g l) (col d l) s i := by
  rw [pay138, (ups g s l).1, long_eq, pay10, pay13, pay14, pay18, out28, out29, sback]
  rfl

end ConvKernel
-- ==== Proof.ConvRefSide.lean ====
/- What the reference computes for one channel. -/
module

public import proofs.«01_k».proof.Proof.ConvSeq
public import proofs.«01_k».proof.Proof.ReduceLead
public import proofs.«01_k».proof.Proof.Gen.ConvRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace ConvRefSide

open Cert.ConvRefIdeal Cert.ConvRefIdeal.Read ConvSeq

variable (u : Vec Ideal S4096x5120 .f32) (w : Vec Ideal S1x31x1024 .f32) (v : Vec Ideal S1x3x1024 .f32)
  (g : Vec Ideal S4096x1024 .f32) (d : Vec Ideal S4096x2048 .f32)

/-- Channel `c` of sequence `p`. -/
abbrev col (x : Vec Ideal S4096x1024 .f32) (p : Fin 2) (c : Fin 1024) : Seq :=
  fun s => x (ix2 ⟨p.val * 2048 + s.val, by omega⟩ c)
/-- Channel `c` of sequence `p` in the second half of the columns. -/
abbrev col2 (x : Vec Ideal S4096x2048 .f32) (p : Fin 2) (c : Fin 1024) : Seq :=
  fun s => x (ix2 ⟨p.val * 2048 + s.val, by omega⟩ ⟨1024 + c.val, by omega⟩)
/-- Channel `c` of sequence `p` in part `q` of the projection. -/
abbrev strip (u : Vec Ideal S4096x5120 .f32) (p : Fin 2) (c : Fin 1024) (q : Fin 5) : Seq :=
  fun s => u (ix2 ⟨p.val * 2048 + s.val, by omega⟩ ⟨q.val * 1024 + c.val, by omega⟩)
/-- The argument of the long convolution. -/
abbrev glu (u : Vec Ideal S4096x5120 .f32) (p : Fin 2) (c : Fin 1024) : Seq :=
  fun s => strip u p c 0 s * Ideal.logistic (strip u p c 1 s)
abbrev taps (w : Vec Ideal S1x31x1024 .f32) (c : Fin 1024) (j : Fin 31) : EReal := w (ix3 0 j c)
abbrev taps3 (v : Vec Ideal S1x3x1024 .f32) (c : Fin 1024) (j : Fin 3) : EReal := v (ix3 0 j c)

variable (p : Fin 2) (s : Fin 2048) (c : Fin 1024)

theorem v0 : val_main_v0 (F := Ideal) g (ix3 p s c) = col g p c s := by
  pointwise [val_main_v0]
theorem v2 : val_main_v2 (F := Ideal) d (ix3 p s c) = col2 d p c s := by
  pointwise [val_main_v2, val_main_v1]
theorem v4 (j : Fin 31) : val_main_v4 (F := Ideal) w (ix2 j c) = taps w c j := by
  pointwise [val_main_v4]
theorem v6 (j : Fin 3) : val_main_v6 (F := Ideal) v (ix2 j c) = taps3 v c j := by
  pointwise [val_main_v6]
theorem v14 : val_main_v14 (F := Ideal) u (ix3 p s c) = Ideal.logistic (strip u p c 1 s) := by
  pointwise [val_main_v3, val_main_v8, val_main_v9, val_main_v10, val_main_v11, val_main_v12, val_main_v13,
    val_main_v14, val_main_cst, val_main_cst_0, strip, Ideal.logistic]
theorem v7 : val_main_v7 (F := Ideal) u (ix3 p s c) = strip u p c 0 s := by
  pointwise [val_main_v7, val_main_v3, strip]
theorem v210 : val_main_v210 (F := Ideal) u (ix3 p s c) = strip u p c 2 s := by
  pointwise [val_main_v210, val_main_v3, strip]
theorem v211 : val_main_v211 (F := Ideal) u (ix3 p s c) = strip u p c 3 s := by
  pointwise [val_main_v211, val_main_v3, strip]
theorem v212 : val_main_v212 (F := Ideal) u (ix3 p s c) = strip u p c 4 s := by
  pointwise [val_main_v212, val_main_v3, strip]
theorem v18 : val_main_v18 (F := Ideal) u (ix3 p s c) = glu u p c s := by
  pointwise [val_main_v18, v14, v7]
/-- The delayed channels the weights are multiplied with. -/
theorem dns :
    val_main_v22 (F := Ideal) u (ix3 p s c) = dn (glu u p c) 30 s ∧
    val_main_v27 (F := Ideal) u (ix3 p s c) = dn (glu u p c) 29 s ∧
    val_main_v33 (F := Ideal) u (ix3 p s c) = dn (glu u p c) 28 s ∧
    val_main_v39 (F := Ideal) u (ix3 p s c) = dn (glu u p c) 27 s ∧
    val_main_v45 (F := Ideal) u (ix3 p s c) = dn (glu u p c) 26 s ∧
    val_main_v51 (F := Ideal) u (ix3 p s c) = dn (glu u p c) 25 s ∧
    val_main_v57 (F := Ideal) u (ix3 p s c) = dn (glu u p c) 24 s ∧
    val_main_v63 (F := Ideal) u (ix3 p s c) = dn (glu u p c) 23 s ∧
    val_main_v69 (F := Ideal) u (ix3 p s c) = dn (glu u p c) 22 s ∧
    val_main_v75 (F := Ideal) u (ix3 p s c) = dn (glu u p c) 21 s ∧
    val_main_v81 (F := Ideal) u (ix3 p s c) = dn (glu u p c) 20 s ∧
    val_main_v87 (F := Ideal) u (ix3 p s c) = dn (glu u p c) 19 s ∧
    val_main_v93 (F := Ideal) u (ix3 p s c) = dn (glu u p c) 18 s ∧
    val_main_v99 (F := Ideal) u (ix3 p s c) = dn (glu u p c) 17 s ∧
    val_main_v105 (F := Ideal) u (ix3 p s c) = dn (glu u p c) 16 s ∧
    val_main_v111 (F := Ideal) u (ix3 p s c) = dn (glu u p c) 15 s ∧
    val_main_v117 (F := Ideal) u (ix3 p s c) = dn (glu u p c) 14 s ∧
    val_main_v123 (F := Ideal) u (ix3 p s c) = dn (glu u p c) 13 s ∧
    val_main_v129 (F := Ideal) u (ix3 p s c) = dn (glu u p c) 12 s ∧
    val_main_v135 (F := Ideal) u (ix3 p s c) = dn (glu u p c) 11 s ∧
    val_main_v141 (F := Ideal) u (ix3 p s c) = dn (glu u p c) 10 s ∧
    val_main_v147 (F := Ideal) u (ix3 p s c) = dn (glu u p c) 9 s ∧
    val_main_v153 (F := Ideal) u (ix3 p s c) = dn (glu u p c) 8 s ∧
    val_main_v159 (F := Ideal) u (ix3 p s c) = dn (glu u p c) 7 s ∧
    val_main_v165 (F := Ideal) u (ix3 p s c) = dn (glu u p c) 6 s ∧
    val_main_v171 (F := Ideal) u (ix3 p s c) = dn (glu u p c) 5 s ∧
    val_main_v177 (F := Ideal) u (ix3 p s c) = dn (glu u p c) 4 s ∧
    val_main_v183 (F := Ideal) u (ix3 p s c) = dn (glu u p c) 3 s ∧
    val_main_v189 (F := Ideal) u (ix3 p s c) = dn (glu u p c) 2 s ∧
    val_main_v195 (F := Ideal) u (ix3 p s c) = dn (glu u p c) 1 s ∧
    val_main_v201 (F := Ideal) u (ix3 p s c) = dn (glu u p c) 0 s := by
  refine ⟨?_, ?_, ?_, ?_, ?_, ?_, ?_, ?_, ?_, ?_, ?_, ?_, ?_, ?_, ?_,
    ?_, ?_, ?_, ?_, ?_, ?_, ?_, ?_, ?_, ?_, ?_, ?_, ?_, ?_, ?_, ?_⟩ <;>
    (pointwise [v18, val_main_v20, val_main_v19, val_main_cst_2,
      val_main_v22, val_main_v27, val_main_v33, val_main_v39, val_main_v45, val_main_v51, val_main_v57,
      val_main_v63, val_main_v69, val_main_v75, val_main_v81, val_main_v87, val_main_v93, val_main_v99,
      val_main_v105, val_main_v111, val_main_v117, val_main_v123, val_main_v129, val_main_v135, val_main_v141,
      val_main_v147, val_main_v153, val_main_v159, val_main_v165, val_main_v171, val_main_v177, val_main_v183,
      val_main_v189, val_main_v195, val_main_v201])
  all_goals first
    | exact dn_of (glu u p c) _ _ _ s (by omega) (by omega) (by omega)
    | exact (dn_zero _ s).symm
theorem dns3 :
    val_main_v217 (F := Ideal) u (ix3 p s c) = dn (fun s => strip u p c 3 s * strip u p c 4 s) 2 s ∧
    val_main_v222 (F := Ideal) u (ix3 p s c) = dn (fun s => strip u p c 3 s * strip u p c 4 s) 1 s ∧
    val_main_v228 (F := Ideal) u (ix3 p s c) = dn (fun s => strip u p c 3 s * strip u p c 4 s) 0 s := by
  refine ⟨?_, ?_, ?_⟩ <;>
    (pointwise [v211, v212, val_main_v213, val_main_v214, val_main_v215, val_main_cst_4, val_main_v217,
      val_main_v222, val_main_v228])
  all_goals first
    | exact dn_of (fun s => strip u p c 3 s * strip u p c 4 s) _ _ _ s (by omega) (by omega) (by omega)
    | exact (dn_zero (fun s => strip u p c 3 s * strip u p c 4 s) s).symm
theorem v620 : val_main_v620 (F := Ideal) w g (ix3 p s c) = back (col g p c) (taps w c) s := by
  pointwise [v0, v4,
    val_main_v23, val_main_v24, val_main_v28, val_main_v29, val_main_v34, val_main_v35, val_main_v40,
    val_main_v41, val_main_v46, val_main_v47, val_main_v52, val_main_v53, val_main_v58, val_main_v59,
    val_main_v64, val_main_v65, val_main_v70, val_main_v71, val_main_v76, val_main_v77, val_main_v82,
    val_main_v83, val_main_v88, val_main_v89, val_main_v94, val_main_v95, val_main_v100, val_main_v101,
    val_main_v106, val_main_v107, val_main_v112, val_main_v113, val_main_v118, val_main_v119, val_main_v124,
    val_main_v125, val_main_v130, val_main_v131, val_main_v136, val_main_v137, val_main_v142, val_main_v143,
    val_main_v148, val_main_v149, val_main_v154, val_main_v155, val_main_v160, val_main_v161, val_main_v166,
    val_main_v167, val_main_v172, val_main_v173, val_main_v178, val_main_v179, val_main_v184, val_main_v185,
    val_main_v190, val_main_v191, val_main_v196, val_main_v197, val_main_v202, val_main_v203, val_main_v283,
    val_main_v284, val_main_v288, val_main_v292, val_main_v293, val_main_v298, val_main_v299, val_main_v303,
    val_main_v304, val_main_v309, val_main_v310, val_main_v314, val_main_v315, val_main_v320, val_main_v321,
    val_main_v325, val_main_v326, val_main_v331, val_main_v332, val_main_v336, val_main_v337, val_main_v342,
    val_main_v343, val_main_v347, val_main_v348, val_main_v353, val_main_v354, val_main_v358, val_main_v359,
    val_main_v364, val_main_v365, val_main_v369, val_main_v370, val_main_v375, val_main_v376, val_main_v380,
    val_main_v381, val_main_v386, val_main_v387, val_main_v391, val_main_v392, val_main_v397, val_main_v398,
    val_main_v402, val_main_v403, val_main_v408, val_main_v409, val_main_v413, val_main_v414, val_main_v419,
    val_main_v420, val_main_v424, val_main_v425, val_main_v430, val_main_v431, val_main_v435, val_main_v436,
    val_main_v441, val_main_v442, val_main_v446, val_main_v447, val_main_v452, val_main_v453, val_main_v457,
    val_main_v458, val_main_v463, val_main_v464, val_main_v468, val_main_v469, val_main_v474, val_main_v475,
    val_main_v479, val_main_v480, val_main_v485, val_main_v486, val_main_v490, val_main_v491, val_main_v496,
    val_main_v497, val_main_v501, val_main_v502, val_main_v507, val_main_v508, val_main_v512, val_main_v513,
    val_main_v518, val_main_v519, val_main_v523, val_main_v524, val_main_v529, val_main_v530, val_main_v534,
    val_main_v535, val_main_v540, val_main_v541, val_main_v545, val_main_v546, val_main_v551, val_main_v552,
    val_main_v556, val_main_v557, val_main_v562, val_main_v563, val_main_v567, val_main_v568, val_main_v573,
    val_main_v574, val_main_v578, val_main_v579, val_main_v584, val_main_v585, val_main_v589, val_main_v590,
    val_main_v595, val_main_v596, val_main_v600, val_main_v601, val_main_v606, val_main_v607, val_main_v611,
    val_main_v612, val_main_v617, val_main_v618, val_main_v620, val_main_cst_26, val_main_cst_30,
    val_main_cst_34, val_main_cst_38, val_main_cst_42, val_main_cst_46, val_main_cst_50, val_main_cst_54,
    val_main_cst_58, val_main_cst_62, val_main_cst_66, val_main_cst_70, val_main_cst_74, val_main_cst_78,
    val_main_cst_82, val_main_cst_86, val_main_cst_90, val_main_cst_94, val_main_cst_98, val_main_cst_102,
    val_main_cst_106, val_main_cst_110, val_main_cst_114, val_main_cst_118, val_main_cst_122, val_main_cst_126,
    val_main_cst_130, val_main_cst_134, val_main_cst_138, val_main_cst_142, val_main_cst_146]
  simp only [pad_zero (col g p c)]
  simp (disch := omega) only [pad_of (col g p c)]
  show _ = ∑ j : Fin 31, _
  simp [Fin.sum_univ_ofNat, up_zero]
  abel
theorem v235 : val_main_v235 (F := Ideal) u d (ix3 p s c) = strip u p c 2 s * col2 d p c s := by
  pointwise [val_main_v235, v210, v2]
theorem v269 : val_main_v269 (F := Ideal) u v d (ix3 p s c)
    = back (fun s => strip u p c 2 s * col2 d p c s) (taps3 v c) s := by
  pointwise [v235, v6,
    val_main_v218, val_main_v219, val_main_v223, val_main_v224, val_main_v229, val_main_v230, val_main_v240,
    val_main_v241, val_main_v245, val_main_v249, val_main_v250, val_main_v255, val_main_v256, val_main_v260,
    val_main_v261, val_main_v266, val_main_v267, val_main_v269, val_main_cst_9, val_main_cst_13,
    val_main_cst_17]
  simp only [pad_zero (fun s => strip u p c 2 s * col2 d p c s)]
  simp (disch := omega) only [pad_of (fun s => strip u p c 2 s * col2 d p c s)]
  show _ = ∑ j : Fin 3, _
  simp [Fin.sum_univ_ofNat, up_zero]
  abel
theorem v236 : val_main_v236 (F := Ideal) u v d (ix3 p s c)
    = col2 d p c s * fwd (fun s => strip u p c 3 s * strip u p c 4 s) (taps3 v c) s := by
  pointwise [v2, v6, dns3,
    val_main_v218, val_main_v219, val_main_v220, val_main_v221, val_main_v223, val_main_v224, val_main_v225,
    val_main_v226, val_main_v227, val_main_v229, val_main_v230, val_main_v231, val_main_v232, val_main_v233,
    val_main_v236]
  show _ = _ * ∑ j : Fin 3, _
  simp [Fin.sum_univ_ofNat]
theorem v17 : val_main_v17 (F := Ideal) u (ix3 p s c)
    = Ideal.logistic (strip u p c 1 s) * (1 - Ideal.logistic (strip u p c 1 s)) := by
  pointwise [val_main_v17, val_main_v16, val_main_v15, val_main_cst_1, v14]
theorem v627 (q : Fin 5) : val_main_v627 (F := Ideal) u w v g d (ix3 p s ⟨q.val * 1024 + c.val, by omega⟩)
    = du (strip u p c) (taps w c) (taps3 v c) (col g p c) (col2 d p c) s q := by
  pointwise [
    val_main_v270, val_main_v271, val_main_v272, val_main_v273, val_main_v274, val_main_v275, val_main_v276,
    val_main_v621, val_main_v622, val_main_v623, val_main_v624, val_main_v625, val_main_v626, val_main_v627,
    val_main_cst_18, val_main_cst_19, val_main_cst_20, val_main_cst_147, val_main_cst_148]
  rcases q with ⟨q, hq⟩
  interval_cases q <;> simp [du, v620, v269, v211, v212, v7, v14, v17, v236]
  all_goals split_ifs <;> first | omega | simp
theorem v631 (q : Fin 5) (j : Fin 8) (l : Fin 128) :
    val_main_v631 (F := Ideal) u w v g d
      (ix2 ⟨p.val * 2048 + s.val, by omega⟩ ⟨j.val * 640 + (q.val * 128 + l.val), by omega⟩)
    = val_main_v627 (F := Ideal) u w v g d (ix3 p s ⟨q.val * 1024 + (j.val * 128 + l.val), by omega⟩) := by
  pointwise [val_main_v631, val_main_v630, val_main_v629, val_main_v628]
  exact congrArg (fun i => val_main_v627 (F := Ideal) u w v g d (ix3 p s i)) (Fin.ext (Nat.add_assoc _ _ _))
set_option maxHeartbeats 1000000 in
theorem v616 (j : Fin 31) : val_main_v616 (F := Ideal) u g (ix2 j c)
    = ∑ p : Fin 2, dw (glu u p c) (col g p c) j := by
  pointwise [ReduceLead.hostReduceAdd_lead, v0, dns,
    val_main_v280, val_main_v281, val_main_v282, val_main_v285, val_main_v286, val_main_v287, val_main_v289,
    val_main_v290, val_main_v291, val_main_v294, val_main_v295, val_main_v296, val_main_v297, val_main_v300,
    val_main_v301, val_main_v302, val_main_v305, val_main_v306, val_main_v307, val_main_v308, val_main_v311,
    val_main_v312, val_main_v313, val_main_v316, val_main_v317, val_main_v318, val_main_v319, val_main_v322,
    val_main_v323, val_main_v324, val_main_v327, val_main_v328, val_main_v329, val_main_v330, val_main_v333,
    val_main_v334, val_main_v335, val_main_v338, val_main_v339, val_main_v340, val_main_v341, val_main_v344,
    val_main_v345, val_main_v346, val_main_v349, val_main_v350, val_main_v351, val_main_v352, val_main_v355,
    val_main_v356, val_main_v357, val_main_v360, val_main_v361, val_main_v362, val_main_v363, val_main_v366,
    val_main_v367, val_main_v368, val_main_v371, val_main_v372, val_main_v373, val_main_v374, val_main_v377,
    val_main_v378, val_main_v379, val_main_v382, val_main_v383, val_main_v384, val_main_v385, val_main_v388,
    val_main_v389, val_main_v390, val_main_v393, val_main_v394, val_main_v395, val_main_v396, val_main_v399,
    val_main_v400, val_main_v401, val_main_v404, val_main_v405, val_main_v406, val_main_v407, val_main_v410,
    val_main_v411, val_main_v412, val_main_v415, val_main_v416, val_main_v417, val_main_v418, val_main_v421,
    val_main_v422, val_main_v423, val_main_v426, val_main_v427, val_main_v428, val_main_v429, val_main_v432,
    val_main_v433, val_main_v434, val_main_v437, val_main_v438, val_main_v439, val_main_v440, val_main_v443,
    val_main_v444, val_main_v445, val_main_v448, val_main_v449, val_main_v450, val_main_v451, val_main_v454,
    val_main_v455, val_main_v456, val_main_v459, val_main_v460, val_main_v461, val_main_v462, val_main_v465,
    val_main_v466, val_main_v467, val_main_v470, val_main_v471, val_main_v472, val_main_v473, val_main_v476,
    val_main_v477, val_main_v478, val_main_v481, val_main_v482, val_main_v483, val_main_v484, val_main_v487,
    val_main_v488, val_main_v489, val_main_v492, val_main_v493, val_main_v494, val_main_v495, val_main_v498,
    val_main_v499, val_main_v500, val_main_v503, val_main_v504, val_main_v505, val_main_v506, val_main_v509,
    val_main_v510, val_main_v511, val_main_v514, val_main_v515, val_main_v516, val_main_v517, val_main_v520,
    val_main_v521, val_main_v522, val_main_v525, val_main_v526, val_main_v527, val_main_v528, val_main_v531,
    val_main_v532, val_main_v533, val_main_v536, val_main_v537, val_main_v538, val_main_v539, val_main_v542,
    val_main_v543, val_main_v544, val_main_v547, val_main_v548, val_main_v549, val_main_v550, val_main_v553,
    val_main_v554, val_main_v555, val_main_v558, val_main_v559, val_main_v560, val_main_v561, val_main_v564,
    val_main_v565, val_main_v566, val_main_v569, val_main_v570, val_main_v571, val_main_v572, val_main_v575,
    val_main_v576, val_main_v577, val_main_v580, val_main_v581, val_main_v582, val_main_v583, val_main_v586,
    val_main_v587, val_main_v588, val_main_v591, val_main_v592, val_main_v593, val_main_v594, val_main_v597,
    val_main_v598, val_main_v599, val_main_v602, val_main_v603, val_main_v604, val_main_v605, val_main_v608,
    val_main_v609, val_main_v610, val_main_v613, val_main_v614, val_main_v615, val_main_v616, val_main_cst_23,
    val_main_cst_24, val_main_cst_25, val_main_cst_27, val_main_cst_28, val_main_cst_29, val_main_cst_31,
    val_main_cst_32, val_main_cst_33, val_main_cst_35, val_main_cst_36, val_main_cst_37, val_main_cst_39,
    val_main_cst_40, val_main_cst_41, val_main_cst_43, val_main_cst_44, val_main_cst_45, val_main_cst_47,
    val_main_cst_48, val_main_cst_49, val_main_cst_51, val_main_cst_52, val_main_cst_53, val_main_cst_55,
    val_main_cst_56, val_main_cst_57, val_main_cst_59, val_main_cst_60, val_main_cst_61, val_main_cst_63,
    val_main_cst_64, val_main_cst_65, val_main_cst_67, val_main_cst_68, val_main_cst_69, val_main_cst_71,
    val_main_cst_72, val_main_cst_73, val_main_cst_75, val_main_cst_76, val_main_cst_77, val_main_cst_79,
    val_main_cst_80, val_main_cst_81, val_main_cst_83, val_main_cst_84, val_main_cst_85, val_main_cst_87,
    val_main_cst_88, val_main_cst_89, val_main_cst_91, val_main_cst_92, val_main_cst_93, val_main_cst_95,
    val_main_cst_96, val_main_cst_97, val_main_cst_99, val_main_cst_100, val_main_cst_101, val_main_cst_103,
    val_main_cst_104, val_main_cst_105, val_main_cst_107, val_main_cst_108, val_main_cst_109, val_main_cst_111,
    val_main_cst_112, val_main_cst_113, val_main_cst_115, val_main_cst_116, val_main_cst_117, val_main_cst_119,
    val_main_cst_120, val_main_cst_121, val_main_cst_123, val_main_cst_124, val_main_cst_125, val_main_cst_127,
    val_main_cst_128, val_main_cst_129, val_main_cst_131, val_main_cst_132, val_main_cst_133, val_main_cst_135,
    val_main_cst_136, val_main_cst_137, val_main_cst_139, val_main_cst_140, val_main_cst_141, val_main_cst_143,
    val_main_cst_144, val_main_cst_145]
  simp only [Finset.univ_unique, Finset.sum_singleton]
  fin_cases j <;> simp [dw, mul_comm]
theorem v632 (z : Fin 1) : val_main_v632 (F := Ideal) g (ix2 z c) = ∑ p : Fin 2, ∑ s : Fin 2048, col g p c s := by
  pointwise [ReduceLead.hostReduceAdd_lead, v0, val_main_v277, val_main_v278, val_main_v279, val_main_v632, val_main_cst_21, val_main_cst_22]
  simp only [Finset.univ_unique, Finset.sum_singleton]
set_option maxHeartbeats 1000000 in
theorem v265 (j : Fin 3) : val_main_v265 (F := Ideal) u d (ix2 j c)
    = ∑ p : Fin 2, dw (fun s => strip u p c 3 s * strip u p c 4 s) (fun s => strip u p c 2 s * col2 d p c s) j := by
  pointwise [ReduceLead.hostReduceAdd_lead, v235, dns3,
    val_main_v237, val_main_v238, val_main_v239, val_main_v242, val_main_v243, val_main_v244, val_main_v246,
    val_main_v247, val_main_v248, val_main_v251, val_main_v252, val_main_v253, val_main_v254, val_main_v257,
    val_main_v258, val_main_v259, val_main_v262, val_main_v263, val_main_v264, val_main_v265, val_main_cst_6,
    val_main_cst_7, val_main_cst_8, val_main_cst_10, val_main_cst_11, val_main_cst_12, val_main_cst_14,
    val_main_cst_15, val_main_cst_16]
  simp only [Finset.univ_unique, Finset.sum_singleton]
  fin_cases j <;> simp [dw, mul_comm]

end ConvRefSide
-- ==== Proof.ConvValue.lean ====
/- The gradient of the two causal depthwise convolutions and their gates: the launch leaves in its four results what
   the reference's `jax.vjp` of the plain lines computes. -/
module

public import proofs.«01_k».proof.Defs
public import proofs.«01_k».proof.Proof.ConvKernel
public import proofs.«01_k».proof.Proof.ConvRefSide
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace ConvKernel

open Cert.ConvBwdIdeal Cert.ConvBwdIdeal.Gen ConvSeq

section Bodies

variable (u : Vec Ideal S2048x640 .f32) (w : Vec Ideal S31x128 .f32) (v : Vec Ideal S3x128 .f32)
  (g d : Vec Ideal S2048x128 .f32)

theorem taps_u (j : Fin 31) (l : Fin 128) :
    taps g (k0_pay15 u) (ix2 j l) = dw (fun s => strip u l 0 s * Ideal.logistic (strip u l 1 s)) (col g l) j := by
  rw [taps_eq, show col (k0_pay15 u) l = fun s => strip u l 0 s * Ideal.logistic (strip u l 1 s) from
    funext fun s => pay15 u s l]
theorem pay1 (j : Fin 31) (l : Fin 128) : k0_pay1 (F := Ideal) (ix2 j l) = 0 := by
  pointwise! [k0_pay1]
theorem pay2 (x a : FVec Ideal S31x128 .f32) (j : Fin 31) (l : Fin 128) :
    k0_pay2 (F := Ideal) x a (ix2 j l) = a (ix2 j l) + x (ix2 j l) := by
  pointwise! [k0_pay2]
theorem pay3 (z : Fin 1) (l : Fin 128) : k0_pay3 (F := Ideal) (ix2 z l) = 0 := by
  pointwise! [k0_pay3]
theorem pay4 (a : FVec Ideal S1x128 .f32) (z : Fin 1) (l : Fin 128) :
    k0_pay4 (F := Ideal) (k0_pay31 g) a (ix2 z l) = a (ix2 z l) + ∑ s : Fin 2048, col g l s := by
  pointwise! [k0_pay4, k0_pay31, k0_pay30]
theorem pay5 (j : Fin 3) (l : Fin 128) : k0_pay5 (F := Ideal) (ix2 j l) = 0 := by
  pointwise! [k0_pay5]
/-- The gradient of the short convolution's weights over one sequence. -/
abbrev taps3 (x y : FVec Ideal S2048x128 .f32) : FVec Ideal S3x128 .f32 :=
  k0_pay27 (k0_pay22 x y (iota .tc S3x128 32 [0] iota_S3x128_d0_w32) k0_pay20)
    (k0_pay24 (iota .tc S3x128 32 [0] iota_S3x128_d0_w32)) (k0_pay25 x y) k0_pay26
theorem pay6 (x a : FVec Ideal S3x128 .f32) (j : Fin 3) (l : Fin 128) :
    k0_pay6 (F := Ideal) x a (ix2 j l) = a (ix2 j l) + x (ix2 j l) := by
  pointwise! [k0_pay6]
theorem taps3_eq (x y : FVec Ideal S2048x128 .f32) (j : Fin 3) (l : Fin 128) :
    taps3 x y (ix2 j l) = dw (col x l) (col y l) j := by
  have h (k : ℕ) (hk : 0 < k ∧ k < 8) (s : Fin 2048) : (if h : (8 + s.val + 2056 - k) % 2056 < 8 then (0 : EReal) else
      x (ix2 ⟨(8 + s.val + 2056 - k) % 2056 - 8, by omega⟩ l)) = dn (col x l) k s :=
    dn_of (col x l) _ 8 k s (by omega) (by omega) (by omega)
  pointwise [k0_pay20, k0_pay21, k0_pay22, k0_pay24, k0_pay25, k0_pay26, k0_pay27]
  simp only [h 1 (by decide), h 2 (by decide)]
  fin_cases j <;> simp [Scalar.select, IntOp.cmpi, dw, dn_zero]
theorem taps3_u (j : Fin 3) (l : Fin 128) : taps3 (k0_pay16 u) (k0_pay17 u d) (ix2 j l)
    = dw (fun s => strip u l 3 s * strip u l 4 s) (fun s => strip u l 2 s * col d l s) j := by
  rw [taps3_eq, show col (k0_pay16 u) l = fun s => strip u l 3 s * strip u l 4 s from funext fun s => pay16 u s l,
    show col (k0_pay17 u d) l = fun s => strip u l 2 s * col d l s from funext fun s => pay17 u d s l]

end Bodies

variable (m : (ℓ : Loc nD τ sig) → Buf (Elt Ideal) ℓ) (c : Dev nD)

/-- Which block each window has at point `t`: sequence `t % 2`, channels of block `t / 2`. -/
theorem idx : ∀ t : Fin cfg0.N, win0_0.index t = ![t.val % 2, t.val / 2] ∧ win0_1.index t = ![0, t.val / 2]
    ∧ win0_3.index t = ![0, t.val / 2] ∧ win0_4.index t = ![t.val % 2, t.val / 2]
    ∧ win0_5.index t = ![t.val % 2, 8 + t.val / 2] ∧ win0_6.index t = ![t.val % 2, t.val / 2]
    ∧ win0_7.index t = ![0, t.val / 2] ∧ win0_8.index t = ![0, t.val / 2] ∧ win0_9.index t = ![0, t.val / 2] :=
  (by decide +kernel : ∀ t : Fin grid0.N, _)

theorem pts (t : Fin cfg0.N) : t.val < 16 := lt_of_lt_of_eq t.isLt N_0

/-- The arguments, as the reference's functions take them. -/
abbrev argu : Vec Ideal S4096x5120 .f32 := m ((c.tc : Thread nD τ).loc main_arg0)
abbrev argw : Vec Ideal S1x31x1024 .f32 := m ((c.tc : Thread nD τ).loc main_arg1)
abbrev argv : Vec Ideal S1x3x1024 .f32 := m ((c.tc : Thread nD τ).loc main_arg3)
abbrev argg : Vec Ideal S4096x1024 .f32 := m ((c.tc : Thread nD τ).loc main_arg4)
abbrev argd : Vec Ideal S4096x2048 .f32 := m ((c.tc : Thread nD τ).loc main_arg5)

/-- The sequence of point `t`, and its channel `l`. -/
abbrev sq (t : Fin cfg0.N) : Fin 2 := ⟨t.val % 2, Nat.mod_lt _ (by decide)⟩
abbrev ch (t : Fin cfg0.N) (l : Fin 128) : Fin 1024 := ⟨t.val / 2 * 128 + l.val, by have := pts t; omega⟩

theorem blk_u (t : Fin cfg0.N) (l : Fin 128) :
    strip (iblk m c 0 t) l = ConvRefSide.strip (argu m c) (sq t) (ch t l) := by
  funext q s
  show iblk m c 0 t (ix2 s ⟨q.val * 128 + l.val, by omega⟩) = _
  have := pts t
  blk_point [iblk, V, idx t]
theorem blk_w (t : Fin cfg0.N) (l : Fin 128) :
    (fun j : Fin 31 => iblk m c 1 t (ix2 j l)) = ConvRefSide.taps (argw m c) (ch t l) := by
  funext j
  have := pts t
  blk_point [iblk, V, idx t]
theorem blk_v (t : Fin cfg0.N) (l : Fin 128) :
    (fun j : Fin 3 => iblk m c 3 t (ix2 j l)) = ConvRefSide.taps3 (argv m c) (ch t l) := by
  funext j
  have := pts t
  blk_point [iblk, V, idx t]
theorem blk_g (t : Fin cfg0.N) (l : Fin 128) :
    col (iblk m c 4 t) l = ConvRefSide.col (argg m c) (sq t) (ch t l) := by
  funext s
  show iblk m c 4 t (ix2 s l) = _
  have := pts t
  blk_point [iblk, V, idx t]
theorem blk_d (t : Fin cfg0.N) (l : Fin 128) :
    col (iblk m c 5 t) l = ConvRefSide.col2 (argd m c) (sq t) (ch t l) := by
  funext s
  show iblk m c 5 t (ix2 s l) = _
  have := pts t
  blk_point [iblk, V, idx t]

/-- What point `t` adds to the three gradients of parameters. -/
theorem add_dww (t : Fin cfg0.N) (j : Fin 31) (l : Fin 128) :
    taps (iblk m c 4 t) (k0_pay15 (iblk m c 0 t)) (ix2 j l)
      = dw (ConvRefSide.glu (argu m c) (sq t) (ch t l)) (ConvRefSide.col (argg m c) (sq t) (ch t l)) j := by
  rw [taps_u, blk_u, blk_g]
theorem add_dwb (t : Fin cfg0.N) (l : Fin 128) :
    ∑ s : Fin 2048, col (iblk m c 4 t) l s = ∑ s : Fin 2048, ConvRefSide.col (argg m c) (sq t) (ch t l) s := by
  rw [blk_g]
theorem add_scw (t : Fin cfg0.N) (j : Fin 3) (l : Fin 128) :
    taps3 (k0_pay16 (iblk m c 0 t)) (k0_pay17 (iblk m c 0 t) (iblk m c 5 t)) (ix2 j l)
      = dw (fun s => ConvRefSide.strip (argu m c) (sq t) (ch t l) 3 s * ConvRefSide.strip (argu m c) (sq t) (ch t l) 4 s)
          (fun s => ConvRefSide.strip (argu m c) (sq t) (ch t l) 2 s * ConvRefSide.col2 (argd m c) (sq t) (ch t l) s) j := by
  rw [taps3_u, blk_u, blk_d]

/-- The first result of the launch is the reference's gradient of the projection. -/
theorem final_du : (dats m 0 c).arrAt 6 (cfgs 0).N
    = Cert.ConvRefIdeal.Read.val_main_v631 (F := Ideal) (argu m c) (argw m c) (argv m c) (argg m c) (argd m c) := by
  refine (dats m 0 c).arrAt_eq_of_covers 6 _ (by decide +kernel) fun t hf y => ?_
  blk_simp
  idx_vars y
  obtain ⟨q, l, rfl⟩ : ∃ (q : Fin 5) (l : Fin 128), y1 = ⟨q.val * 128 + l.val, by omega⟩ :=
    ⟨⟨y1.val / 128, by omega⟩, ⟨y1.val % 128, by omega⟩, Fin.ext (by dsimp only; omega)⟩
  have hout : (outsAt0 m c t.val t.isLt).1 (ix2 y0 ⟨q.val * 128 + l.val, by omega⟩)
      = du (strip (iblk m c 0 t) l) (fun j => iblk m c 1 t (ix2 j l)) (fun j => iblk m c 3 t (ix2 j l))
          (col (iblk m c 4 t) l) (col (iblk m c 5 t) l) y0 q := by
    by_cases h : t.val % 2 = 0
    · rw [outsAt0_A m c t h h h]
      frame_out
      exact out6 _ _ _ _ _ y0 q l
    · rw [outsAt0_B m c t h h h]
      frame_out
      exact out6 _ _ _ _ _ y0 q l
  have hy : ((View.whole main_v5_0).slice (win0_6.rect t)).emb (ix2 y0 ⟨q.val * 128 + l.val, by omega⟩)
      = ix2 ⟨(sq t).val * 2048 + y0.val, by omega⟩ ⟨t.val / 2 * 640 + (q.val * 128 + l.val), by have := pts t; omega⟩ := by
    have := pts t
    blk_ext [idx t]
  rw [after0_6, hout, blk_u, blk_w, blk_v, blk_g, blk_d, hy]
  exact ((ConvRefSide.v631 _ _ _ _ _ (sq t) y0 q ⟨t.val / 2, by have := pts t; omega⟩ l).trans
    (ConvRefSide.v627 _ _ _ _ _ (sq t) y0 (ch t l) q)).symm

/-- The second result is the gradient of the long convolution's weights. -/
theorem final_dww : (dats m 0 c).arrAt 7 (cfgs 0).N
    = Cert.ConvRefIdeal.Read.val_main_v616 (F := Ideal) (argu m c) (argg m c) := by
  refine (dats m 0 c).arrAt_eq_of_covers 7 _ (by decide +kernel) fun t hf y => ?_
  blk_simp
  idx_vars y
  have hy : ((View.whole main_v5_1).slice (win0_7.rect t)).emb (ix2 y0 y1) = ix2 y0 (ch t y1) := by
    have := pts t
    blk_ext [idx t]
  have hr := (flush0_7 t).mp hf
  have hs (s : Fin 2) : sq ⟨2 * (t.val / 2) + s.val, Pipeline.run_point_lt_of_flush t hr s⟩ = s :=
    Fin.ext (by show (2 * (t.val / 2) + s.val) % 2 = s.val; omega)
  have hc (s : Fin 2) : ch ⟨2 * (t.val / 2) + s.val, Pipeline.run_point_lt_of_flush t hr s⟩ y1 = ch t y1 :=
    Fin.ext (by show (2 * (t.val / 2) + s.val) / 2 * 128 + y1.val = t.val / 2 * 128 + y1.val; omega)
  rw [after0_7, Pipeline.eq_sum_fin_of_reset_step_apply_of_flush (fun n h => (outsAt0 m c n h).2.1) 2 (fun _ => 0)
    (fun t j => taps (iblk m c 4 t) (k0_pay15 (iblk m c 0 t)) j)
    (fun t h j => by
      idx_vars j; rw [outsAt0_A m c t h h h]; frame_out; exact (pay2 _ _ j0 j1).trans (by rw [pay1]))
    (fun t h j => by
      idx_vars j; rw [outsAt0_B m c t h h h]; frame_out; exact pay2 _ _ j0 j1)
    t hr _]
  rw [hy, ConvRefSide.v616, zero_add]
  refine Fin.sum_fin_congr fun s => (add_dww m c _ y0 y1).trans ?_
  rw [hs, hc]

/-- The third result is the gradient of the long convolution's bias. -/
theorem final_dwb : (dats m 0 c).arrAt 8 (cfgs 0).N
    = Cert.ConvRefIdeal.Read.val_main_v632 (F := Ideal) (argg m c) := by
  refine (dats m 0 c).arrAt_eq_of_covers 8 _ (by decide +kernel) fun t hf y => ?_
  blk_simp
  idx_vars y
  have hy : ((View.whole main_v5_2).slice (win0_8.rect t)).emb (ix2 y0 y1) = ix2 y0 (ch t y1) := by
    have := pts t
    blk_ext [idx t]
  have hr := (flush0_8 t).mp hf
  have hs (s : Fin 2) : sq ⟨2 * (t.val / 2) + s.val, Pipeline.run_point_lt_of_flush t hr s⟩ = s :=
    Fin.ext (by show (2 * (t.val / 2) + s.val) % 2 = s.val; omega)
  have hc (s : Fin 2) : ch ⟨2 * (t.val / 2) + s.val, Pipeline.run_point_lt_of_flush t hr s⟩ y1 = ch t y1 :=
    Fin.ext (by show (2 * (t.val / 2) + s.val) / 2 * 128 + y1.val = t.val / 2 * 128 + y1.val; omega)
  rw [after0_8, Pipeline.eq_sum_fin_of_reset_step_apply_of_flush (fun n h => (outsAt0 m c n h).2.2.1) 2 (fun _ => 0)
    (fun t j => ∑ s : Fin 2048, col (iblk m c 4 t) (j 1) s)
    (fun t h j => by
      idx_vars j; rw [outsAt0_A m c t h h h]; frame_out; exact (pay4 _ _ j0 j1).trans (by rw [pay3]))
    (fun t h j => by
      idx_vars j; rw [outsAt0_B m c t h h h]; frame_out; exact pay4 _ _ j0 j1)
    t hr _]
  rw [hy, ConvRefSide.v632, zero_add]
  refine Fin.sum_fin_congr fun s => (add_dwb m c _ y1).trans ?_
  rw [hs, hc]

/-- The fourth result is the gradient of the short convolution's weights. -/
theorem final_scw : (dats m 0 c).arrAt 9 (cfgs 0).N
    = Cert.ConvRefIdeal.Read.val_main_v265 (F := Ideal) (argu m c) (argd m c) := by
  refine (dats m 0 c).arrAt_eq_of_covers 9 _ (by decide +kernel) fun t hf y => ?_
  blk_simp
  idx_vars y
  have hy : ((View.whole main_v5_3).slice (win0_9.rect t)).emb (ix2 y0 y1) = ix2 y0 (ch t y1) := by
    have := pts t
    blk_ext [idx t]
  have hr := (flush0_9 t).mp hf
  have hs (s : Fin 2) : sq ⟨2 * (t.val / 2) + s.val, Pipeline.run_point_lt_of_flush t hr s⟩ = s :=
    Fin.ext (by show (2 * (t.val / 2) + s.val) % 2 = s.val; omega)
  have hc (s : Fin 2) : ch ⟨2 * (t.val / 2) + s.val, Pipeline.run_point_lt_of_flush t hr s⟩ y1 = ch t y1 :=
    Fin.ext (by show (2 * (t.val / 2) + s.val) / 2 * 128 + y1.val = t.val / 2 * 128 + y1.val; omega)
  rw [after0_9, Pipeline.eq_sum_fin_of_reset_step_apply_of_flush (fun n h => (outsAt0 m c n h).2.2.2) 2 (fun _ => 0)
    (fun t j => taps3 (k0_pay16 (iblk m c 0 t)) (k0_pay17 (iblk m c 0 t) (iblk m c 5 t)) j)
    (fun t h j => by
      idx_vars j; rw [outsAt0_A m c t h h h]; frame_out; exact (pay6 _ _ j0 j1).trans (by rw [pay5]))
    (fun t h j => by
      idx_vars j; rw [outsAt0_B m c t h h h]; frame_out; exact pay6 _ _ j0 j1)
    t hr _]
  rw [hy, ConvRefSide.v265, zero_add]
  refine Fin.sum_fin_congr fun s => (add_scw m c _ y0 y1).trans ?_
  rw [hs, hc]

end ConvKernel

namespace ConvValue

open Cert

/-- The launch and the reference leave the same four results. -/
theorem algebraic : Cert.algebraic_ConvBwdIdeal_ConvRefIdeal := by
  pair_intro
  · run_from Cert.ConvBwdIdeal.Gen.run_main m g
  · run_from Cert.ConvRefIdeal.Value.run m' g'
    · obtain ⟨h0, h1, h2, h3, h4, h5⟩ := hagree c
      rw [ConvRefIdeal.Read.val_main_v631_eq]
      unfold StableHlo.launchContents
      dsimp only [Proc.devRef]
      rw [h0, h1, h3, h4, h5]
      exact (ConvKernel.final_du m c).symm
    · obtain ⟨h0, h1, h2, h3, h4, h5⟩ := hagree c
      rw [ConvRefIdeal.Read.val_main_v616_eq]
      unfold StableHlo.launchContents
      dsimp only [Proc.devRef]
      rw [h0, h4]
      exact (ConvKernel.final_dww m c).symm
    · obtain ⟨h0, h1, h2, h3, h4, h5⟩ := hagree c
      rw [ConvRefIdeal.Read.val_main_v632_eq]
      unfold StableHlo.launchContents
      dsimp only [Proc.devRef]
      rw [h4]
      exact (ConvKernel.final_dwb m c).symm
    · obtain ⟨h0, h1, h2, h3, h4, h5⟩ := hagree c
      rw [ConvRefIdeal.Read.val_main_v265_eq]
      unfold StableHlo.launchContents
      dsimp only [Proc.devRef]
      rw [h0, h5]
      exact (ConvKernel.final_scw m c).symm

end ConvValue

end
-- ==== Proof.RmsRow.lean ====
module

public import Idealize.ShloMosaic.Lib.Pipeline.ValueKit
public import Idealize.ShloMosaic.Lib.Pointwise

@[expose] public section

noncomputable section

open Idealize.ShloMosaic

namespace RmsRow

/-- A row of the residual stream or of a parameter. -/
abbrev Row := Fin 1024 → EReal

/-- The row length as a float literal. -/
def len : EReal := Ideal.ofBits FTy.f32 1149239296#32

/-- The constant under the root. -/
def eps : EReal := Ideal.ofBits FTy.f32 897988541#32

/-- The derivative of the inverse root brings the factor minus one half. -/
def half : EReal := Ideal.ofBits FTy.f32 3204448256#32

theorem len_eq : len = ((1024 : ℝ) : EReal) := by
  simp [len, Ideal.ofBits, Ideal.ieee, -EReal.coe_mul]; norm_num

theorem half_eq : half = ((-(1 / 2) : ℝ) : EReal) := by
  simp [half, Ideal.ofBits, Ideal.ieee, -EReal.coe_mul, -EReal.coe_neg]; norm_num

theorem eps_pos : 0 < eps := by
  have : eps = ((8796093 / 2 ^ 43 : ℝ) : EReal) := by
    simp [eps, Ideal.ofBits, Ideal.ieee, -EReal.coe_mul]; norm_num
  rw [this]
  exact_mod_cast (by positivity : (0 : ℝ) < 8796093 / 2 ^ 43)

def ms (x : Row) : EReal := Ideal.div (∑ k, x k * x k) len + eps

def rs (x : Row) : EReal := Ideal.rsqrt (ms x)

/-- The root mean square norm. -/
def nrm (x g : Row) (k : Fin 1024) : EReal := x k * rs x * g k

/-- The gradient of the norm at its argument, from the gradient `d` at its result: the part of the row along the
    normalised row is taken away. -/
def dx (x g d : Row) (k : Fin 1024) : EReal :=
  (d k * g k - x k * rs x * Ideal.div (∑ j, d j * g j * (x j * rs x)) len) * rs x

/-- What the row's inverse root passes on to each square of the row. -/
def dq (x g d : Row) : EReal :=
  Ideal.div ((∑ j, x j * (d j * g j)) * (half * Ideal.div (rs x) (ms x))) len

theorem sq_nonneg (x : EReal) : 0 ≤ x * x := by
  induction x with
  | bot => simp
  | top => simp
  | coe r => exact_mod_cast mul_self_nonneg r

theorem ms_pos (x : Row) : 0 < ms x := by
  have h : 0 ≤ Ideal.div (∑ k, x k * x k) len := by
    rw [len_eq, Ideal.div_coe (by norm_num)]
    exact mul_nonneg (Finset.sum_nonneg fun k _ => sq_nonneg _) (by exact_mod_cast (by norm_num : (0 : ℝ) ≤ 1 / 1024))
  exact lt_of_lt_of_le eps_pos (le_add_of_nonneg_left h)

theorem add_self_neg (y : EReal) : -y + -y = -(y + y) := by
  induction y with
  | bot => simp
  | top => simp
  | coe r =>
    rw [← EReal.coe_neg, ← EReal.coe_add, ← EReal.coe_add, ← EReal.coe_neg]
    congr 1
    ring

/-- The factor of a real number that is not negative may be taken out of a sum. -/
theorem sum_mul_real {ι : Type} (s : Finset ι) (f : ι → EReal) {r : ℝ} (hr : 0 ≤ r) :
    ∑ j ∈ s, f j * (r : EReal) = (∑ j ∈ s, f j) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- Both ways of writing the gradient of the norm agree, also where a row is infinite. -/
theorem dx_eq (x g d : Row) (k : Fin 1024) :
    d k * g k * rs x + (x k * dq x g d + dq x g d * x k) = dx x g d k := by
  have hp := ms_pos x
  unfold dx dq
  generalize hm : ms x = w at *
  have hrs : rs x = Ideal.rsqrt w := by rw [rs, hm]
  rw [hrs]
  induction w with
  | bot => simp at hp
  | top =>
    simp [Ideal.div, len_eq]
  | coe s =>
    have hs : 0 < s := by exact_mod_cast hp
    rw [Ideal.rsqrt_coe, if_neg (not_lt.mpr hs.le), if_neg hs.ne']
    set r : ℝ := (Real.sqrt s)⁻¹ with hr
    have hr0 : 0 ≤ r := inv_nonneg.mpr (Real.sqrt_nonneg s)
    have hrr : r * r = 1 / s := by
      rw [hr, ← mul_inv, Real.mul_self_sqrt hs.le, one_div]
    have e : ∑ j, d j * g j * (x j * (r : EReal)) = (∑ j, x j * (d j * g j)) * (r : EReal) := by
      rw [← sum_mul_real _ _ hr0]
      exact Finset.sum_congr rfl fun j _ => by ac_rfl
    rw [e, half_eq, len_eq, Ideal.div_coe hs.ne', Ideal.div_coe (by norm_num), Ideal.div_coe (by norm_num)]
    generalize (∑ j, x j * (d j * g j)) = S
    have hc : (0 : ℝ) ≤ 1 / 2 * (r * (1 / s)) * (1 / 1024) := by positivity
    have h1 : S * (((-(1 / 2) : ℝ) : EReal) * ((r : EReal) * ((1 / s : ℝ) : EReal))) * ((1 / 1024 : ℝ) : EReal)
        = -(S * ((1 / 2 * (r * (1 / s)) * (1 / 1024) : ℝ) : EReal)) := by
      rw [mul_assoc, ← EReal.coe_mul, ← EReal.coe_mul, ← EReal.coe_mul, ← mul_neg, ← EReal.coe_neg]
      congr 2
      ring
    have h2 : x k * r * (S * r * ((1 / 1024 : ℝ) : EReal)) * r
        = x k * (S * ((1 / 2 * (r * (1 / s)) * (1 / 1024) : ℝ) : EReal))
          + x k * (S * ((1 / 2 * (r * (1 / s)) * (1 / 1024) : ℝ) : EReal)) := by
      rw [← mul_assoc (x k) S, ← EReal.left_distrib_of_nonneg (by exact_mod_cast hc) (by exact_mod_cast hc), ← EReal.coe_add,
        show (1 / 2 * (r * (1 / s)) * (1 / 1024) + 1 / 2 * (r * (1 / s)) * (1 / 1024) : ℝ) = r * r * r * (1 / 1024) by
          rw [← hrr]; ring]
      rw [EReal.coe_mul, EReal.coe_mul, EReal.coe_mul]
      ac_rfl
    rw [h1, mul_neg, neg_mul, mul_comm (S * _) (x k), add_self_neg, ← h2, sub_eq_add_neg,
      EReal.right_distrib_of_nonneg_of_ne_top (by exact_mod_cast hr0) (EReal.coe_ne_top r), neg_mul]

/-- The residual stream with the norm of a row added. -/
def res (x p g : Row) (k : Fin 1024) : EReal := x k + nrm p g k

/-- The normalised row, before the gain. -/
def unit (x : Row) (k : Fin 1024) : EReal := x k * rs x

/-- The gradient at the residual stream `x` with the norm of `p` added: the one that goes on, `d`, and the one that
    comes back through the next norm, from the gradient `h` at its result. -/
def through (x p d ga gb h : Row) (k : Fin 1024) : EReal := d k + dx (res x p ga) gb h k

/-- A row of an array. -/
def at2 {n : ℕ} (v : Vec Ideal ⟨2, ![n, 1024]⟩ .f32) (i : Fin n) : Row := fun k => v (ix2 i k)

/-- A row of a product. -/
def row {n q : ℕ} (a : Vec Ideal ⟨2, ![n, q]⟩ .bf16) (w : Vec Ideal ⟨2, ![q, 1024]⟩ .bf16) (i : Fin n) : Row :=
  fun j => ∑ k : Fin q, a (ix2 i k) * w (ix2 k j)

/-- A row of a product with the transpose of an array. -/
def rowT {n q : ℕ} (a : Vec Ideal ⟨2, ![n, q]⟩ .bf16) (w : Vec Ideal ⟨2, ![1024, q]⟩ .bf16) (i : Fin n) : Row :=
  fun j => ∑ k : Fin q, a (ix2 i k) * w (ix2 j k)

end RmsRow
end
-- ==== Proof.HMlpBody.lean ====
/- The run of the product whose tiles go back through two norms: what a tile of rows leaves in the four results, the
   last two of which add up over the tiles. -/
module

public import proofs.«01_k».proof.Proof.Gen.HMlpIdeal.Frame
public import proofs.«01_k».proof.Proof.Gen.HMlpIdeal.Skeleton
public import Idealize.ShloMosaic.Lib.Pipeline.ValueKit
public import Idealize.ShloMosaic.Lib.WritesUnit
public import Idealize.ShloMosaic.Lib.Claim

@[expose] public section

set_option maxRecDepth 16384

noncomputable section

namespace Cert.HMlpIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HMlpIdeal.Gen

variable {F : FTy → Type} [FloatOps F]

/-- The logic the body's triple is stated in. -/
abbrev Res (F : FTy → Type) [FloatOps F] := MT nD τ sig Unit (Elt F) ℕ (UR sig nD τ) ℕ

/-- A buffer written through its whole rectangle holds what was written. -/
theorem read_set {s : Shape} {e : EltTy} (v : Memref sig .tc .vmem s e) (f : v.view.ty.Contents (Elt F))
    {off : Fin s.rank → ℕ} (inb : ∀ a, off a + s.size a ≤ s.size a) (u : s.Idx → Elt F e) (h : ∀ a, off a = 0) :
    v.view.read (Elt F) (v.view.writes (Elt F) f [⟨Rect.unit off s.size inb, u⟩]) = u :=
  funext fun y => View.read_writes_cons_unit_of_mem v.view f inb u [] y y rfl fun a => by rw [h a, Nat.zero_add]

section tile

variable (a : Vec F S256x4096 .bf16) (w : Vec F S4096x1024 .bf16) (x p d : Vec F S256x1024 .f32)
  (ga gb : Vec F S1x1024 .f32)

/-- A tile of the gradient at the residual stream. -/
def tx : FVec F S256x1024 .f32 := k0_pay9 d (k0_pay5 x p ga) (k0_pay6 x p ga) (k0_pay7 a w gb)
/-- A tile of the gradient at the sublayer's product. -/
def tp : FVec F S256x1024 .bf16 := k0_pay13 p d ga (k0_pay5 x p ga) (k0_pay6 x p ga) (k0_pay7 a w gb)
/-- What a tile adds to the gradient of the first gain. -/
def ta : FVec F S1x1024 .f32 := k0_pay12 p d (k0_pay5 x p ga) (k0_pay6 x p ga) (k0_pay7 a w gb)
/-- What a tile adds to the gradient of the second gain. -/
def tb : FVec F S1x1024 .f32 := k0_pay8 (k0_pay3 a w) (k0_pay6 x p ga)

end tile

/-- One when the point is the first of its axis. -/
def first (i : grid0.Coords) : BitVec 1 := Scalar.cmpi .eq (BitVec.ofNat 32 (i 0).val) 0#32

set_option maxHeartbeats 1000000 in
/-- The body on whole staging buffers: the inputs stay, the first two results are the tile's, the last two have the
    tile's part added, or set at the first point. -/
theorem body_run (c : Dev nD) (i : grid0.Coords)
    (arg3 : Memref sig .tc .vmem S256x4096 .bf16) (harg3 : arg3.IsWhole)
    (arg4 : Memref sig .tc .vmem S4096x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .f32) (harg10 : arg10.IsWhole)
    (arg11 : Memref sig .tc .vmem S256x1024 .bf16) (harg11 : arg11.IsWhole)
    (arg12 : Memref sig .tc .vmem S1x1024 .f32) (harg12 : arg12.IsWhole)
    (arg13 : Memref sig .tc .vmem S1x1024 .f32) (harg13 : arg13.IsWhole)
    (a : Vec F S256x4096 .bf16) (w : Vec F S4096x1024 .bf16) (x p d : Vec F S256x1024 .f32)
    (ga gb oa ob : Vec F S1x1024 .f32) (E : Set ℕ) (K : PUnit → sProp (Res F)) :
    iprop(owns (c : Thread nD τ) arg3 fullShare a ∗ owns (c : Thread nD τ) arg4 fullShare w
        ∗ owns (c : Thread nD τ) arg5 fullShare x ∗ owns (c : Thread nD τ) arg6 fullShare p
        ∗ owns (c : Thread nD τ) arg7 fullShare d ∗ owns (c : Thread nD τ) arg8 fullShare ga
        ∗ owns (c : Thread nD τ) arg9 fullShare gb ∗ (∃ e, owns (c : Thread nD τ) arg10 fullShare e)
        ∗ (∃ e, owns (c : Thread nD τ) arg11 fullShare e) ∗ owns (c : Thread nD τ) arg12 fullShare oa
        ∗ owns (c : Thread nD τ) arg13 fullShare ob
        ∗ (iprop(owns (c : Thread nD τ) arg3 fullShare a ∗ owns (c : Thread nD τ) arg4 fullShare w
            ∗ owns (c : Thread nD τ) arg5 fullShare x ∗ owns (c : Thread nD τ) arg6 fullShare p
            ∗ owns (c : Thread nD τ) arg7 fullShare d ∗ owns (c : Thread nD τ) arg8 fullShare ga
            ∗ owns (c : Thread nD τ) arg9 fullShare gb
            ∗ owns (c : Thread nD τ) arg10 fullShare (tx a w x p d ga gb)
            ∗ owns (c : Thread nD τ) arg11 fullShare (tp a w x p d ga gb)
            ∗ owns (c : Thread nD τ) arg12 fullShare (k0_pay1 (first i) (ta a w x p d ga gb) oa)
            ∗ owns (c : Thread nD τ) arg13 fullShare (k0_pay2 (first i) (tb a w x p ga) ob)) -∗ K ⟨⟩))
      ⊢ wp frame (wpE (defs₀ (F := F)) Variants.none c none) E
          (cc0_d_h_mlp i arg3 harg3 arg4 harg4 arg5 harg5 arg6 harg6 arg7 harg7 arg8 harg8 arg9 harg9 arg10 harg10
            arg11 harg11 arg12 harg12 arg13 harg13) K := by
  simp only [cc0_d_h_mlp_eq_skeleton]; unfold cc0_d_h_mlp_skel
  simp only [k0_part1_eq_skeleton, k0_part2_eq_skeleton]
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩,
    ⟨%e10, %f10, -, H10⟩, ⟨%e11, %f11, -, H11⟩, ⟨%f12, %h12, H12⟩, ⟨%f13, %h13, H13⟩, Hk⟩
  obtain rfl := harg3.eq_unread h3; obtain rfl := harg4.eq_unread h4; obtain rfl := harg5.eq_unread h5
  obtain rfl := harg6.eq_unread h6; obtain rfl := harg7.eq_unread h7; obtain rfl := harg8.eq_unread h8
  obtain rfl := harg9.eq_unread h9; obtain rfl := harg12.eq_unread h12; obtain rfl := harg13.eq_unread h13
  sl_exec
  sl_step
  iapply Hk
  isplitl [H3]; · iexists _; isplitr; swap; (iexact H3); ipureintro; exact harg3.read_unread _
  isplitl [H4]; · iexists _; isplitr; swap; (iexact H4); ipureintro; exact harg4.read_unread _
  isplitl [H5]; · iexists _; isplitr; swap; (iexact H5); ipureintro; exact harg5.read_unread _
  isplitl [H6]; · iexists _; isplitr; swap; (iexact H6); ipureintro; exact harg6.read_unread _
  isplitl [H7]; · iexists _; isplitr; swap; (iexact H7); ipureintro; exact harg7.read_unread _
  isplitl [H8]; · iexists _; isplitr; swap; (iexact H8); ipureintro; exact harg8.read_unread _
  isplitl [H9]; · iexists _; isplitr; swap; (iexact H9); ipureintro; exact harg9.read_unread _
  isplitl [H10]
  · iexists _; isplitr; swap; (iexact H10)
    ipureintro; frame_open; refine (read_set _ _ _ _ (by decide)).trans ?_
    simp (disch := decide) only [View.readAt_eq_ld, View.ld_unit_lit', Memref.IsWhole.read_unread]; rfl
  isplitl [H11]
  · iexists _; isplitr; swap; (iexact H11)
    ipureintro; frame_open; refine (read_set _ _ _ _ (by decide)).trans ?_
    simp (disch := decide) only [View.readAt_eq_ld, View.ld_unit_lit', Memref.IsWhole.read_unread]; rfl
  isplitl [H12]
  · iexists _; isplitr; swap; (iexact H12)
    ipureintro; frame_open; refine (read_set _ _ _ _ (by decide)).trans ?_
    simp (disch := decide) only [View.readAt_eq_ld, View.ld_unit_lit', Memref.IsWhole.read_unread]; rfl
  iexists _; isplitr; swap; (iexact H13)
  ipureintro; frame_open; refine (read_set _ _ _ _ (by decide)).trans ?_
  simp (disch := decide) only [View.readAt_eq_ld, View.ld_unit_lit', Memref.IsWhole.read_unread]; rfl

variable (m : (ℓ : Loc nD τ sig) → Buf (Elt F) ℓ) (ρ : Dev nD → PrngReg) (c : Dev nD)

/-- A point by its number. -/
def pt (n : ℕ) : Fin cfg0.N := ⟨n % 16, lt_of_lt_of_eq (Nat.mod_lt _ (by norm_num)) N_0.symm⟩

theorem pt_val (t : Fin cfg0.N) : pt t.val = t :=
  Fin.ext (Nat.mod_eq_of_lt (lt_of_lt_of_eq t.isLt N_0))

/-- The tiles at a point of the launch. -/
def tileX (t : Fin cfg0.N) : FVec F S256x1024 .f32 :=
  tx (iblk m c 0 t) (iblk m c 1 t) (iblk m c 2 t) (iblk m c 3 t) (iblk m c 4 t) (iblk m c 5 t) (iblk m c 6 t)
def tileP (t : Fin cfg0.N) : FVec F S256x1024 .bf16 :=
  tp (iblk m c 0 t) (iblk m c 1 t) (iblk m c 2 t) (iblk m c 3 t) (iblk m c 4 t) (iblk m c 5 t) (iblk m c 6 t)
def tileA (t : Fin cfg0.N) : FVec F S1x1024 .f32 :=
  ta (iblk m c 0 t) (iblk m c 1 t) (iblk m c 2 t) (iblk m c 3 t) (iblk m c 4 t) (iblk m c 5 t) (iblk m c 6 t)
def tileB (t : Fin cfg0.N) : FVec F S1x1024 .f32 :=
  tb (iblk m c 0 t) (iblk m c 1 t) (iblk m c 2 t) (iblk m c 3 t) (iblk m c 5 t)

/-- The parts of the points up to the `n`-th, added up as the body does. -/
def sums (f : Fin cfg0.N → FVec F S1x1024 .f32) : ℕ → FVec F S1x1024 .f32
  | 0 => f (pt 0)
  | n + 1 => k0_pay1 0#1 (f (pt (n + 1))) (sums f n)

theorem sums_step (f : Fin cfg0.N → FVec F S1x1024 .f32) (t : Fin cfg0.N) (h : t.val ≠ 0) :
    sums f t.val = k0_pay1 0#1 (f t) (sums f (t.val - 1)) := by
  obtain ⟨n, hn⟩ := Nat.exists_eq_succ_of_ne_zero h
  rw [hn, Nat.succ_sub_one, sums, show n + 1 = t.val from hn.symm, pt_val]

/-- The data of the proof: the inputs stay, the results are the tiles and the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileX m c t
    | ⟨8, _⟩ => tileP m c t
    | ⟨9, _⟩ => sums (tileA m c) t.val
    | ⟨10, _⟩ => sums (tileB m c) t.val
  Φ _ := Pipeline.ΦA spec0 c
  q _ := fullShare
  owed _ := 0

theorem A_eq (w : Fin cfg0.W) : (dats m 0 c).A w = V m c (Pipeline.arrRef spec0 w) := by
  dsimp only [dats]

variable (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = tileX m c t := by dsimp only [dats]
theorem after8 : (dats m 0 c).after 8 t = tileP m c t := by dsimp only [dats]
theorem after9 : (dats m 0 c).after 9 t = sums (tileA m c) t.val := by dsimp only [dats]
theorem after10 : (dats m 0 c).after 10 t = sums (tileB m c) t.val := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d

theorem first_coords : ∀ t : Fin cfg0.N, first (grid0.coords t) = if t.val = 0 then 1#1 else 0#1 :=
  (by decide +kernel : ∀ t : Fin grid0.N, _)

/-- A point adds its part to what the point before left; the first one sets it. -/
theorem carry9 (d) : k0_pay1 (first (grid0.coords t)) (tileA m c t) ((dats m 0 c).before 9 t d) = sums (tileA m c) t.val := by
  have hN : t.val < 16 := lt_of_lt_of_eq t.isLt N_0
  rw [first_coords]
  by_cases h : t.val = 0
  · rw [if_pos h, h, ← pt_val t, h]; rfl
  · rw [if_neg h, Dat.before_out_kept _ 9 rfl t h
      (Bool.eq_false_iff.mpr fun h' => by have := (flush0_9 _).mp h'; dsimp only at this; omega)
      (fun _ => rfl) (fun _ _ => rfl), after9]
    exact (sums_step _ t h).symm

theorem carry10 (d) : k0_pay2 (first (grid0.coords t)) (tileB m c t) ((dats m 0 c).before 10 t d) = sums (tileB m c) t.val := by
  have hN : t.val < 16 := lt_of_lt_of_eq t.isLt N_0
  rw [first_coords]
  by_cases h : t.val = 0
  · rw [if_pos h, h, ← pt_val t, h]; rfl
  · rw [if_neg h, Dat.before_out_kept _ 10 rfl t h
      (Bool.eq_false_iff.mpr fun h' => by have := (flush0_10 _).mp h'; dsimp only at this; omega)
      (fun _ => rfl) (fun _ _ => rfl), after10]
    exact (sums_step _ t h).symm

/-- What the body is called with at a point, and what it leaves. -/
def bodyPre : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 800000 in
theorem sound_body :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [← carry9 m c t d9, ← carry10 m c t d10]
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t)
    ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at what the data of the proof say. -/
theorem run_main : θ_run defs (onTc (τ := τ) (main (F := F))) (s₀ m ρ) (Pipeline.FramePost cfgs (dats m) 0 (V m)) :=
  (θ_run defs _ _).mono (fun _ h => h.1) (run_quiescent m ρ)

/-- Every run ends, with the arguments as they were and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.HMlpIdeal.Body
end
-- ==== Proof.HMlpValue.lean ====
/- The gradient through a product and the two norms before it: a tile holds whole rows, and a row of the first two
   results is the same function of the row of the product in the launch and in the reference. The gradients of the
   gains are sums over all rows, which the launch adds tile by tile. -/
module

public import proofs.«01_k».proof.Defs
public import proofs.«01_k».proof.Proof.RmsRow
public import proofs.«01_k».proof.Proof.ReduceLead
public import proofs.«01_k».proof.Proof.HMlpBody
public import proofs.«01_k».proof.Proof.Gen.HMlpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace HMlpValue

open Cert Cert.HMlpIdeal Cert.HMlpIdeal.Gen Cert.HMlpIdeal.Body RmsRow

section tile

variable (a : Vec Ideal S256x4096 .bf16) (w : Vec Ideal S4096x1024 .bf16) (x p d : Vec Ideal S256x1024 .f32)
  (ga gb : Vec Ideal S1x1024 .f32) (i : Fin 256) (j : Fin 1024)

theorem pay3 : k0_pay3 (F := Ideal) a w (ix2 i j) = row a w i j := by
  pointwise! [k0_pay3, row]

theorem pay4 : k0_pay4 (F := Ideal) x p ga (ix2 i j) = res (at2 x i) (at2 p i) (at2 ga 0) j := by
  pointwise! [k0_pay4]

theorem pay5 : k0_pay5 (F := Ideal) x p ga (ix2 i 0) = rs (res (at2 x i) (at2 p i) (at2 ga 0)) := by
  pointwise! [k0_pay5, pay4]

theorem pay6 : k0_pay6 (F := Ideal) x p ga (ix2 i j) = unit (res (at2 x i) (at2 p i) (at2 ga 0)) j := by
  pointwise! [k0_pay6, pay4, pay5]

theorem pay7 : k0_pay7 (F := Ideal) a w gb (ix2 i j) = row a w i j * gb (ix2 0 j) := by
  pointwise! [k0_pay7, pay3]

theorem pay8 : tb (F := Ideal) a w x p ga (ix2 0 j)
    = ∑ i : Fin 256, row a w i j * unit (res (at2 x i) (at2 p i) (at2 ga 0)) j := by
  pointwise! [tb, k0_pay8, pay3, pay6]

theorem pay9 : k0_pay9 (F := Ideal) d (k0_pay5 x p ga) (k0_pay6 x p ga) (k0_pay7 a w gb) (ix2 i j)
    = through (at2 x i) (at2 p i) (at2 d i) (at2 ga 0) (at2 gb 0) (row a w i) j := by
  pointwise! [k0_pay9, pay5, pay6, pay7]

theorem pay10 : k0_pay10 (F := Ideal) p (ix2 i 0) = rs (at2 p i) := by
  pointwise! [k0_pay10]

theorem pay11 : k0_pay11 (F := Ideal) p (ix2 i j) = unit (at2 p i) j := by
  pointwise! [k0_pay11, pay10]

theorem pay12 : ta (F := Ideal) a w x p d ga gb (ix2 0 j)
    = ∑ i : Fin 256, through (at2 x i) (at2 p i) (at2 d i) (at2 ga 0) (at2 gb 0) (row a w i) j * unit (at2 p i) j := by
  pointwise! [ta, k0_pay12, pay9, pay11]

theorem pay13 : tp (F := Ideal) a w x p d ga gb (ix2 i j)
    = dx (at2 p i) (at2 ga 0) (through (at2 x i) (at2 p i) (at2 d i) (at2 ga 0) (at2 gb 0) (row a w i)) j := by
  pointwise! [tp, k0_pay13, pay9, pay10, pay11]

end tile

section ref

open Cert.HMlpRefIdeal.Read

variable (x0 : Vec Ideal S4096x4096 .bf16) (x1 : Vec Ideal S1024x4096 .bf16) (x2 x3 x6 : Vec Ideal S4096x1024 .f32)
  (x4 x5 : Vec Ideal S1x1024 .f32) (i : Fin 4096) (j : Fin 1024)

theorem v4 : val_main_v4 (F := Ideal) x0 x1 (ix2 i j) = rowT x0 x1 i j := by
  pointwise! [val_main_v4, val_main_v3, val_main_v0, rowT]

theorem v13 : val_main_v13 (F := Ideal) x3 (ix2 i 0) = ms (at2 x3 i) := by
  pointwise! [val_main_v13, val_main_v12, val_main_v11, val_main_v10, val_main_v9, val_main_v8, val_main_v7,
    val_main_cst_0, val_main_cst_1, val_main_cst_2]

theorem v14 : val_main_v14 (F := Ideal) x3 (ix2 i 0) = rs (at2 x3 i) := by
  pointwise! [val_main_v14, v13]

theorem v19 : val_main_v19 (F := Ideal) x3 (ix2 i j) = unit (at2 x3 i) j := by
  pointwise! [val_main_v19, val_main_v18, v14]

theorem v23 : val_main_v23 (F := Ideal) x2 x3 x4 (ix2 i j) = res (at2 x2 i) (at2 x3 i) (at2 x4 0) j := by
  pointwise! [val_main_v23, val_main_v22, val_main_v21, val_main_v20, val_main_v5, v19]

theorem v30 : val_main_v30 (F := Ideal) x2 x3 x4 (ix2 i 0) = ms (res (at2 x2 i) (at2 x3 i) (at2 x4 0)) := by
  pointwise! [val_main_v30, val_main_v29, val_main_v28, val_main_v27, val_main_v26, val_main_v25, val_main_v24,
    val_main_cst_4, val_main_cst_5, val_main_cst_6, v23]

theorem v31 : val_main_v31 (F := Ideal) x2 x3 x4 (ix2 i 0) = rs (res (at2 x2 i) (at2 x3 i) (at2 x4 0)) := by
  pointwise! [val_main_v31, v30]

theorem v36 : val_main_v36 (F := Ideal) x2 x3 x4 (ix2 i j) = unit (res (at2 x2 i) (at2 x3 i) (at2 x4 0)) j := by
  pointwise! [val_main_v36, val_main_v35, v31, v23]

theorem v44 : val_main_v44 (F := Ideal) x0 x1 x5 (ix2 i j) = rowT x0 x1 i j * at2 x5 0 j := by
  pointwise! [val_main_v44, val_main_v43, val_main_v37, val_main_v6, v4]

theorem v56 : val_main_v56 (F := Ideal) x0 x1 x2 x3 x4 x5 (ix2 i j)
    = dq (res (at2 x2 i) (at2 x3 i) (at2 x4 0)) (at2 x5 0) (rowT x0 x1 i) := by
  pointwise [val_main_v56, val_main_v55, val_main_v54, val_main_v53, val_main_v52, val_main_v48, val_main_v47, val_main_v46,
    val_main_v34, val_main_v33, val_main_v32, val_main_cst_7, val_main_cst_10, val_main_cst_11, val_main_cst_12,
    v23, v30, v31, v44]
  rw [Fin.sum_univ_one, v30, v31]; rfl

theorem v60 : val_main_v60 (F := Ideal) x0 x1 x2 x3 x4 x5 x6 (ix2 i j)
    = through (at2 x2 i) (at2 x3 i) (at2 x6 i) (at2 x4 0) (at2 x5 0) (rowT x0 x1 i) j := by
  rw [through, ← dx_eq, ← add_assoc, ← add_assoc]
  pointwise! [val_main_v60, val_main_v59, val_main_v58, val_main_v57, val_main_v51, val_main_v50, val_main_v49,
    v23, v31, v44, v56]

theorem v61 : val_main_v61 (F := Ideal) x0 x1 x2 x3 x4 x5 x6 (ix2 i j)
    = through (at2 x2 i) (at2 x3 i) (at2 x6 i) (at2 x4 0) (at2 x5 0) (rowT x0 x1 i) j := by
  pointwise! [val_main_v61, v60]

theorem v66 : val_main_v66 (F := Ideal) x0 x1 x2 x3 x4 x5 x6 (ix2 i j)
    = through (at2 x2 i) (at2 x3 i) (at2 x6 i) (at2 x4 0) (at2 x5 0) (rowT x0 x1 i) j * at2 x4 0 j := by
  pointwise! [val_main_v66, val_main_v65, val_main_v20, val_main_v5, v61]

theorem v77 : val_main_v77 (F := Ideal) x0 x1 x2 x3 x4 x5 x6 (ix2 i j)
    = dq (at2 x3 i) (at2 x4 0) (through (at2 x2 i) (at2 x3 i) (at2 x6 i) (at2 x4 0) (at2 x5 0) (rowT x0 x1 i)) := by
  pointwise [val_main_v77, val_main_v76, val_main_v75, val_main_v74, val_main_v73, val_main_v70, val_main_v69, val_main_v68,
    val_main_v17, val_main_v16, val_main_v15, val_main_cst_3, val_main_cst_15, val_main_cst_16, val_main_cst_17,
    v13, v14, v66]
  rw [Fin.sum_univ_one, v13, v14]; rfl

theorem v82 : val_main_v82 (F := Ideal) x0 x1 x2 x3 x4 x5 x6 (ix2 i j)
    = dx (at2 x3 i) (at2 x4 0) (through (at2 x2 i) (at2 x3 i) (at2 x6 i) (at2 x4 0) (at2 x5 0) (rowT x0 x1 i)) j := by
  rw [← dx_eq, ← add_assoc]
  pointwise! [val_main_v82, val_main_v81, val_main_v80, val_main_v79, val_main_v78, val_main_v72, val_main_v71, v14, v66, v77]

theorem v83 : val_main_v83 (F := Ideal) x0 x1 x2 x3 x4 x5 x6 (ix2 0 j)
    = ∑ i : Fin 4096, unit (at2 x3 i) j
        * through (at2 x2 i) (at2 x3 i) (at2 x6 i) (at2 x4 0) (at2 x5 0) (rowT x0 x1 i) j := by
  pointwise [val_main_v83, val_main_v67, val_main_v64, val_main_v63, val_main_v62, val_main_cst_13, val_main_cst_14, v19, v61]
  simp only [Fin.sum_univ_one]

theorem v84 : val_main_v84 (F := Ideal) x0 x1 x2 x3 x4 (ix2 0 j)
    = ∑ i : Fin 4096, unit (res (at2 x2 i) (at2 x3 i) (at2 x4 0)) j * rowT x0 x1 i j := by
  pointwise [val_main_v84, val_main_v45, val_main_v42, val_main_v41, val_main_v40, val_main_cst_8, val_main_cst_9, v4, v36]
  simp only [Fin.sum_univ_one]

end ref

section launch

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

theorem pts (t : Fin cfg0.N) : t.val < 16 := lt_of_lt_of_eq t.isLt N_0

abbrev arg0 : Vec Ideal S4096x4096 .bf16 := m ((c.tc : Thread nD τ).loc main_arg0)
abbrev arg1 : Vec Ideal S1024x4096 .bf16 := m ((c.tc : Thread nD τ).loc main_arg1)
abbrev arg2 : Vec Ideal S4096x1024 .f32 := m ((c.tc : Thread nD τ).loc main_arg2)
abbrev arg3 : Vec Ideal S4096x1024 .f32 := m ((c.tc : Thread nD τ).loc main_arg3)
abbrev arg4 : Vec Ideal S1x1024 .f32 := m ((c.tc : Thread nD τ).loc main_arg4)
abbrev arg5 : Vec Ideal S1x1024 .f32 := m ((c.tc : Thread nD τ).loc main_arg5)
abbrev arg6 : Vec Ideal S4096x1024 .f32 := m ((c.tc : Thread nD τ).loc main_arg6)

/-- The row of the arrays a row of a tile is. -/
abbrev at_ (t : Fin cfg0.N) (y : Fin 256) : Fin 4096 := ⟨t.val * 256 + y.val, by have := pts t; omega⟩

section rows

variable (t : Fin cfg0.N) (y : Fin 256)

/-- A row of a tile of the product is the row of the whole product. -/
theorem rows : row (iblk m c 0 t) (iblk m c 1 t) y = rowT (arg0 m c) (arg1 m c) (at_ t y) := by
  have ht := pts t
  refine funext fun k => Fin.sum_fin_congr fun q => ?_
  congr 1 <;> blk_point [iblk, V, idx t]

theorem row2 : at2 (iblk m c 2 t) y = at2 (arg2 m c) (at_ t y) := by
  have ht := pts t
  refine funext fun k => ?_
  show iblk m c 2 t (ix2 y k) = arg2 m c (ix2 (at_ t y) k)
  blk_point [iblk, V, idx t]

theorem row3 : at2 (iblk m c 3 t) y = at2 (arg3 m c) (at_ t y) := by
  have ht := pts t
  refine funext fun k => ?_
  show iblk m c 3 t (ix2 y k) = arg3 m c (ix2 (at_ t y) k)
  blk_point [iblk, V, idx t]

theorem row4 : at2 (iblk m c 4 t) y = at2 (arg6 m c) (at_ t y) := by
  have ht := pts t
  refine funext fun k => ?_
  show iblk m c 4 t (ix2 y k) = arg6 m c (ix2 (at_ t y) k)
  blk_point [iblk, V, idx t]

theorem row5 : at2 (iblk m c 5 t) (0 : Fin 1) = at2 (arg4 m c) 0 := by
  refine funext fun k => ?_
  show iblk m c 5 t (ix2 0 k) = arg4 m c (ix2 0 k)
  blk_point [iblk, V, idx t]

theorem row6 : at2 (iblk m c 6 t) (0 : Fin 1) = at2 (arg5 m c) 0 := by
  refine funext fun k => ?_
  show iblk m c 6 t (ix2 0 k) = arg5 m c (ix2 0 k)
  blk_point [iblk, V, idx t]

end rows

/-- The first result is the gradient of the residual stream. -/
theorem final_x : (dats m 0 c).arrAt 7 (cfgs 0).N
    = HMlpRefIdeal.Read.val_main_v60 (F := Ideal) (arg0 m c) (arg1 m c) (arg2 m c) (arg3 m c) (arg4 m c) (arg5 m c)
        (arg6 m c) := by
  refine (dats m 0 c).arrAt_eq_of_covers 7 _ (by decide +kernel) fun t hf y => ?_
  blk_simp
  idx_vars y
  have ht := pts t
  have hy : ((View.whole main_v1_0).slice (win0_7.rect t)).emb (ix2 y0 y1) = ix2 (at_ t y0) y1 := by
    blk_ext [idx t]
  rw [after7, hy, v60, ← rows, ← row2, ← row3, ← row4, ← row5 m c t, ← row6 m c t]
  exact pay9 _ _ _ _ _ _ _ y0 y1

/-- The second result is the gradient of the product of the sublayer. -/
theorem final_p : (dats m 0 c).arrAt 8 (cfgs 0).N
    = HMlpRefIdeal.Read.val_main_v82 (F := Ideal) (arg0 m c) (arg1 m c) (arg2 m c) (arg3 m c) (arg4 m c) (arg5 m c)
        (arg6 m c) := by
  refine (dats m 0 c).arrAt_eq_of_covers 8 _ (by decide +kernel) fun t hf y => ?_
  blk_simp
  idx_vars y
  have ht := pts t
  have hy : ((View.whole main_v1_1).slice (win0_8.rect t)).emb (ix2 y0 y1) = ix2 (at_ t y0) y1 := by
    blk_ext [idx t]
  rw [after8, hy, v82, ← rows, ← row2, ← row3, ← row4, ← row5 m c t, ← row6 m c t]
  exact pay13 _ _ _ _ _ _ _ y0 y1

theorem add_step (u v : Vec Ideal S1x1024 .f32) (j : Fin 1024) :
    k0_pay1 (F := Ideal) 0#1 u v (ix2 0 j) = v (ix2 0 j) + u (ix2 0 j) := by
  pointwise! [k0_pay1]

/-- The last of the running sums is the sum over all points. -/
theorem sums_at (f : Fin cfg0.N → Vec Ideal S1x1024 .f32) (n : ℕ) (j : Fin 1024) :
    sums (F := Ideal) f n (ix2 0 j) = ∑ k ∈ Finset.range (n + 1), f (pt k) (ix2 0 j) := by
  induction n with
  | zero => rw [Finset.sum_range_one, sums]
  | succ n ih => rw [Finset.sum_range_succ, ← ih, sums, add_step]

theorem pt_at (p : Fin 16) : (pt p.val).val = p.val := Nat.mod_eq_of_lt p.isLt

/-- A sum over the points and the rows of a tile is the sum over all rows. -/
theorem over_rows (f : Fin 4096 → EReal) : (∑ p : Fin 16, ∑ y : Fin 256, f (at_ (pt p.val) y)) = ∑ i, f i := by
  rw [Fin.sum_univ_tiles 16 256 rfl f]
  exact Finset.sum_congr rfl fun p _ => Finset.sum_congr rfl fun y _ =>
    congrArg f (Fin.ext (congrArg (· * 256 + y.val) (pt_at p)))

/-- The third result is the gradient of the gain of the norm after the sublayer. -/
theorem final_a : (dats m 0 c).arrAt 9 (cfgs 0).N
    = HMlpRefIdeal.Read.val_main_v83 (F := Ideal) (arg0 m c) (arg1 m c) (arg2 m c) (arg3 m c) (arg4 m c) (arg5 m c)
        (arg6 m c) := by
  refine (dats m 0 c).arrAt_eq_of_after_last 9 t0_15 (by decide +kernel) _ fun j => ?_
  blk_simp
  idx_vars j
  obtain rfl : j0 = 0 := Subsingleton.elim _ _
  rw [after9]
  refine (sums_at _ 15 j1).trans ?_
  rw [Finset.sum_range, v83, ← over_rows]
  refine Finset.sum_congr rfl fun p _ => (pay12 _ _ _ _ _ _ _ j1).trans (Finset.sum_congr rfl fun y _ => ?_)
  rw [rows, row2, row3, row4, row5, row6, mul_comm]

/-- The fourth result is the gradient of the gain of the norm before the product. -/
theorem final_b : (dats m 0 c).arrAt 10 (cfgs 0).N
    = HMlpRefIdeal.Read.val_main_v84 (F := Ideal) (arg0 m c) (arg1 m c) (arg2 m c) (arg3 m c) (arg4 m c) := by
  refine (dats m 0 c).arrAt_eq_of_after_last 10 t0_15 (by decide +kernel) _ fun j => ?_
  blk_simp
  idx_vars j
  obtain rfl : j0 = 0 := Subsingleton.elim _ _
  rw [after10]
  refine (sums_at _ 15 j1).trans ?_
  rw [Finset.sum_range, v84, ← over_rows]
  refine Finset.sum_congr rfl fun p _ => (pay8 _ _ _ _ _ j1).trans (Finset.sum_congr rfl fun y _ => ?_)
  rw [rows, row2, row3, row5, mul_comm]

end launch

set_option maxHeartbeats 1600000 in
/-- The launch and the reference leave the same four results. -/
theorem algebraic : Cert.algebraic_HMlpIdeal_HMlpRefIdeal := by
  pair_intro
  · run_from Cert.HMlpIdeal.Body.run_main m g
  · run_from Cert.HMlpRefIdeal.Value.run m' g'
    · obtain ⟨h0, h1, h2, h3, h4, h5, h6⟩ := hagree c
      rw [HMlpRefIdeal.Read.val_main_v60_eq]
      rw [h0, h1, h2, h3, h4, h5, h6]
      exact (final_x m c).symm
    · obtain ⟨h0, h1, h2, h3, h4, h5, h6⟩ := hagree c
      rw [HMlpRefIdeal.Read.val_main_v82_eq]
      rw [h0, h1, h2, h3, h4, h5, h6]
      exact (final_p m c).symm
    · obtain ⟨h0, h1, h2, h3, h4, h5, h6⟩ := hagree c
      rw [HMlpRefIdeal.Read.val_main_v83_eq]
      rw [h0, h1, h2, h3, h4, h5, h6]
      exact (final_a m c).symm
    · rw [HMlpRefIdeal.Read.val_main_v84_eq]
      exact (final_b m c).symm

end HMlpValue

end
-- ==== Proof.InValue.lean ====
/- The entry of the first layer: the norm of the rows, and the product with the input projection. -/
module

public import proofs.«01_k».proof.Defs
public import proofs.«01_k».proof.Proof.RmsRow
public import proofs.«01_k».proof.Proof.Gen.NormInIdeal.Frame
public import proofs.«01_k».proof.Proof.Gen.NormInRefIdeal.Read
public import proofs.«01_k».proof.Proof.Gen.AbInIdeal.Frame
public import proofs.«01_k».proof.Proof.Gen.AbInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace NormInValue

open Cert Cert.NormInIdeal Cert.NormInIdeal.Gen RmsRow

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] := (by decide +kernel : ∀ t : Fin grid0.N, _)

theorem pts (t : Fin cfg0.N) : t.val < 4 := lt_of_lt_of_eq t.isLt N_0

theorem pay1 (x : Vec Ideal S1024x1024 .f32) (g : Vec Ideal S1x1024 .f32) (i j : Fin 1024) :
    k0_pay1 (F := Ideal) x g (ix2 i j) = nrm (at2 x i) (at2 g 0) j := by
  pointwise! [k0_pay1]

theorem ref (x : Vec Ideal S4096x1024 .f32) (g : Vec Ideal S1x1024 .f32) (i : Fin 4096) (j : Fin 1024) :
    NormInRefIdeal.Read.val_main_v14 (F := Ideal) x g (ix2 i j) = nrm (at2 x i) (at2 g 0) j := by
  pointwise [NormInRefIdeal.Read.val_main_v14, NormInRefIdeal.Read.val_main_v13, NormInRefIdeal.Read.val_main_v12,
    NormInRefIdeal.Read.val_main_v11, NormInRefIdeal.Read.val_main_v10, NormInRefIdeal.Read.val_main_v9,
    NormInRefIdeal.Read.val_main_v8, NormInRefIdeal.Read.val_main_v7, NormInRefIdeal.Read.val_main_v6,
    NormInRefIdeal.Read.val_main_v5, NormInRefIdeal.Read.val_main_v4, NormInRefIdeal.Read.val_main_v3,
    NormInRefIdeal.Read.val_main_v2, NormInRefIdeal.Read.val_main_v1, NormInRefIdeal.Read.val_main_v0,
    NormInRefIdeal.Read.val_main_cst, NormInRefIdeal.Read.val_main_cst_0, NormInRefIdeal.Read.val_main_cst_1]
  rfl

/-- The launch leaves the norm of every row. -/
theorem final : (dats m 0 c).arrAt 2 (cfgs 0).N
    = NormInRefIdeal.Read.val_main_v14 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val * 1024 + y0.val, by omega⟩ y1 := by
    blk_ext [idx t]
  rw [after0_2, hy, ref]
  frame_out
  refine (pay1 _ _ y0 y1).trans ?_
  congr 1
  · refine funext fun k => ?_
    show iblk m c 0 t (ix2 y0 k) = _
    unfold at2
    blk_point [iblk, V, idx t]
  · refine funext fun k => ?_
    show iblk m c 1 t (ix2 0 k) = _
    unfold at2
    blk_point [iblk, V, idx t]

theorem algebraic : Cert.algebraic_NormInIdeal_NormInRefIdeal := by
  pair_intro
  · run_from Cert.NormInIdeal.Gen.run_main m g
  · run_from Cert.NormInRefIdeal.Value.run m' g'
    rw [NormInRefIdeal.Read.val_main_v14_eq]
    exact (final m c).symm

end NormInValue

namespace AbInValue

open Cert Cert.AbInIdeal Cert.AbInIdeal.Gen

variable (m : (ℓ : Loc nD τ sig) → Buf (Elt Ideal) ℓ) (c : Dev nD)

theorem idx : ∀ t : Fin cfg0.N, win0_0.index t = ![t.val / 5, 0] ∧ win0_1.index t = ![t.val % 5, 0]
    ∧ win0_2.index t = ![t.val / 5, t.val % 5] := (by decide +kernel : ∀ t : Fin grid0.N, _)

theorem pts (t : Fin cfg0.N) : t.val < 20 := lt_of_lt_of_eq t.isLt N_0

theorem pay1 (a : Vec Ideal S1024x1024 .bf16) (b : Vec Ideal S640x1024 .bf16) (i : Fin 1024) (j : Fin 640) :
    k0_pay1 (F := Ideal) a b (ix2 i j) = ∑ k : Fin 1024, a (ix2 i k) * b (ix2 j k) := by
  pointwise! [k0_pay1]

theorem ref (x0 : Vec Ideal S4096x1024 .bf16) (x1 : Vec Ideal S1024x3200 .bf16) (i : Fin 4096) (j : Fin 3200) :
    AbInRefIdeal.Read.val_main_v2 (F := Ideal) x0 x1 (ix2 i j) = ∑ k : Fin 1024, x0 (ix2 i k) * x1 (ix2 k j) := by
  pointwise! [AbInRefIdeal.Read.val_main_v2, AbInRefIdeal.Read.val_main_v1, AbInRefIdeal.Read.val_main_v0]

/-- The launch leaves the product. -/
theorem final : (dats m 0 c).arrAt 2 (cfgs 0).N
    = AbInRefIdeal.Read.val_main_v2 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v1).slice (win0_2.rect t)).emb (ix2 y0 y1)
      = ix2 ⟨t.val / 5 * 1024 + y0.val, by omega⟩ ⟨t.val % 5 * 640 + y1.val, by omega⟩ := by
    blk_ext [idx t]
  rw [after0_2, hy]
  frame_out
  refine (pay1 _ _ y0 y1).trans ?_
  rw [ref]
  refine Fin.sum_fin_congr fun k => ?_
  congr 1 <;> blk_point [iblk, V, idx t]

theorem algebraic : Cert.algebraic_AbInIdeal_AbInRefIdeal := by
  pair_intro
  · run_from Cert.AbInIdeal.Gen.run_main m g
  · run_from Cert.AbInRefIdeal.Value.run m' g'
    refine Eq.trans (funext fun y => ?_) (final m c).symm
    rfl

end AbInValue

end
-- ==== Proof.KvValue.lean ====
/- The product of the keys and values, its weight gradient, and the weight gradient of the first layer's input
   projection: the last two leave the transposed gradient. -/
module

public import proofs.«01_k».proof.Defs
public import proofs.«01_k».proof.Proof.Gen.AbInWIdeal.Frame
public import proofs.«01_k».proof.Proof.Gen.AbInWRefIdeal.Read
public import proofs.«01_k».proof.Proof.Gen.KvIdeal.Frame
public import proofs.«01_k».proof.Proof.Gen.KvRefIdeal.Read
public import proofs.«01_k».proof.Proof.Gen.KvWIdeal.Frame
public import proofs.«01_k».proof.Proof.Gen.KvWRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace AbInWValue

open Cert Cert.AbInWIdeal Cert.AbInWIdeal.Gen

variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] := (by decide +kernel : ∀ t : Fin grid0.N, _)

theorem pts (t : Fin cfg0.N) : t.val < 5 := lt_of_lt_of_eq t.isLt N_0

theorem pay1 (a : Vec Ideal S4096x640 .bf16) (b : Vec Ideal S4096x1024 .bf16) (i : Fin 640) (j : Fin 1024) :
    k0_pay1 (F := Ideal) a b (ix2 i j) = ∑ k : Fin 4096, a (ix2 k i) * b (ix2 k j) := by
  pointwise! [k0_pay1]

theorem ref (x0 : Vec Ideal S4096x3200 .bf16) (x1 : Vec Ideal S4096x1024 .bf16) (i : Fin 3200) (j : Fin 1024) :
    AbInWRefIdeal.Read.val_main_v7 (F := Ideal) x0 x1 (ix2 i j) = ∑ k : Fin 4096, x0 (ix2 k i) * x1 (ix2 k j) := by
  pointwise! [AbInWRefIdeal.Read.val_main_v7, AbInWRefIdeal.Read.val_main_v6, AbInWRefIdeal.Read.val_main_v5,
    AbInWRefIdeal.Read.val_main_v4, AbInWRefIdeal.Read.val_main_v1, AbInWRefIdeal.Read.val_main_v0]

/-- The launch leaves the transposed gradient of the input projection. -/
theorem final : (dats m 0 c).arrAt 2 (cfgs 0).N
    = AbInWRefIdeal.Read.val_main_v7 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val * 640 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_AbInWIdeal_AbInWRefIdeal := by
  pair_intro
  · run_from Cert.AbInWIdeal.Gen.run_main m g
  · run_from Cert.AbInWRefIdeal.Value.run m' g'
    rw [AbInWRefIdeal.Read.val_main_v7_eq]
    exact (final m c).symm

end AbInWValue

namespace KvValue

open Cert Cert.KvIdeal Cert.KvIdeal.Gen

variable (m : (ℓ : Loc nD τ sig) → Buf (Elt Ideal) ℓ) (c : Dev nD)

theorem idx : ∀ t : Fin cfg0.N, win0_0.index t = ![0, 0] ∧ win0_1.index t = ![t.val, 0]
    ∧ win0_2.index t = ![0, t.val] := (by decide +kernel : ∀ t : Fin grid0.N, _)

theorem pts (t : Fin cfg0.N) : t.val < 2 := lt_of_lt_of_eq t.isLt N_0

theorem pay1 (a : Vec Ideal S512x1024 .f32) (b : Vec Ideal S1024x1024 .bf16) (i : Fin 512) (j : Fin 1024) :
    k0_pay1 (F := Ideal) a b (ix2 i j) = ∑ k : Fin 1024, a (ix2 i k) * b (ix2 j k) := by
  pointwise! [k0_pay1]

theorem ref (x0 : Vec Ideal S2x256x1024 .f32) (x1 : Vec Ideal S1024x2048 .bf16) (i : Fin 512) (j : Fin 2048) :
    KvRefIdeal.Read.val_main_v3 (F := Ideal) x0 x1 (ix2 i j)
      = ∑ k : Fin 1024, x0 (ix3 ⟨i.val / 256, by omega⟩ ⟨i.val % 256, by omega⟩ k) * x1 (ix2 k j) := by
  pointwise! [KvRefIdeal.Read.val_main_v3, KvRefIdeal.Read.val_main_v2, KvRefIdeal.Read.val_main_v1,
    KvRefIdeal.Read.val_main_v0]

/-- The launch leaves the keys and values. -/
theorem final : (dats m 0 c).arrAt 2 (cfgs 0).N
    = KvRefIdeal.Read.val_main_v3 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v2).slice (win0_2.rect t)).emb (ix2 y0 y1)
      = ix2 y0 ⟨t.val * 1024 + y1.val, by omega⟩ := by
    blk_ext [idx t]
  rw [after0_2, hy, ref]
  frame_out
  refine (pay1 _ _ y0 y1).trans (Fin.sum_fin_congr fun k => ?_)
  congr 1 <;> blk_point [iblk, V, idx t]

theorem algebraic : Cert.algebraic_KvIdeal_KvRefIdeal := by
  pair_intro
  · run_from Cert.KvIdeal.Gen.run_main m g
  · run_from Cert.KvRefIdeal.Value.run m' g'
    rw [KvRefIdeal.Read.val_main_v3_eq]
    exact (final m c).symm

end KvValue

namespace KvWValue

open Cert Cert.KvWIdeal Cert.KvWIdeal.Gen

variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] := (by decide +kernel : ∀ t : Fin grid0.N, _)

theorem pts (t : Fin cfg0.N) : t.val < 2 := lt_of_lt_of_eq t.isLt N_0

theorem pay1 (a b : Vec Ideal S512x1024 .f32) (i j : Fin 1024) :
    k0_pay1 (F := Ideal) a b (ix2 i j) = ∑ k : Fin 512, a (ix2 k i) * b (ix2 k j) := by
  pointwise! [k0_pay1]

theorem ref (x0 : Vec Ideal S512x2048 .f32) (x1 : Vec Ideal S2x256x1024 .f32) (i : Fin 2048) (j : Fin 1024) :
    KvWRefIdeal.Read.val_main_v6 (F := Ideal) x0 x1 (ix2 i j)
      = ∑ k : Fin 512, x0 (ix2 k i) * x1 (ix3 ⟨k.val / 256, by omega⟩ ⟨k.val % 256, by omega⟩ j) := by
  pointwise! [KvWRefIdeal.Read.val_main_v6, KvWRefIdeal.Read.val_main_v5, KvWRefIdeal.Read.val_main_v4,
    KvWRefIdeal.Read.val_main_v3, KvWRefIdeal.Read.val_main_v0]

/-- The launch leaves the transposed gradient of the weight of the keys and values. -/
theorem final : (dats m 0 c).arrAt 2 (cfgs 0).N
    = KvWRefIdeal.Read.val_main_v6 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v1).slice (win0_2.rect t)).emb (ix2 y0 y1)
      = ix2 ⟨t.val * 1024 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_KvWIdeal_KvWRefIdeal := by
  pair_intro
  · run_from Cert.KvWIdeal.Gen.run_main m g
  · run_from Cert.KvWRefIdeal.Value.run m' g'
    rw [KvWRefIdeal.Read.val_main_v6_eq]
    exact (final m c).symm

end KvWValue

end
-- ==== Proof.MlpValue.lean ====
/- The products of the layer with the squared positive part: the forward product with its two results, the gradient
   at its argument and the gradient of the weights. At every index the launch leaves what the reference computes. -/
module

public import proofs.«01_k».proof.Defs
public import proofs.«01_k».proof.Proof.Gen.MlpWIdeal.Frame
public import proofs.«01_k».proof.Proof.Gen.MlpWRefIdeal.Read
public import proofs.«01_k».proof.Proof.Gen.MlpRIdeal.Frame
public import proofs.«01_k».proof.Proof.Gen.MlpRRefIdeal.Read
public import proofs.«01_k».proof.Proof.Gen.MlpFwdIdeal.Frame
public import proofs.«01_k».proof.Proof.Gen.MlpFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace ReluSquare

theorem two : Ideal.ofBits FTy.f32 1073741824#32 = 2 := by
  rw [show (2 : EReal) = ((2 : ℝ) : EReal) by norm_cast]
  simp [Ideal.ofBits, Ideal.ieee, -EReal.coe_mul]; norm_num

/-- The gradient of the squared positive part: the derivative of a square is twice its root. -/
theorem grad (x t : EReal) :
    (if 0 < x then max x 0 * t + t * max x 0 else 0) = t * (2 * max x 0) := by
  have hy : (0 : EReal) ≤ max x 0 := le_max_right _ _
  split
  · rw [mul_comm (max x 0) t, ← EReal.left_distrib_of_nonneg hy hy, ← one_add_one_eq_two,
      EReal.right_distrib_of_nonneg zero_le_one zero_le_one, one_mul]
  · next h => rw [max_eq_right (not_lt.mp h), mul_zero, mul_zero]

end ReluSquare

namespace MlpWValue

open Cert Cert.MlpWIdeal Cert.MlpWIdeal.Gen

variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] := (by decide +kernel : ∀ t : Fin grid0.N, _)

theorem pts (t : Fin cfg0.N) : t.val < 4 := lt_of_lt_of_eq t.isLt N_0

theorem pay1 (a b : Vec Ideal S4096x1024 .bf16) (i j : Fin 1024) :
    k0_pay1 (F := Ideal) a b (ix2 i j) = ∑ k : Fin 4096, a (ix2 k i) * b (ix2 k j) := by
  pointwise! [k0_pay1]

theorem ref (x0 : Vec Ideal S4096x4096 .bf16) (x1 : Vec Ideal S4096x1024 .bf16) (i : Fin 4096) (j : Fin 1024) :
    MlpWRefIdeal.Read.val_main_v6 (F := Ideal) x0 x1 (ix2 i j) = ∑ k : Fin 4096, x0 (ix2 k i) * x1 (ix2 k j) := by
  pointwise [MlpWRefIdeal.Read.val_main_v6, MlpWRefIdeal.Read.val_main_v5, MlpWRefIdeal.Read.val_main_v4,
    MlpWRefIdeal.Read.val_main_v1, MlpWRefIdeal.Read.val_main_v0]
  exact Finset.sum_congr rfl fun k _ => mul_comm _ _

abbrev arg0 : Vec Ideal S4096x4096 .bf16 := m ((c.tc : Thread nD τ).loc main_arg0)
abbrev arg1 : Vec Ideal S4096x1024 .bf16 := m ((c.tc : Thread nD τ).loc main_arg1)

/-- The launch leaves the gradient of the weight. -/
theorem final : (dats m 0 c).arrAt 2 (cfgs 0).N
    = MlpWRefIdeal.Read.val_main_v6 (F := Ideal) (arg0 m c) (arg1 m c) := by
  refine (dats m 0 c).arrAt_eq_of_covers 2 _ (by decide +kernel) fun t hf y => ?_
  blk_simp
  idx_vars y
  have ht := pts t
  have hy : ((View.whole main_v0).slice (win0_2.rect t)).emb (ix2 y0 y1) = ix2 ⟨t.val * 1024 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_MlpWIdeal_MlpWRefIdeal := by
  pair_intro
  · run_from Cert.MlpWIdeal.Gen.run_main m g
  · run_from Cert.MlpWRefIdeal.Value.run m' g'
    rw [MlpWRefIdeal.Read.val_main_v6_eq]
    exact (final m c).symm

end MlpWValue

namespace MlpRValue

open Cert Cert.MlpRIdeal Cert.MlpRIdeal.Gen

variable (m : (ℓ : Loc nD τ sig) → Buf (Elt Ideal) ℓ) (c : Dev nD)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem pts (t : Fin cfg0.N) : t.val < 16 := lt_of_lt_of_eq t.isLt N_0

theorem pay1 (a b r : Vec Ideal S1024x1024 .bf16) (i j : Fin 1024) :
    k0_pay1 (F := Ideal) a b r (ix2 i j)
      = (∑ k : Fin 1024, a (ix2 i k) * b (ix2 j k)) * (2 * max (r (ix2 i j)) 0) := by
  pointwise [k0_pay1]
  rw [ReluSquare.two]

theorem ref (x0 x1 : Vec Ideal S4096x1024 .bf16) (r : Vec Ideal S4096x4096 .bf16) (i j : Fin 4096) :
    MlpRRefIdeal.Read.val_main_v15 (F := Ideal) x0 x1 r (ix2 i j)
      = (∑ k : Fin 1024, x0 (ix2 i k) * x1 (ix2 j k)) * (2 * max (r (ix2 i j)) 0) := by
  pointwise [MlpRRefIdeal.Read.val_main_v15, MlpRRefIdeal.Read.val_main_v14, MlpRRefIdeal.Read.val_main_v13,
    MlpRRefIdeal.Read.val_main_v12, MlpRRefIdeal.Read.val_main_v11, MlpRRefIdeal.Read.val_main_v10,
    MlpRRefIdeal.Read.val_main_v9, MlpRRefIdeal.Read.val_main_v8, MlpRRefIdeal.Read.val_main_v6,
    MlpRRefIdeal.Read.val_main_v3, MlpRRefIdeal.Read.val_main_v2, MlpRRefIdeal.Read.val_main_v1,
    MlpRRefIdeal.Read.val_main_v0, MlpRRefIdeal.Read.val_main_call0_v0, MlpRRefIdeal.Read.val_main_call0_cst,
    MlpRRefIdeal.Read.val_main_cst, MlpRRefIdeal.Read.val_main_cst_1]
  exact ReluSquare.grad _ _

abbrev arg0 : Vec Ideal S4096x1024 .bf16 := m ((c.tc : Thread nD τ).loc main_arg0)
abbrev arg1 : Vec Ideal S4096x1024 .bf16 := m ((c.tc : Thread nD τ).loc main_arg1)
abbrev arg2 : Vec Ideal S4096x4096 .bf16 := m ((c.tc : Thread nD τ).loc main_arg2)

/-- The launch leaves the gradient at the layer's first product. -/
theorem final : (dats m 0 c).arrAt 3 (cfgs 0).N
    = MlpRRefIdeal.Read.val_main_v15 (F := Ideal) (arg0 m c) (arg1 m c) (arg2 m c) := by
  refine (dats m 0 c).arrAt_eq_of_covers 3 _ (by decide +kernel) fun t hf y => ?_
  blk_simp
  idx_vars y
  have ht := pts t
  have hy : ((View.whole main_v0).slice (win0_3.rect t)).emb (ix2 y0 y1)
      = ix2 ⟨t.val / 4 * 1024 + y0.val, by omega⟩ ⟨t.val % 4 * 1024 + y1.val, by omega⟩ := by
    blk_ext [idx t]
  rw [after0_3, hy, ref]
  frame_out
  refine (pay1 _ _ _ y0 y1).trans ?_
  congr 1
  · refine Fin.sum_fin_congr fun k => ?_
    congr 1 <;> blk_point [iblk, V, idx t]
  · congr 2
    blk_point [iblk, V, idx t]

theorem algebraic : Cert.algebraic_MlpRIdeal_MlpRRefIdeal := by
  pair_intro
  · run_from Cert.MlpRIdeal.Gen.run_main m g
  · run_from Cert.MlpRRefIdeal.Value.run m' g'
    rw [MlpRRefIdeal.Read.val_main_v15_eq]
    exact (final m c).symm

end MlpRValue

namespace MlpFwdValue

open Cert Cert.MlpFwdIdeal Cert.MlpFwdIdeal.Gen

variable (m : (ℓ : Loc nD τ sig) → Buf (Elt Ideal) ℓ) (c : Dev nD)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

theorem pts (t : Fin cfg0.N) : t.val < 16 := lt_of_lt_of_eq t.isLt N_0

theorem pay1 (a b : Vec Ideal S1024x1024 .bf16) (i j : Fin 1024) :
    k0_pay1 (F := Ideal) a b (ix2 i j) = ∑ k : Fin 1024, a (ix2 i k) * b (ix2 j k) := by
  pointwise! [k0_pay1]

theorem pay2 (a b : Vec Ideal S1024x1024 .bf16) (i j : Fin 1024) :
    k0_pay2 (F := Ideal) a b (ix2 i j) = k0_pay1 (F := Ideal) a b (ix2 i j) := by
  pointwise! [k0_pay2]

theorem pay3 (a b : Vec Ideal S1024x1024 .bf16) (i j : Fin 1024) :
    k0_pay3 (F := Ideal) a b (ix2 i j)
      = max (k0_pay1 (F := Ideal) a b (ix2 i j)) 0 * max (k0_pay1 (F := Ideal) a b (ix2 i j)) 0 := by
  pointwise! [k0_pay3]

theorem ref2 (x0 : Vec Ideal S4096x1024 .bf16) (x1 : Vec Ideal S1024x4096 .bf16) (i j : Fin 4096) :
    MlpFwdRefIdeal.Read.val_main_v2 (F := Ideal) x0 x1 (ix2 i j) = ∑ k : Fin 1024, x0 (ix2 i k) * x1 (ix2 k j) := by
  pointwise! [MlpFwdRefIdeal.Read.val_main_v2, MlpFwdRefIdeal.Read.val_main_v1, MlpFwdRefIdeal.Read.val_main_v0]

theorem ref4 (x0 : Vec Ideal S4096x1024 .bf16) (x1 : Vec Ideal S1024x4096 .bf16) (i j : Fin 4096) :
    MlpFwdRefIdeal.Read.val_main_v4 (F := Ideal) x0 x1 (ix2 i j)
      = MlpFwdRefIdeal.Read.val_main_v2 (F := Ideal) x0 x1 (ix2 i j) := by
  pointwise! [MlpFwdRefIdeal.Read.val_main_v4]

theorem ref6 (x0 : Vec Ideal S4096x1024 .bf16) (x1 : Vec Ideal S1024x4096 .bf16) (i j : Fin 4096) :
    MlpFwdRefIdeal.Read.val_main_v6 (F := Ideal) x0 x1 (ix2 i j)
      = max (MlpFwdRefIdeal.Read.val_main_v2 (F := Ideal) x0 x1 (ix2 i j)) 0
        * max (MlpFwdRefIdeal.Read.val_main_v2 (F := Ideal) x0 x1 (ix2 i j)) 0 := by
  pointwise! [MlpFwdRefIdeal.Read.val_main_v6, MlpFwdRefIdeal.Read.val_main_v5, MlpFwdRefIdeal.Read.val_main_v3,
    MlpFwdRefIdeal.Read.val_main_call0_v0, MlpFwdRefIdeal.Read.val_main_call0_cst]

abbrev arg0 : Vec Ideal S4096x1024 .bf16 := m ((c.tc : Thread nD τ).loc main_arg0)
abbrev arg1 : Vec Ideal S1024x4096 .bf16 := m ((c.tc : Thread nD τ).loc main_arg1)

/-- The product of one tile is the reference's product there. -/
theorem tile (t : Fin cfg0.N) (i j : Fin 1024) :
    k0_pay1 (F := Ideal) (iblk m c 0 t) (iblk m c 1 t) (ix2 i j)
      = MlpFwdRefIdeal.Read.val_main_v2 (F := Ideal) (arg0 m c) (arg1 m c)
          (ix2 ⟨t.val / 4 * 1024 + i.val, by have := pts t; omega⟩ ⟨t.val % 4 * 1024 + j.val, by omega⟩) := by
  have ht := pts t
  rw [pay1, ref2]
  refine Fin.sum_fin_congr fun k => ?_
  congr 1 <;> blk_point [iblk, V, idx t]

/-- The first result is the first product of the layer. -/
theorem final_r : (dats m 0 c).arrAt 2 (cfgs 0).N
    = MlpFwdRefIdeal.Read.val_main_v4 (F := Ideal) (arg0 m c) (arg1 m c) := by
  refine (dats m 0 c).arrAt_eq_of_covers 2 _ (by decide +kernel) fun t hf y => ?_
  blk_simp
  idx_vars y
  have ht := pts t
  have hy : ((View.whole main_v1_0).slice (win0_2.rect t)).emb (ix2 y0 y1)
      = ix2 ⟨t.val / 4 * 1024 + y0.val, by omega⟩ ⟨t.val % 4 * 1024 + y1.val, by omega⟩ := by
    blk_ext [idx t]
  rw [after0_2, hy, ref4, ← tile m c t]
  frame_out
  exact pay2 _ _ y0 y1

/-- The second result is the square of its positive part. -/
theorem final_m : (dats m 0 c).arrAt 3 (cfgs 0).N
    = MlpFwdRefIdeal.Read.val_main_v6 (F := Ideal) (arg0 m c) (arg1 m c) := by
  refine (dats m 0 c).arrAt_eq_of_covers 3 _ (by decide +kernel) fun t hf y => ?_
  blk_simp
  idx_vars y
  have ht := pts t
  have hy : ((View.whole main_v1_1).slice (win0_3.rect t)).emb (ix2 y0 y1)
      = ix2 ⟨t.val / 4 * 1024 + y0.val, by omega⟩ ⟨t.val % 4 * 1024 + y1.val, by omega⟩ := by
    blk_ext [idx t]
  rw [after0_3, hy, ref6, ← tile m c t]
  frame_out
  exact pay3 _ _ y0 y1

theorem algebraic : Cert.algebraic_MlpFwdIdeal_MlpFwdRefIdeal := by
  pair_intro
  · run_from Cert.MlpFwdIdeal.Gen.run_main m g
  · run_from Cert.MlpFwdRefIdeal.Value.run m' g'
    · rw [MlpFwdRefIdeal.Read.val_main_v4_eq]
      exact (final_r m c).symm
    · rw [MlpFwdRefIdeal.Read.val_main_v6_eq]
      exact (final_m m c).symm

end MlpFwdValue
end
-- ==== Proof.NormValue.lean ====
/- The gradient of the layer norm followed by the gate `y * sigmoid y`: at every index the launch leaves in its
   three results what the reference's `jax.vjp` of the plain lines computes. The row-wise functions come first;
   then each side is shown to compute them. -/
module

public import proofs.«01_k».proof.Defs
public import proofs.«01_k».proof.Proof.Gen.NormBwdIdeal.Frame
public import proofs.«01_k».proof.Proof.Gen.NormRefIdeal.Read
public import proofs.«01_k».proof.Proof.ReduceLead
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace NormRow

/-- A row of the residual stream or of a parameter. -/
abbrev Row := Fin 1024 → EReal

/-- The row length as a float literal. -/
def len : EReal := Ideal.ofBits FTy.f32 1149239296#32

def mean (x : Row) : EReal := Ideal.div (∑ k, x k) len

def dev (x : Row) (k : Fin 1024) : EReal := x k - mean x

def var (x : Row) : EReal :=
  Ideal.div (∑ k, dev x k * dev x k) len + Ideal.ofBits FTy.f32 925353388#32

def rs (x : Row) : EReal := Ideal.rsqrt (var x)

def unit (x : Row) (k : Fin 1024) : EReal := dev x k * rs x

def pre (x g b : Row) (k : Fin 1024) : EReal := unit x k * g k + b k

/-- The gradient at the norm's output: the gate's derivative times the gradient coming in. -/
def dy (x g b d : Row) (k : Fin 1024) : EReal :=
  d k * Ideal.logistic (pre x g b k)
    + pre x g b k * d k * (Ideal.logistic (pre x g b k) * (1 - Ideal.logistic (pre x g b k)))

/-- The gradient of the inverse deviation's argument, spread over one position of the row. -/
def dvar (x g b d : Row) : EReal :=
  Ideal.div ((∑ k, dev x k * (dy x g b d k * g k))
    * (Ideal.ofBits FTy.f32 3204448256#32 * Ideal.div (rs x) (var x))) len

def dsq (x g b d : Row) (k : Fin 1024) : EReal :=
  dvar x g b d * (Ideal.ofBits FTy.f32 1073741824#32 * dev x k)

/-- The gradient of the norm's argument. -/
def dx (x g b d : Row) (k : Fin 1024) : EReal :=
  dy x g b d k * g k * rs x + dsq x g b d k
    + Ideal.div ((∑ k, -(dy x g b d k * g k * rs x)) + ∑ k, -(dsq x g b d k)) len

end NormRow

namespace NormKernel

open Cert.NormBwdIdeal Cert.NormBwdIdeal.Gen NormRow

variable (x d : Vec Ideal S1024x1024 .f32) (g b : Vec Ideal S1x1024 .f32)

/-- Row `r` of a tile. -/
abbrev row (x : Vec Ideal S1024x1024 .f32) (r : Fin 1024) : Row := fun k => x (ix2 r k)
/-- A parameter's only row. -/
abbrev par (g : Vec Ideal S1x1024 .f32) : Row := fun k => g (ix2 0 k)

theorem pay3 (r : Fin 1024) : k0_pay3 (F := Ideal) x (ix2 r 0) = mean (row x r) := by
  pointwise! [k0_pay3, mean, len]
theorem pay4 (r k : Fin 1024) : k0_pay4 (F := Ideal) x (ix2 r k) = dev (row x r) k := by
  pointwise! [k0_pay4, pay3, dev]
theorem pay6 (r k : Fin 1024) : k0_pay6 (F := Ideal) x (ix2 r k) = dev (row x r) k := by
  pointwise! [k0_pay6, pay3, dev]
theorem pay7 (r : Fin 1024) (z : Fin 1) : k0_pay7 (F := Ideal) x (ix2 r z) = var (row x r) := by
  pointwise! [k0_pay7, pay4, var, len]
theorem pay8 (r : Fin 1024) (z : Fin 1) : k0_pay8 (F := Ideal) x (ix2 r z) = rs (row x r) := by
  pointwise! [k0_pay8, pay7, rs]
theorem pay10 (r k : Fin 1024) : k0_pay10 (F := Ideal) x (ix2 r k) = NormRow.unit (row x r) k := by
  pointwise! [k0_pay10, pay6, pay8, NormRow.unit]
theorem pay11 (r k : Fin 1024) :
    k0_pay11 (F := Ideal) x g b d (ix2 r k) = dy (row x r) (par g) (par b) (row d r) k := by
  pointwise! [k0_pay11, pay10, dy, pre]
theorem pay14 (r k : Fin 1024) :
    k0_pay14 (F := Ideal) g (k0_pay5 x) (k0_pay6 x) (k0_pay8 x) (k0_pay9 x) (k0_pay11 x g b d) (ix2 r k)
      = dx (row x r) (par g) (par b) (row d r) k := by
  pointwise [k0_pay14, k0_pay5, k0_pay9, pay4, pay6, pay7, pay8, pay11, dx, dsq, dvar, len, zero_sub]
  simp only [Finset.univ_unique, Finset.sum_singleton]
theorem pay16 (acc : Vec Ideal S1x1024 .f32) (z : Fin 1) (k : Fin 1024) :
    k0_pay16 (F := Ideal) (k0_pay13 x g b d) acc (ix2 z k)
      = acc (ix2 z k) + ∑ r : Fin 1024, NormRow.unit (row x r) k * dy (row x r) (par g) (par b) (row d r) k := by
  pointwise! [k0_pay16, k0_pay13, pay10, pay11]
theorem pay2 (acc : Vec Ideal S1x1024 .f32) (z : Fin 1) (k : Fin 1024) :
    k0_pay2 (F := Ideal) (k0_pay12 x g b d) acc (ix2 z k)
      = acc (ix2 z k) + ∑ r : Fin 1024, dy (row x r) (par g) (par b) (row d r) k := by
  pointwise! [k0_pay2, k0_pay12, pay11]
theorem pay15 (j : S1x1024.Idx) : k0_pay15 (F := Ideal) j = 0 := by
  pointwise [k0_pay15]
theorem pay1 (j : S1x1024.Idx) : k0_pay1 (F := Ideal) j = 0 := by
  pointwise [k0_pay1]

end NormKernel

namespace NormRef

open Cert.NormRefIdeal Cert.NormRefIdeal.Read NormRow

variable (x : Vec Ideal S4096x1024 .f32) (d : Vec Ideal S4096x2048 .f32) (g b : Vec Ideal S1x1024 .f32)

/-- The row of position `s` of sequence `p`. -/
abbrev row (x : Vec Ideal S4096x1024 .f32) (p : Fin 2) (s : Fin 2048) : Row :=
  fun k => x (ix2 ⟨p.val * 2048 + s.val, by omega⟩ k)
/-- The row of the incoming gradient: its first 1024 columns. -/
abbrev grow (d : Vec Ideal S4096x2048 .f32) (p : Fin 2) (s : Fin 2048) : Row :=
  fun k => d (ix2 ⟨p.val * 2048 + s.val, by omega⟩ ⟨k.val, by omega⟩)
abbrev par (g : Vec Ideal S1x1024 .f32) : Row := fun k => g (ix2 0 k)

theorem v8 (p : Fin 2) (s : Fin 2048) : val_main_v8 (F := Ideal) x (ix3 p s 0) = mean (row x p s) := by
  pointwise! [val_main_v8, val_main_v7, val_main_v6, val_main_v5, val_main_v2, val_main_cst, val_main_cst_0, mean, len]
theorem v10 (p : Fin 2) (s : Fin 2048) (k : Fin 1024) : val_main_v10 (F := Ideal) x (ix3 p s k) = dev (row x p s) k := by
  pointwise! [val_main_v10, val_main_v9, val_main_v2, v8, dev]
theorem v19 (p : Fin 2) (s : Fin 2048) (k : Fin 1024) : val_main_v19 (F := Ideal) x (ix3 p s k) = dev (row x p s) k := by
  pointwise! [val_main_v19, val_main_v18, val_main_v2, v8, dev]
theorem v21 (p : Fin 2) (s : Fin 2048) (z : Fin 1) : val_main_v21 (F := Ideal) x (ix3 p s z) = var (row x p s) := by
  pointwise! [val_main_v21, val_main_v20, val_main_v17, val_main_v16, val_main_v15, val_main_v14, val_main_v11,
    val_main_cst_2, val_main_cst_3, val_main_cst_4, v10, var, len]
theorem v22 (p : Fin 2) (s : Fin 2048) (z : Fin 1) : val_main_v22 (F := Ideal) x (ix3 p s z) = rs (row x p s) := by
  pointwise! [val_main_v22, v21, rs]
theorem v27 (p : Fin 2) (s : Fin 2048) (k : Fin 1024) :
    val_main_v27 (F := Ideal) x (ix3 p s k) = NormRow.unit (row x p s) k := by
  pointwise! [val_main_v27, val_main_v26, v19, v22, NormRow.unit]
theorem v33 (p : Fin 2) (s : Fin 2048) (k : Fin 1024) :
    val_main_v33 (F := Ideal) x g b (ix3 p s k) = pre (row x p s) (par g) (par b) k := by
  pointwise! [val_main_v33, val_main_v32, val_main_v31, val_main_v30, val_main_v29, val_main_v28, val_main_v3,
    val_main_v4, v27, pre]
theorem sigmoid (p : Fin 2) (s : Fin 2048) (k : Fin 1024) :
    val_main_v34_2 (F := Ideal) x g b (ix3 p s k) = Ideal.logistic (pre (row x p s) (par g) (par b) k) := by
  pointwise! [val_main_v34_2, val_main_call0_v4, val_main_call0_v3, val_main_call0_v2, val_main_call0_v1,
    val_main_call0_v0, val_main_call0_cst, val_main_call0_cst_0, v33, Ideal.logistic]
theorem v35 (p : Fin 2) (s : Fin 2048) (k : Fin 1024) :
    val_main_v35 (F := Ideal) x g b d (ix3 p s k) = dy (row x p s) (par g) (par b) (grow d p s) k := by
  pointwise! [val_main_v35, val_main_call1_v2, val_main_call1_v1, val_main_call1_v0, val_main_v34_1, val_main_call0_v7,
    val_main_call0_v6, val_main_call0_cst_1, val_main_v1, val_main_v0, sigmoid, v33, dy]
theorem v68 (p : Fin 2) (s : Fin 2048) (k : Fin 1024) :
    val_main_v68 (F := Ideal) x g b d (ix3 p s k) = dx (row x p s) (par g) (par b) (grow d p s) k := by
  pointwise [val_main_v68, val_main_v67, val_main_v66, val_main_v65, val_main_v64, val_main_v63, val_main_v62,
    val_main_v61, val_main_v60, val_main_v59, val_main_v58, val_main_v57, val_main_v56, val_main_v55, val_main_v54,
    val_main_v53, val_main_v52, val_main_v51, val_main_v50, val_main_v49, val_main_v48, val_main_v47, val_main_v46,
    val_main_v45, val_main_v43, val_main_v42, val_main_v28, val_main_cst_10, val_main_cst_11, val_main_cst_12,
    val_main_cst_13, val_main_cst_14, val_main_cst_15, val_main_cst_16, val_main_v3, val_main_v25, val_main_v24,
    val_main_v23, val_main_v13, val_main_v12, val_main_cst_1, val_main_cst_5, v10, v19, v21, v22, v35, dx, dsq, dvar, len]
  simp only [Finset.univ_unique, Finset.sum_singleton]
/-- The gradient of the input, by flat position. -/
theorem v69 (i : Fin 4096) (k : Fin 1024) :
    val_main_v69 (F := Ideal) x g b d (ix2 i k)
      = dx (fun k => x (ix2 i k)) (par g) (par b) (fun k => d (ix2 i ⟨k.val, by omega⟩)) k := by
  have h : (⟨i.val / 2048 * 2048 + i.val % 2048, by omega⟩ : Fin 4096) = i := Fin.ext (Nat.div_add_mod' i.val 2048)
  pointwise [val_main_v69]
  exact (v68 x d g b ⟨i.val / 2048, by omega⟩ ⟨i.val % 2048, by omega⟩ k).trans
    (congrArg (fun i : Fin 4096 => dx (fun k => x (ix2 i k)) (par g) (par b)
      (fun k => d (ix2 i ⟨k.val, by omega⟩)) k) h)
/-- The scale's gradient: the sum over every position of every sequence. -/
theorem v70 (k : Fin 1024) :
    val_main_v70 (F := Ideal) x g b d (ix2 0 k)
      = ∑ p : Fin 2, ∑ s : Fin 2048,
          NormRow.unit (row x p s) k * dy (row x p s) (par g) (par b) (grow d p s) k := by
  pointwise [val_main_v70, val_main_v44, ReduceLead.hostReduceAdd_lead, val_main_cst_9, val_main_v41, val_main_v40,
    val_main_cst_8, val_main_v39, v27, v35]
  simp only [Finset.univ_unique, Finset.sum_singleton]
/-- The bias's gradient. -/
theorem v71 (k : Fin 1024) :
    val_main_v71 (F := Ideal) x g b d (ix2 0 k)
      = ∑ p : Fin 2, ∑ s : Fin 2048, dy (row x p s) (par g) (par b) (grow d p s) k := by
  pointwise [val_main_v71, val_main_v38, ReduceLead.hostReduceAdd_lead, val_main_cst_7, val_main_v37, val_main_v36,
    val_main_cst_6, v35]
  simp only [Finset.univ_unique, Finset.sum_singleton]

end NormRef

namespace NormKernel

open Cert.NormBwdIdeal Cert.NormBwdIdeal.Gen NormRow

variable (m : (ℓ : Loc nD τ sig) → Buf (Elt Ideal) ℓ) (c : Dev nD)

/-- Which block each window has at point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0]
    ∧ win0_6.index t = ![0, 0] :=
  (by decide +kernel : ∀ t : Fin grid0.N, _)

theorem pts (t : Fin cfg0.N) : t.val < 4 := lt_of_lt_of_eq t.isLt N_0

/-- The arguments, as the reference's functions take them. -/
abbrev argx : Vec Ideal S4096x1024 .f32 := m ((c.tc : Thread nD τ).loc main_arg0)
abbrev argg : Vec Ideal S1x1024 .f32 := m ((c.tc : Thread nD τ).loc main_arg1)
abbrev argb : Vec Ideal S1x1024 .f32 := m ((c.tc : Thread nD τ).loc main_arg2)
abbrev argd : Vec Ideal S4096x2048 .f32 := m ((c.tc : Thread nD τ).loc main_arg3)

theorem blk_x (t : Fin cfg0.N) (r : Fin 1024) :
    row (iblk m c 0 t) r = fun k => argx m c (ix2 ⟨t.val * 1024 + r.val, by have := pts t; omega⟩ k) := by
  funext k
  show iblk m c 0 t (ix2 r k) = _
  blk_point [iblk, V, idx t]
theorem blk_d (t : Fin cfg0.N) (r : Fin 1024) :
    row (iblk m c 3 t) r
      = fun k => argd m c (ix2 ⟨t.val * 1024 + r.val, by have := pts t; omega⟩ ⟨k.val, by omega⟩) := by
  funext k
  show iblk m c 3 t (ix2 r k) = _
  blk_point [iblk, V, idx t]
theorem blk_g (t : Fin cfg0.N) : par (iblk m c 1 t) = par (argg m c) := by
  funext k
  show iblk m c 1 t (ix2 0 k) = _
  blk_point [iblk, V, idx t]
theorem blk_b (t : Fin cfg0.N) : par (iblk m c 2 t) = par (argb m c) := by
  funext k
  show iblk m c 2 t (ix2 0 k) = _
  blk_point [iblk, V, idx t]

/-- The first result of the launch is the reference's gradient of the input. -/
theorem final_dv : (dats m 0 c).arrAt 4 (cfgs 0).N
    = Cert.NormRefIdeal.Read.val_main_v69 (F := Ideal) (argx m c) (argg m c) (argb m c) (argd m c) := by
  refine (dats m 0 c).arrAt_eq_of_covers 4 _ (by decide +kernel) fun t hf y => ?_
  blk_simp
  idx_vars y
  have hout : (outsAt0 m c t.val t.isLt).1 (ix2 y0 y1)
      = k0_pay14 (F := Ideal) (iblk m c 1 t) (k0_pay5 (iblk m c 0 t)) (k0_pay6 (iblk m c 0 t)) (k0_pay8 (iblk m c 0 t))
          (k0_pay9 (iblk m c 0 t)) (k0_pay11 (iblk m c 0 t) (iblk m c 1 t) (iblk m c 2 t) (iblk m c 3 t)) (ix2 y0 y1) := by
    by_cases h : t.val % 4 = 0
    · rw [outsAt0_A m c t h h]
      frame_out
    · rw [outsAt0_B m c t h h]
      frame_out
  have hy : ((View.whole main_v0_0).slice (win0_4.rect t)).emb (ix2 y0 y1)
      = ix2 ⟨t.val * 1024 + y0.val, by have := pts t; omega⟩ y1 := by
    blk_ext [idx t]
  rw [after0_4, hout, pay14, blk_x, blk_d, blk_g, blk_b, hy, NormRef.v69]

/-- The second result is the gradient of the scale. -/
theorem final_dg : (dats m 0 c).arrAt 5 (cfgs 0).N
    = Cert.NormRefIdeal.Read.val_main_v70 (F := Ideal) (argx m c) (argg m c) (argb m c) (argd m c) := by
  refine (dats m 0 c).arrAt_eq_of_after_last 5 t0_3 (by decide +kernel) _ fun j => ?_
  blk_simp
  idx_vars j
  obtain rfl : j0 = 0 := Subsingleton.elim _ _
  rw [after0_5, Pipeline.eq_sum_fin_of_reset_step_apply_last (fun n h => (outsAt0 m c n h).2.1) 4 (fun _ => 0)
    (fun t j => ∑ r : Fin 1024, NormRow.unit (row (iblk m c 0 t) r) (j 1)
      * dy (row (iblk m c 0 t) r) (par (iblk m c 1 t)) (par (iblk m c 2 t)) (row (iblk m c 3 t) r) (j 1))
    (fun t h j => by
      idx_vars j; rw [outsAt0_A m c t h h]; frame_out; exact (pay16 _ _ _ _ _ j0 j1).trans (by rw [pay15]))
    (fun t h j => by
      idx_vars j; rw [outsAt0_B m c t h h]; frame_out; exact pay16 _ _ _ _ _ j0 j1) (le_of_eq N_0) t0_3 rfl _]
  simp only [blk_x, blk_d, blk_g, blk_b]
  rw [NormRef.v70, zero_add]
  exact ReduceLead.sum_regroup 4 1024 2 2048 rfl rfl (fun i : Fin 4096 =>
    NormRow.unit (fun k => argx m c (ix2 i k)) j1 * dy (fun k => argx m c (ix2 i k)) (par (argg m c)) (par (argb m c))
      (fun k => argd m c (ix2 i ⟨k.val, by omega⟩)) j1)

/-- The third result is the gradient of the bias. -/
theorem final_db : (dats m 0 c).arrAt 6 (cfgs 0).N
    = Cert.NormRefIdeal.Read.val_main_v71 (F := Ideal) (argx m c) (argg m c) (argb m c) (argd m c) := by
  refine (dats m 0 c).arrAt_eq_of_after_last 6 t0_3 (by decide +kernel) _ fun j => ?_
  blk_simp
  idx_vars j
  obtain rfl : j0 = 0 := Subsingleton.elim _ _
  rw [after0_6, Pipeline.eq_sum_fin_of_reset_step_apply_last (fun n h => (outsAt0 m c n h).2.2) 4 (fun _ => 0)
    (fun t j => ∑ r : Fin 1024,
      dy (row (iblk m c 0 t) r) (par (iblk m c 1 t)) (par (iblk m c 2 t)) (row (iblk m c 3 t) r) (j 1))
    (fun t h j => by
      idx_vars j; rw [outsAt0_A m c t h h]; frame_out; exact (pay2 _ _ _ _ _ j0 j1).trans (by rw [pay1]))
    (fun t h j => by
      idx_vars j; rw [outsAt0_B m c t h h]; frame_out; exact pay2 _ _ _ _ _ j0 j1) (le_of_eq N_0) t0_3 rfl _]
  simp only [blk_x, blk_d, blk_g, blk_b]
  rw [NormRef.v71, zero_add]
  exact ReduceLead.sum_regroup 4 1024 2 2048 rfl rfl (fun i : Fin 4096 =>
    dy (fun k => argx m c (ix2 i k)) (par (argg m c)) (par (argb m c)) (fun k => argd m c (ix2 i ⟨k.val, by omega⟩)) j1)

end NormKernel

namespace NormValue

open Cert

/-- The launch and the reference leave the same three results. -/
theorem algebraic : Cert.algebraic_NormBwdIdeal_NormRefIdeal := by
  pair_intro
  · run_from Cert.NormBwdIdeal.Gen.run_main m g
  · run_from Cert.NormRefIdeal.Value.run m' g'
    · obtain ⟨h0, h1, h2, h3⟩ := hagree c
      rw [NormRefIdeal.Read.val_main_v69_eq, h0, h1, h2, h3]
      exact (NormKernel.final_dv m c).symm
    · obtain ⟨h0, h1, h2, h3⟩ := hagree c
      rw [NormRefIdeal.Read.val_main_v70_eq, h0, h1, h2, h3]
      exact (NormKernel.final_dg m c).symm
    · obtain ⟨h0, h1, h2, h3⟩ := hagree c
      rw [NormRefIdeal.Read.val_main_v71_eq, h0, h1, h2, h3]
      exact (NormKernel.final_db m c).symm

end NormValue

end
-- ==== Proof.ProductValue.lean ====
/- The plain products around the attention and around the convolution layer's output projection. Each launch cuts the
   product into tiles that meet the whole contraction, so each tile is the reference's product at its place. -/
module

public import proofs.«01_k».proof.Defs
public import proofs.«01_k».proof.Proof.Gen.AttnOIdeal.Frame
public import proofs.«01_k».proof.Proof.Gen.AttnORefIdeal.Read
public import proofs.«01_k».proof.Proof.Gen.AttnQIdeal.Frame
public import proofs.«01_k».proof.Proof.Gen.AttnQRefIdeal.Read
public import proofs.«01_k».proof.Proof.Gen.MixOutIdeal.Frame
public import proofs.«01_k».proof.Proof.Gen.MixOutRefIdeal.Read
public import proofs.«01_k».proof.Proof.Gen.AttnWIdeal.Frame
public import proofs.«01_k».proof.Proof.Gen.AttnWRefIdeal.Read
public import proofs.«01_k».proof.Proof.Gen.AbMixIdeal.Frame
public import proofs.«01_k».proof.Proof.Gen.AbMixRefIdeal.Read
public import proofs.«01_k».proof.Proof.Gen.AbWIdeal.Frame
public import proofs.«01_k».proof.Proof.Gen.AbWRefIdeal.Read
public import proofs.«01_k».proof.Proof.Gen.MixWIdeal.Frame
public import proofs.«01_k».proof.Proof.Gen.MixWRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace AttnOValue

open Cert Cert.AttnOIdeal Cert.AttnOIdeal.Gen

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] := (by decide +kernel : ∀ t : Fin grid0.N, _)

theorem pts (t : Fin cfg0.N) : t.val < 4 := lt_of_lt_of_eq t.isLt N_0

theorem pay1 (a b : Vec Ideal S1024x1024 .bf16) (i j : Fin 1024) :
    k0_pay1 (F := Ideal) a b (ix2 i j) = ∑ k : Fin 1024, a (ix2 i k) * b (ix2 j k) := by
  pointwise! [k0_pay1]

theorem ref (x0 : Vec Ideal S4096x1024 .bf16) (x1 : Vec Ideal S1024x1024 .bf16) (i : Fin 4096) (j : Fin 1024) :
    AttnORefIdeal.Read.val_main_v5 (F := Ideal) x0 x1 (ix2 i j) = ∑ k : Fin 1024, x0 (ix2 i k) * x1 (ix2 j k) := by
  pointwise! [AttnORefIdeal.Read.val_main_v5, AttnORefIdeal.Read.val_main_v4, AttnORefIdeal.Read.val_main_v1,
    AttnORefIdeal.Read.val_main_v0]

/-- The launch leaves the gradient at the attention's output. -/
theorem final : (dats m 0 c).arrAt 2 (cfgs 0).N
    = AttnORefIdeal.Read.val_main_v5 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val * 1024 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_AttnOIdeal_AttnORefIdeal := by
  pair_intro
  · run_from Cert.AttnOIdeal.Gen.run_main m g
  · run_from Cert.AttnORefIdeal.Value.run m' g'
    rw [AttnORefIdeal.Read.val_main_v5_eq]
    exact (final m c).symm

end AttnOValue

namespace AttnQValue

open Cert Cert.AttnQIdeal Cert.AttnQIdeal.Gen

variable (m : (ℓ : Loc nD τ sig) → Buf (Elt Ideal) ℓ) (c : Dev nD)

theorem idx : ∀ t : Fin cfg0.N, win0_0.index t = ![t.val, 0] ∧ win0_1.index t = ![0, 0]
    ∧ win0_2.index t = ![t.val, 0] := (by decide +kernel : ∀ t : Fin grid0.N, _)

theorem pts (t : Fin cfg0.N) : t.val < 4 := lt_of_lt_of_eq t.isLt N_0

theorem pay1 (a b : Vec Ideal S1024x1024 .bf16) (i j : Fin 1024) :
    k0_pay1 (F := Ideal) a b (ix2 i j) = ∑ k : Fin 1024, a (ix2 i k) * b (ix2 k j) := by
  pointwise! [k0_pay1]

theorem ref (x0 : Vec Ideal S4096x1024 .bf16) (x1 : Vec Ideal S1024x1024 .bf16) (i : Fin 4096) (j : Fin 1024) :
    AttnQRefIdeal.Read.val_main_v3 (F := Ideal) x0 x1 (ix2 i j) = ∑ k : Fin 1024, x0 (ix2 i k) * x1 (ix2 k j) := by
  pointwise! [AttnQRefIdeal.Read.val_main_v3, AttnQRefIdeal.Read.val_main_v2, AttnQRefIdeal.Read.val_main_v1,
    AttnQRefIdeal.Read.val_main_v0]

/-- The launch leaves the queries. -/
theorem final : (dats m 0 c).arrAt 2 (cfgs 0).N
    = AttnQRefIdeal.Read.val_main_v3 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val * 1024 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_AttnQIdeal_AttnQRefIdeal := by
  pair_intro
  · run_from Cert.AttnQIdeal.Gen.run_main m g
  · run_from Cert.AttnQRefIdeal.Value.run m' g'
    rw [AttnQRefIdeal.Read.val_main_v3_eq]
    exact (final m c).symm

end AttnQValue

namespace AttnWValue

open Cert Cert.AttnWIdeal Cert.AttnWIdeal.Gen

variable (m : (ℓ : Loc nD τ sig) → Buf (Elt Ideal) ℓ) (c : Dev nD)

theorem idx : ∀ t : Fin cfg0.N, win0_0.index t = ![0, 0] ∧ win0_1.index t = ![0, 0]
    ∧ win0_2.index t = ![0, 0] := (by decide +kernel : ∀ t : Fin grid0.N, _)

theorem pts (t : Fin cfg0.N) : t.val < 1 := lt_of_lt_of_eq t.isLt N_0

theorem pay1 (a b : Vec Ideal S4096x1024 .bf16) (i j : Fin 1024) :
    k0_pay1 (F := Ideal) a b (ix2 i j) = ∑ k : Fin 4096, a (ix2 k i) * b (ix2 k j) := by
  pointwise! [k0_pay1]

theorem ref (x0 : Vec Ideal S4096x1024 .bf16) (x1 : Vec Ideal S4096x1024 .bf16) (i : Fin 1024) (j : Fin 1024) :
    AttnWRefIdeal.Read.val_main_v6 (F := Ideal) x0 x1 (ix2 i j) = ∑ k : Fin 4096, x0 (ix2 k i) * x1 (ix2 k j) := by
  pointwise [AttnWRefIdeal.Read.val_main_v6, AttnWRefIdeal.Read.val_main_v5, AttnWRefIdeal.Read.val_main_v4,
    AttnWRefIdeal.Read.val_main_v1, AttnWRefIdeal.Read.val_main_v0]
  exact Finset.sum_congr rfl fun k _ => mul_comm _ _

/-- The launch leaves the gradient of a square weight of the attention. -/
theorem final : (dats m 0 c).arrAt 2 (cfgs 0).N
    = AttnWRefIdeal.Read.val_main_v6 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 y0 y1 := by
    blk_ext [idx t]
  rw [after0_2, hy, ref]
  frame_out
  refine (pay1 _ _ y0 y1).trans (Fin.sum_fin_congr fun k => ?_)
  congr 1 <;> blk_point [iblk, V, idx t]

theorem algebraic : Cert.algebraic_AttnWIdeal_AttnWRefIdeal := by
  pair_intro
  · run_from Cert.AttnWIdeal.Gen.run_main m g
  · run_from Cert.AttnWRefIdeal.Value.run m' g'
    rw [AttnWRefIdeal.Read.val_main_v6_eq]
    exact (final m c).symm

end AttnWValue

namespace MixOutValue

open Cert Cert.MixOutIdeal Cert.MixOutIdeal.Gen

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val / 2, t.val % 2] := (by decide +kernel : ∀ t : Fin grid0.N, _)

theorem pts (t : Fin cfg0.N) : t.val < 8 := lt_of_lt_of_eq t.isLt N_0

theorem pay1 (a b : Vec Ideal S1024x1024 .bf16) (i j : Fin 1024) :
    k0_pay1 (F := Ideal) a b (ix2 i j) = ∑ k : Fin 1024, a (ix2 i k) * b (ix2 j k) := by
  pointwise! [k0_pay1]

theorem ref (x0 : Vec Ideal S4096x1024 .bf16) (x1 : Vec Ideal S2048x1024 .bf16) (i : Fin 4096) (j : Fin 2048) :
    MixOutRefIdeal.Read.val_main_v4 (F := Ideal) x0 x1 (ix2 i j) = ∑ k : Fin 1024, x0 (ix2 i k) * x1 (ix2 j k) := by
  pointwise! [MixOutRefIdeal.Read.val_main_v4, MixOutRefIdeal.Read.val_main_v1, MixOutRefIdeal.Read.val_main_v0]

/-- The launch leaves the gradient at the mixed branches. -/
theorem final : (dats m 0 c).arrAt 2 (cfgs 0).N
    = MixOutRefIdeal.Read.val_main_v4 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val / 2 * 1024 + y0.val, by omega⟩ ⟨t.val % 2 * 1024 + y1.val, by omega⟩ := by
    blk_ext [idx t]
  rw [after0_2, hy, ref]
  frame_out
  refine (pay1 _ _ y0 y1).trans (Fin.sum_fin_congr fun k => ?_)
  congr 1 <;> blk_point [iblk, V, idx t]

theorem algebraic : Cert.algebraic_MixOutIdeal_MixOutRefIdeal := by
  pair_intro
  · run_from Cert.MixOutIdeal.Gen.run_main m g
  · run_from Cert.MixOutRefIdeal.Value.run m' g'
    refine Eq.trans (funext fun y => ?_) (final m c).symm
    idx_vars y
    rw [ref]
    pointwise

end MixOutValue

namespace MixWValue

open Cert Cert.MixWIdeal Cert.MixWIdeal.Gen

variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] := (by decide +kernel : ∀ t : Fin grid0.N, _)

theorem pts (t : Fin cfg0.N) : t.val < 2 := lt_of_lt_of_eq t.isLt N_0

theorem pay1 (a b : Vec Ideal S4096x1024 .bf16) (i j : Fin 1024) :
    k0_pay1 (F := Ideal) a b (ix2 i j) = ∑ k : Fin 4096, a (ix2 k i) * b (ix2 k j) := by
  pointwise! [k0_pay1]

theorem ref (x0 : Vec Ideal S4096x2048 .bf16) (x1 : Vec Ideal S4096x1024 .bf16) (i : Fin 2048) (j : Fin 1024) :
    MixWRefIdeal.Read.val_main_v6 (F := Ideal) x0 x1 (ix2 i j) = ∑ k : Fin 4096, x0 (ix2 k i) * x1 (ix2 k j) := by
  pointwise [MixWRefIdeal.Read.val_main_v6, MixWRefIdeal.Read.val_main_v5, MixWRefIdeal.Read.val_main_v4,
    MixWRefIdeal.Read.val_main_v1, MixWRefIdeal.Read.val_main_v0]
  exact Finset.sum_congr rfl fun k _ => mul_comm _ _

/-- The launch leaves the gradient of the output projection's weights. -/
theorem final : (dats m 0 c).arrAt 2 (cfgs 0).N
    = MixWRefIdeal.Read.val_main_v6 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val * 1024 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_MixWIdeal_MixWRefIdeal := by
  pair_intro
  · run_from Cert.MixWIdeal.Gen.run_main m g
  · run_from Cert.MixWRefIdeal.Value.run m' g'
    rw [MixWRefIdeal.Read.val_main_v6_eq]
    exact (final m c).symm

end MixWValue

namespace AbMixValue

open Cert Cert.AbMixIdeal Cert.AbMixIdeal.Gen

variable (m : (ℓ : Loc nD τ sig) → Buf (Elt Ideal) ℓ) (c : Dev nD)

theorem idx : ∀ t : Fin cfg0.N, win0_0.index t = ![t.val / 2, 0] ∧ win0_1.index t = ![t.val % 2, 0]
    ∧ win0_2.index t = ![t.val / 2, t.val % 2] := (by decide +kernel : ∀ t : Fin grid0.N, _)

theorem pts (t : Fin cfg0.N) : t.val < 8 := lt_of_lt_of_eq t.isLt N_0

theorem pay1 (a : Vec Ideal S1024x1024 .bf16) (b : Vec Ideal S768x1024 .bf16) (i : Fin 1024) (j : Fin 768) :
    k0_pay1 (F := Ideal) a b (ix2 i j) = ∑ k : Fin 1024, a (ix2 i k) * b (ix2 j k) := by
  pointwise! [k0_pay1]

theorem ref (x0 : Vec Ideal S4096x1024 .bf16) (x1 : Vec Ideal S1536x1024 .bf16) (i : Fin 4096) (j : Fin 1536) :
    AbMixRefIdeal.Read.val_main_v4 (F := Ideal) x0 x1 (ix2 i j) = ∑ k : Fin 1024, x0 (ix2 i k) * x1 (ix2 j k) := by
  pointwise! [AbMixRefIdeal.Read.val_main_v4, AbMixRefIdeal.Read.val_main_v1, AbMixRefIdeal.Read.val_main_v0]

/-- The launch leaves the gradient at the mixed branches of the other layer. -/
theorem final : (dats m 0 c).arrAt 2 (cfgs 0).N
    = AbMixRefIdeal.Read.val_main_v4 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val / 2 * 1024 + y0.val, by omega⟩ ⟨t.val % 2 * 768 + y1.val, by omega⟩ := by
    blk_ext [idx t]
  rw [after0_2, hy, ref]
  frame_out
  refine (pay1 _ _ y0 y1).trans (Fin.sum_fin_congr fun k => ?_)
  congr 1 <;> blk_point [iblk, V, idx t]

theorem algebraic : Cert.algebraic_AbMixIdeal_AbMixRefIdeal := by
  pair_intro
  · run_from Cert.AbMixIdeal.Gen.run_main m g
  · run_from Cert.AbMixRefIdeal.Value.run m' g'
    refine Eq.trans (funext fun y => ?_) (final m c).symm
    idx_vars y
    rw [ref]
    pointwise

end AbMixValue

namespace AbWValue

open Cert Cert.AbWIdeal Cert.AbWIdeal.Gen

variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] := (by decide +kernel : ∀ t : Fin grid0.N, _)

theorem pts (t : Fin cfg0.N) : t.val < 2 := lt_of_lt_of_eq t.isLt N_0

theorem pay1 (a : Vec Ideal S4096x768 .bf16) (b : Vec Ideal S4096x1024 .bf16) (i : Fin 768) (j : Fin 1024) :
    k0_pay1 (F := Ideal) a b (ix2 i j) = ∑ k : Fin 4096, a (ix2 k i) * b (ix2 k j) := by
  pointwise! [k0_pay1]

theorem ref (x0 : Vec Ideal S4096x1536 .bf16) (x1 : Vec Ideal S4096x1024 .bf16) (i : Fin 1536) (j : Fin 1024) :
    AbWRefIdeal.Read.val_main_v6 (F := Ideal) x0 x1 (ix2 i j) = ∑ k : Fin 4096, x0 (ix2 k i) * x1 (ix2 k j) := by
  pointwise [AbWRefIdeal.Read.val_main_v6, AbWRefIdeal.Read.val_main_v5, AbWRefIdeal.Read.val_main_v4,
    AbWRefIdeal.Read.val_main_v1, AbWRefIdeal.Read.val_main_v0]
  exact Finset.sum_congr rfl fun k _ => mul_comm _ _

/-- The launch leaves the gradient of the other output projection's weights. -/
theorem final : (dats m 0 c).arrAt 2 (cfgs 0).N
    = AbWRefIdeal.Read.val_main_v6 (F := Ideal) (m ((c.tc : Thread nD τ).loc main_arg0))
        (m ((c.tc : Thread nD τ).loc main_arg1)) := by
  refine (dats m 0 c).arrAt_eq_of_covers 2 _ (by decide +kernel) fun t hf y => ?_
  blk_simp
  idx_vars y
  have ht := pts t
  have hy : ((View.whole main_v0).slice (win0_2.rect t)).emb (ix2 y0 y1)
      = ix2 ⟨t.val * 768 + y0.val, by omega⟩ y1 := by
    blk_ext [idx t]
  rw [after0_2, hy, ref]
  frame_out
  refine (pay1 _ _ y0 y1).trans (Fin.sum_fin_congr fun k => ?_)
  congr 1 <;> blk_point [iblk, V, idx t]

theorem algebraic : Cert.algebraic_AbWIdeal_AbWRefIdeal := by
  pair_intro
  · run_from Cert.AbWIdeal.Gen.run_main m g
  · run_from Cert.AbWRefIdeal.Value.run m' g'
    rw [AbWRefIdeal.Read.val_main_v6_eq]
    exact (final m c).symm

end AbWValue

end
-- ==== Proof.ProjValue.lean ====
/- The input projection of the convolution layer: the forward product and the gradient of its weights. The host
   reorders the 5120 columns around the launch, so that the five parts of one group of 128 channels lie together. -/
module

public import proofs.«01_k».proof.Defs
public import proofs.«01_k».proof.Proof.Gen.CdInWIdeal.Frame
public import proofs.«01_k».proof.Proof.Gen.CdInWRefIdeal.Read
public import proofs.«01_k».proof.Proof.Gen.CdInIdeal.Frame
public import proofs.«01_k».proof.Proof.Gen.CdInRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Group

/-- Where the column `r` of the reordered projection stood before: the parts change places with the groups. -/
def src (r : Fin 5120) : Fin 5120 := ⟨r.val / 128 % 5 * 1024 + r.val / 640 * 128 + r.val % 128, by omega⟩

end Group

namespace CdInValue

open Cert Cert.CdInIdeal Cert.CdInIdeal.Gen

variable (m : (ℓ : Loc nD τ sig) → Buf (Elt Ideal) ℓ) (c : Dev nD)

theorem idx : ∀ t : Fin cfg0.N, win0_0.index t = ![t.val / 5, 0] ∧ win0_1.index t = ![t.val % 5, 0]
    ∧ win0_2.index t = ![t.val / 5, t.val % 5] := (by decide +kernel : ∀ t : Fin grid0.N, _)

theorem pts (t : Fin cfg0.N) : t.val < 20 := lt_of_lt_of_eq t.isLt N_0

theorem pay1 (a b : Vec Ideal S1024x1024 .bf16) (i j : Fin 1024) :
    k0_pay1 (F := Ideal) a b (ix2 i j) = ∑ k : Fin 1024, a (ix2 i k) * b (ix2 j k) := by
  pointwise! [k0_pay1]

theorem ref2 (x0 : Vec Ideal S4096x1024 .bf16) (x1 : Vec Ideal S1024x5120 .bf16) (i : Fin 4096) (j : Fin 5120) :
    CdInRefIdeal.Read.val_main_v2 (F := Ideal) x0 x1 (ix2 i j) = ∑ k : Fin 1024, x0 (ix2 i k) * x1 (ix2 k j) := by
  pointwise! [CdInRefIdeal.Read.val_main_v2, CdInRefIdeal.Read.val_main_v1, CdInRefIdeal.Read.val_main_v0]

theorem ref5 (x0 : Vec Ideal S4096x1024 .bf16) (x1 : Vec Ideal S1024x5120 .bf16) (i : Fin 4096) (j : Fin 5120) :
    CdInRefIdeal.Read.val_main_v5 (F := Ideal) x0 x1 (ix2 i j)
      = CdInRefIdeal.Read.val_main_v2 (F := Ideal) x0 x1 (ix2 i (Group.src j)) := by
  pointwise [CdInRefIdeal.Read.val_main_v5, CdInRefIdeal.Read.val_main_v4, CdInRefIdeal.Read.val_main_v3]
  rfl

abbrev arg0 : Vec Ideal S4096x1024 .bf16 := m ((c.tc : Thread nD τ).loc main_arg0)
abbrev arg1 : Vec Ideal S1024x5120 .bf16 := m ((c.tc : Thread nD τ).loc main_arg1)

theorem blk_w (t : Fin cfg0.N) (j k : Fin 1024) :
    iblk m c 1 t (ix2 j k) = arg1 m c (ix2 k (Group.src ⟨t.val % 5 * 1024 + j.val, by omega⟩)) := by
  have := pts t
  blk_point [iblk, V, idx t]
  rfl

/-- The launch leaves the reordered product. -/
theorem final : (dats m 0 c).arrAt 2 (cfgs 0).N
    = CdInRefIdeal.Read.val_main_v5 (F := Ideal) (arg0 m c) (arg1 m c) := by
  refine (dats m 0 c).arrAt_eq_of_covers 2 _ (by decide +kernel) fun t hf y => ?_
  blk_simp
  idx_vars y
  have ht := pts t
  have hy : ((View.whole main_v4).slice (win0_2.rect t)).emb (ix2 y0 y1)
      = ix2 ⟨t.val / 5 * 1024 + y0.val, by omega⟩ ⟨t.val % 5 * 1024 + y1.val, by omega⟩ := by
    blk_ext [idx t]
  rw [after0_2, hy, ref5, ref2]
  frame_out
  refine (pay1 _ _ y0 y1).trans (Fin.sum_fin_congr fun k => ?_)
  rw [blk_w]
  congr 1
  blk_point [iblk, V, idx t]

theorem algebraic : Cert.algebraic_CdInIdeal_CdInRefIdeal := by
  pair_intro
  · run_from Cert.CdInIdeal.Gen.run_main m g
  · run_from Cert.CdInRefIdeal.Value.run m' g'
    rw [CdInRefIdeal.Read.val_main_v5_eq]
    exact (final m c).symm

end CdInValue

namespace CdInWValue

open Cert Cert.CdInWIdeal Cert.CdInWIdeal.Gen

variable (m : (ℓ : Loc nD τ sig) → Buf (Elt Ideal) ℓ) (c : Dev nD)

theorem idx : ∀ t : Fin cfg0.N, win0_0.index t = ![0, t.val] ∧ win0_1.index t = ![0, 0]
    ∧ win0_2.index t = ![t.val, 0] := (by decide +kernel : ∀ t : Fin grid0.N, _)

theorem pts (t : Fin cfg0.N) : t.val < 5 := lt_of_lt_of_eq t.isLt N_0

theorem pay1 (a b : Vec Ideal S4096x1024 .bf16) (i j : Fin 1024) :
    k0_pay1 (F := Ideal) a b (ix2 i j) = ∑ k : Fin 4096, a (ix2 k i) * b (ix2 k j) := by
  pointwise! [k0_pay1]

theorem ref6 (x0 : Vec Ideal S4096x5120 .bf16) (x1 : Vec Ideal S4096x1024 .bf16) (i : Fin 5120) (j : Fin 1024) :
    CdInWRefIdeal.Read.val_main_v6 (F := Ideal) x0 x1 (ix2 i j) = ∑ k : Fin 4096, x0 (ix2 k i) * x1 (ix2 k j) := by
  pointwise! [CdInWRefIdeal.Read.val_main_v6, CdInWRefIdeal.Read.val_main_v5, CdInWRefIdeal.Read.val_main_v4,
    CdInWRefIdeal.Read.val_main_v1, CdInWRefIdeal.Read.val_main_v0]

theorem ref10 (x0 : Vec Ideal S4096x5120 .bf16) (x1 : Vec Ideal S4096x1024 .bf16) (i : Fin 5120) (j : Fin 1024) :
    CdInWRefIdeal.Read.val_main_v10 (F := Ideal) x0 x1 (ix2 i j)
      = CdInWRefIdeal.Read.val_main_v6 (F := Ideal) x0 x1 (ix2 (Group.src i) j) := by
  pointwise [CdInWRefIdeal.Read.val_main_v10, CdInWRefIdeal.Read.val_main_v9, CdInWRefIdeal.Read.val_main_v8,
    CdInWRefIdeal.Read.val_main_v7]
  rfl

abbrev arg0 : Vec Ideal S4096x5120 .bf16 := m ((c.tc : Thread nD τ).loc main_arg0)
abbrev arg1 : Vec Ideal S4096x1024 .bf16 := m ((c.tc : Thread nD τ).loc main_arg1)

theorem blk_d (t : Fin cfg0.N) (k : Fin 4096) (i : Fin 1024) :
    iblk m c 0 t (ix2 k i)
      = arg0 m c (ix2 k (Group.src ⟨t.val * 1024 + i.val, by have := pts t; omega⟩)) := by
  have := pts t
  blk_point [iblk, V, idx t]
  rfl

/-- The launch leaves the gradient of the weights, its rows reordered. -/
theorem final : (dats m 0 c).arrAt 2 (cfgs 0).N
    = CdInWRefIdeal.Read.val_main_v10 (F := Ideal) (arg0 m c) (arg1 m c) := by
  refine (dats m 0 c).arrAt_eq_of_covers 2 _ (by decide +kernel) fun t hf y => ?_
  blk_simp
  idx_vars y
  have ht := pts t
  have hy : ((View.whole main_v3).slice (win0_2.rect t)).emb (ix2 y0 y1) = ix2 ⟨t.val * 1024 + y0.val, by omega⟩ y1 := by
    blk_ext [idx t]
  rw [after0_2, hy, ref10, ref6]
  frame_out
  refine (pay1 _ _ y0 y1).trans (Fin.sum_fin_congr fun k => ?_)
  rw [blk_d]
  congr 1
  blk_point [iblk, V, idx t]

theorem algebraic : Cert.algebraic_CdInWIdeal_CdInWRefIdeal := by
  pair_intro
  · run_from Cert.CdInWIdeal.Gen.run_main m g
  · run_from Cert.CdInWRefIdeal.Value.run m' g'
    rw [CdInWRefIdeal.Read.val_main_v10_eq]
    exact (final m c).symm

end CdInWValue

end
-- ==== Proof.ResValue.lean ====
/- The products that end a sublayer: the product, the residual with the norm of the product added, and the norm of
   that. A tile holds whole rows, so every row of the three results is the same function of the row of the product
   in the launch and in the reference. -/
module

public import proofs.«01_k».proof.Defs
public import proofs.«01_k».proof.Proof.RmsRow
public import proofs.«01_k».proof.Proof.Gen.MlpOutIdeal.Frame
public import proofs.«01_k».proof.Proof.Gen.MlpOutRefIdeal.Read
public import proofs.«01_k».proof.Proof.Gen.CdOutIdeal.Frame
public import proofs.«01_k».proof.Proof.Gen.CdOutRefIdeal.Read
public import proofs.«01_k».proof.Proof.Gen.AttnOutIdeal.Frame
public import proofs.«01_k».proof.Proof.Gen.AttnOutRefIdeal.Read
public import proofs.«01_k».proof.Proof.Gen.AbOutIdeal.Frame
public import proofs.«01_k».proof.Proof.Gen.AbOutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace MlpOutValue

open Cert Cert.MlpOutIdeal Cert.MlpOutIdeal.Gen RmsRow

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := (by decide +kernel : ∀ t : Fin grid0.N, _)

theorem pts (t : Fin cfg0.N) : t.val < 8 := lt_of_lt_of_eq t.isLt N_0

variable (a : Vec Ideal S512x4096 .bf16) (w : Vec Ideal S4096x1024 .bf16) (x : Vec Ideal S512x1024 .f32)
  (ga gb : Vec Ideal S1x1024 .f32) (i : Fin 512) (j : Fin 1024)

theorem pay1 : k0_pay1 (F := Ideal) a w (ix2 i j) = row a w i j := by
  pointwise! [k0_pay1, row]

theorem pay2 : k0_pay2 (F := Ideal) a w x ga (ix2 i j)
    = res (fun k => x (ix2 i k)) (row a w i) (fun k => ga (ix2 0 k)) j := by
  pointwise! [k0_pay2, pay1]

theorem pay3 : k0_pay3 (F := Ideal) a w x ga gb (ix2 i j)
    = nrm (res (fun k => x (ix2 i k)) (row a w i) (fun k => ga (ix2 0 k))) (fun k => gb (ix2 0 k)) j := by
  pointwise! [k0_pay3, pay2]

variable (x0 : Vec Ideal S4096x4096 .bf16) (X : Vec Ideal S4096x1024 .f32) (I : Fin 4096)

theorem ref4 : MlpOutRefIdeal.Read.val_main_v4 (F := Ideal) x0 w (ix2 I j) = row x0 w I j := by
  pointwise [MlpOutRefIdeal.Read.val_main_v4, MlpOutRefIdeal.Read.val_main_v1, MlpOutRefIdeal.Read.val_main_v0, row]

theorem ref18 : MlpOutRefIdeal.Read.val_main_v18 (F := Ideal) x0 w X ga (ix2 I j)
    = res (fun k => X (ix2 I k)) (row x0 w I) (fun k => ga (ix2 0 k)) j := by
  pointwise [MlpOutRefIdeal.Read.val_main_v18, MlpOutRefIdeal.Read.val_main_v17, MlpOutRefIdeal.Read.val_main_v16,
    MlpOutRefIdeal.Read.val_main_v15, MlpOutRefIdeal.Read.val_main_v14, MlpOutRefIdeal.Read.val_main_v13,
    MlpOutRefIdeal.Read.val_main_v12, MlpOutRefIdeal.Read.val_main_v11, MlpOutRefIdeal.Read.val_main_v10,
    MlpOutRefIdeal.Read.val_main_v9, MlpOutRefIdeal.Read.val_main_v8, MlpOutRefIdeal.Read.val_main_v7,
    MlpOutRefIdeal.Read.val_main_v6, MlpOutRefIdeal.Read.val_main_v5, MlpOutRefIdeal.Read.val_main_v2,
    MlpOutRefIdeal.Read.val_main_cst, MlpOutRefIdeal.Read.val_main_cst_0, MlpOutRefIdeal.Read.val_main_cst_1, ref4]
  rfl

theorem ref32 : MlpOutRefIdeal.Read.val_main_v32 (F := Ideal) x0 w X ga gb (ix2 I j)
    = nrm (res (fun k => X (ix2 I k)) (row x0 w I) (fun k => ga (ix2 0 k))) (fun k => gb (ix2 0 k)) j := by
  pointwise [MlpOutRefIdeal.Read.val_main_v32, MlpOutRefIdeal.Read.val_main_v31, MlpOutRefIdeal.Read.val_main_v30,
    MlpOutRefIdeal.Read.val_main_v29, MlpOutRefIdeal.Read.val_main_v28, MlpOutRefIdeal.Read.val_main_v27,
    MlpOutRefIdeal.Read.val_main_v26, MlpOutRefIdeal.Read.val_main_v25, MlpOutRefIdeal.Read.val_main_v24,
    MlpOutRefIdeal.Read.val_main_v23, MlpOutRefIdeal.Read.val_main_v22, MlpOutRefIdeal.Read.val_main_v21,
    MlpOutRefIdeal.Read.val_main_v20, MlpOutRefIdeal.Read.val_main_v19, MlpOutRefIdeal.Read.val_main_v3,
    MlpOutRefIdeal.Read.val_main_cst_2, MlpOutRefIdeal.Read.val_main_cst_3, MlpOutRefIdeal.Read.val_main_cst_4, ref18]
  rfl

abbrev arg0 : Vec Ideal S4096x4096 .bf16 := m ((c.tc : Thread nD τ).loc main_arg0)
abbrev arg1 : Vec Ideal S4096x1024 .bf16 := m ((c.tc : Thread nD τ).loc main_arg1)
abbrev arg2 : Vec Ideal S4096x1024 .f32 := m ((c.tc : Thread nD τ).loc main_arg2)
abbrev arg3 : Vec Ideal S1x1024 .f32 := m ((c.tc : Thread nD τ).loc main_arg3)
abbrev arg4 : Vec Ideal S1x1024 .f32 := m ((c.tc : Thread nD τ).loc main_arg4)

/-- A row of a tile of the product is the row of the whole product. -/
theorem rows (t : Fin cfg0.N) (y : Fin 512) :
    row (iblk m c 0 t) (iblk m c 1 t) y = row (arg0 m c) (arg1 m c) ⟨t.val * 512 + y.val, by have := pts t; omega⟩ := by
  have ht := pts t
  refine funext fun k => Fin.sum_fin_congr fun q => ?_
  congr 1 <;> blk_point [iblk, V, idx t]

theorem xrow (t : Fin cfg0.N) (y : Fin 512) (k : Fin 1024) :
    iblk m c 2 t (ix2 y k) = arg2 m c (ix2 ⟨t.val * 512 + y.val, by have := pts t; omega⟩ k) := by
  have ht := pts t
  blk_point [iblk, V, idx t]

theorem grow (t : Fin cfg0.N) (k : Fin 1024) : iblk m c 3 t (ix2 0 k) = arg3 m c (ix2 0 k) := by
  blk_point [iblk, V, idx t]

theorem hrow (t : Fin cfg0.N) (k : Fin 1024) : iblk m c 4 t (ix2 0 k) = arg4 m c (ix2 0 k) := by
  blk_point [iblk, V, idx t]

theorem final_m : (dats m 0 c).arrAt 5 (cfgs 0).N
    = MlpOutRefIdeal.Read.val_main_v4 (F := Ideal) (arg0 m c) (arg1 m c) := by
  refine (dats m 0 c).arrAt_eq_of_covers 5 _ (by decide +kernel) fun t hf y => ?_
  blk_simp
  idx_vars y
  have ht := pts t
  have hy : ((View.whole main_v0_0).slice (win0_5.rect t)).emb (ix2 y0 y1) = ix2 ⟨t.val * 512 + y0.val, by omega⟩ y1 := by
    blk_ext [idx t]
  rw [after0_5, hy, ref4, ← rows]
  frame_out
  exact pay1 _ _ y0 y1

theorem final_x : (dats m 0 c).arrAt 6 (cfgs 0).N
    = MlpOutRefIdeal.Read.val_main_v18 (F := Ideal) (arg0 m c) (arg1 m c) (arg2 m c) (arg3 m c) := by
  refine (dats m 0 c).arrAt_eq_of_covers 6 _ (by decide +kernel) fun t hf y => ?_
  blk_simp
  idx_vars y
  have ht := pts t
  have hy : ((View.whole main_v0_1).slice (win0_6.rect t)).emb (ix2 y0 y1) = ix2 ⟨t.val * 512 + y0.val, by omega⟩ y1 := by
    blk_ext [idx t]
  rw [after0_6, hy, ref18, ← rows]
  simp only [← xrow m c t y0, ← grow m c t]
  frame_out
  exact pay2 _ _ _ _ y0 y1

theorem final_h : (dats m 0 c).arrAt 7 (cfgs 0).N
    = MlpOutRefIdeal.Read.val_main_v32 (F := Ideal) (arg0 m c) (arg1 m c) (arg2 m c) (arg3 m c) (arg4 m c) := by
  refine (dats m 0 c).arrAt_eq_of_covers 7 _ (by decide +kernel) fun t hf y => ?_
  blk_simp
  idx_vars y
  have ht := pts t
  have hy : ((View.whole main_v0_2).slice (win0_7.rect t)).emb (ix2 y0 y1) = ix2 ⟨t.val * 512 + y0.val, by omega⟩ y1 := by
    blk_ext [idx t]
  rw [after0_7, hy, ref32, ← rows]
  simp only [← xrow m c t y0, ← grow m c t, ← hrow m c t]
  frame_out
  exact pay3 _ _ _ _ _ y0 y1

theorem algebraic : Cert.algebraic_MlpOutIdeal_MlpOutRefIdeal := by
  pair_intro
  · run_from Cert.MlpOutIdeal.Gen.run_main m g
  · run_from Cert.MlpOutRefIdeal.Value.run m' g'
    · refine Eq.trans (funext fun y => ?_) (final_m m c).symm
      idx_vars y
      rw [ref4]
      pointwise [row]
    · rw [MlpOutRefIdeal.Read.val_main_v18_eq]
      exact (final_x m c).symm
    · obtain ⟨h0, h1, h2, h3, h4⟩ := hagree c
      rw [MlpOutRefIdeal.Read.val_main_v32_eq, h0, h1, h2, h3, h4]
      exact (final_h m c).symm

end MlpOutValue

namespace CdOutValue

open Cert Cert.CdOutIdeal Cert.CdOutIdeal.Gen RmsRow

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := (by decide +kernel : ∀ t : Fin grid0.N, _)

theorem pts (t : Fin cfg0.N) : t.val < 8 := lt_of_lt_of_eq t.isLt N_0

variable (a : Vec Ideal S512x2048 .bf16) (w : Vec Ideal S2048x1024 .bf16) (x : Vec Ideal S512x1024 .f32)
  (ga gb : Vec Ideal S1x1024 .f32) (i : Fin 512) (j : Fin 1024)

theorem pay1 : k0_pay1 (F := Ideal) a w (ix2 i j) = row a w i j := by
  pointwise! [k0_pay1, row]

theorem pay2 : k0_pay2 (F := Ideal) a w x ga (ix2 i j)
    = res (fun k => x (ix2 i k)) (row a w i) (fun k => ga (ix2 0 k)) j := by
  pointwise! [k0_pay2, pay1]

theorem pay3 : k0_pay3 (F := Ideal) a w x ga gb (ix2 i j)
    = nrm (res (fun k => x (ix2 i k)) (row a w i) (fun k => ga (ix2 0 k))) (fun k => gb (ix2 0 k)) j := by
  pointwise! [k0_pay3, pay2]

variable (x0 : Vec Ideal S4096x2048 .bf16) (X : Vec Ideal S4096x1024 .f32) (I : Fin 4096)

theorem ref4 : CdOutRefIdeal.Read.val_main_v4 (F := Ideal) x0 w (ix2 I j) = row x0 w I j := by
  pointwise [CdOutRefIdeal.Read.val_main_v4, CdOutRefIdeal.Read.val_main_v1, CdOutRefIdeal.Read.val_main_v0, row]

theorem ref18 : CdOutRefIdeal.Read.val_main_v18 (F := Ideal) x0 w X ga (ix2 I j)
    = res (fun k => X (ix2 I k)) (row x0 w I) (fun k => ga (ix2 0 k)) j := by
  pointwise [CdOutRefIdeal.Read.val_main_v18, CdOutRefIdeal.Read.val_main_v17, CdOutRefIdeal.Read.val_main_v16,
    CdOutRefIdeal.Read.val_main_v15, CdOutRefIdeal.Read.val_main_v14, CdOutRefIdeal.Read.val_main_v13,
    CdOutRefIdeal.Read.val_main_v12, CdOutRefIdeal.Read.val_main_v11, CdOutRefIdeal.Read.val_main_v10,
    CdOutRefIdeal.Read.val_main_v9, CdOutRefIdeal.Read.val_main_v8, CdOutRefIdeal.Read.val_main_v7,
    CdOutRefIdeal.Read.val_main_v6, CdOutRefIdeal.Read.val_main_v5, CdOutRefIdeal.Read.val_main_v2,
    CdOutRefIdeal.Read.val_main_cst, CdOutRefIdeal.Read.val_main_cst_0, CdOutRefIdeal.Read.val_main_cst_1, ref4]
  rfl

theorem ref32 : CdOutRefIdeal.Read.val_main_v32 (F := Ideal) x0 w X ga gb (ix2 I j)
    = nrm (res (fun k => X (ix2 I k)) (row x0 w I) (fun k => ga (ix2 0 k))) (fun k => gb (ix2 0 k)) j := by
  pointwise [CdOutRefIdeal.Read.val_main_v32, CdOutRefIdeal.Read.val_main_v31, CdOutRefIdeal.Read.val_main_v30,
    CdOutRefIdeal.Read.val_main_v29, CdOutRefIdeal.Read.val_main_v28, CdOutRefIdeal.Read.val_main_v27,
    CdOutRefIdeal.Read.val_main_v26, CdOutRefIdeal.Read.val_main_v25, CdOutRefIdeal.Read.val_main_v24,
    CdOutRefIdeal.Read.val_main_v23, CdOutRefIdeal.Read.val_main_v22, CdOutRefIdeal.Read.val_main_v21,
    CdOutRefIdeal.Read.val_main_v20, CdOutRefIdeal.Read.val_main_v19, CdOutRefIdeal.Read.val_main_v3,
    CdOutRefIdeal.Read.val_main_cst_2, CdOutRefIdeal.Read.val_main_cst_3, CdOutRefIdeal.Read.val_main_cst_4, ref18]
  rfl

abbrev arg0 : Vec Ideal S4096x2048 .bf16 := m ((c.tc : Thread nD τ).loc main_arg0)
abbrev arg1 : Vec Ideal S2048x1024 .bf16 := m ((c.tc : Thread nD τ).loc main_arg1)
abbrev arg2 : Vec Ideal S4096x1024 .f32 := m ((c.tc : Thread nD τ).loc main_arg2)
abbrev arg3 : Vec Ideal S1x1024 .f32 := m ((c.tc : Thread nD τ).loc main_arg3)
abbrev arg4 : Vec Ideal S1x1024 .f32 := m ((c.tc : Thread nD τ).loc main_arg4)

/-- A row of a tile of the product is the row of the whole product. -/
theorem rows (t : Fin cfg0.N) (y : Fin 512) :
    row (iblk m c 0 t) (iblk m c 1 t) y = row (arg0 m c) (arg1 m c) ⟨t.val * 512 + y.val, by have := pts t; omega⟩ := by
  have ht := pts t
  refine funext fun k => Fin.sum_fin_congr fun q => ?_
  congr 1 <;> blk_point [iblk, V, idx t]

theorem xrow (t : Fin cfg0.N) (y : Fin 512) (k : Fin 1024) :
    iblk m c 2 t (ix2 y k) = arg2 m c (ix2 ⟨t.val * 512 + y.val, by have := pts t; omega⟩ k) := by
  have ht := pts t
  blk_point [iblk, V, idx t]

theorem grow (t : Fin cfg0.N) (k : Fin 1024) : iblk m c 3 t (ix2 0 k) = arg3 m c (ix2 0 k) := by
  blk_point [iblk, V, idx t]

theorem hrow (t : Fin cfg0.N) (k : Fin 1024) : iblk m c 4 t (ix2 0 k) = arg4 m c (ix2 0 k) := by
  blk_point [iblk, V, idx t]

theorem final_m : (dats m 0 c).arrAt 5 (cfgs 0).N
    = CdOutRefIdeal.Read.val_main_v4 (F := Ideal) (arg0 m c) (arg1 m c) := by
  refine (dats m 0 c).arrAt_eq_of_covers 5 _ (by decide +kernel) fun t hf y => ?_
  blk_simp
  idx_vars y
  have ht := pts t
  have hy : ((View.whole main_v0_0).slice (win0_5.rect t)).emb (ix2 y0 y1) = ix2 ⟨t.val * 512 + y0.val, by omega⟩ y1 := by
    blk_ext [idx t]
  rw [after0_5, hy, ref4, ← rows]
  frame_out
  exact pay1 _ _ y0 y1

theorem final_x : (dats m 0 c).arrAt 6 (cfgs 0).N
    = CdOutRefIdeal.Read.val_main_v18 (F := Ideal) (arg0 m c) (arg1 m c) (arg2 m c) (arg3 m c) := by
  refine (dats m 0 c).arrAt_eq_of_covers 6 _ (by decide +kernel) fun t hf y => ?_
  blk_simp
  idx_vars y
  have ht := pts t
  have hy : ((View.whole main_v0_1).slice (win0_6.rect t)).emb (ix2 y0 y1) = ix2 ⟨t.val * 512 + y0.val, by omega⟩ y1 := by
    blk_ext [idx t]
  rw [after0_6, hy, ref18, ← rows]
  simp only [← xrow m c t y0, ← grow m c t]
  frame_out
  exact pay2 _ _ _ _ y0 y1

theorem final_h : (dats m 0 c).arrAt 7 (cfgs 0).N
    = CdOutRefIdeal.Read.val_main_v32 (F := Ideal) (arg0 m c) (arg1 m c) (arg2 m c) (arg3 m c) (arg4 m c) := by
  refine (dats m 0 c).arrAt_eq_of_covers 7 _ (by decide +kernel) fun t hf y => ?_
  blk_simp
  idx_vars y
  have ht := pts t
  have hy : ((View.whole main_v0_2).slice (win0_7.rect t)).emb (ix2 y0 y1) = ix2 ⟨t.val * 512 + y0.val, by omega⟩ y1 := by
    blk_ext [idx t]
  rw [after0_7, hy, ref32, ← rows]
  simp only [← xrow m c t y0, ← grow m c t, ← hrow m c t]
  frame_out
  exact pay3 _ _ _ _ _ y0 y1

theorem algebraic : Cert.algebraic_CdOutIdeal_CdOutRefIdeal := by
  pair_intro
  · run_from Cert.CdOutIdeal.Gen.run_main m g
  · run_from Cert.CdOutRefIdeal.Value.run m' g'
    · refine Eq.trans (funext fun y => ?_) (final_m m c).symm
      idx_vars y
      rw [ref4]
      pointwise [row]
    · rw [CdOutRefIdeal.Read.val_main_v18_eq]
      exact (final_x m c).symm
    · obtain ⟨h0, h1, h2, h3, h4⟩ := hagree c
      rw [CdOutRefIdeal.Read.val_main_v32_eq, h0, h1, h2, h3, h4]
      exact (final_h m c).symm

end CdOutValue

namespace AttnOutValue

open Cert Cert.AttnOutIdeal Cert.AttnOutIdeal.Gen RmsRow

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := (by decide +kernel : ∀ t : Fin grid0.N, _)

theorem pts (t : Fin cfg0.N) : t.val < 4 := lt_of_lt_of_eq t.isLt N_0

variable (a : Vec Ideal S1024x1024 .bf16) (w : Vec Ideal S1024x1024 .bf16) (x : Vec Ideal S1024x1024 .f32)
  (ga gb : Vec Ideal S1x1024 .f32) (i : Fin 1024) (j : Fin 1024)

theorem pay1 : k0_pay1 (F := Ideal) a w (ix2 i j) = row a w i j := by
  pointwise! [k0_pay1, row]

theorem pay2 : k0_pay2 (F := Ideal) a w x ga (ix2 i j)
    = res (fun k => x (ix2 i k)) (row a w i) (fun k => ga (ix2 0 k)) j := by
  pointwise! [k0_pay2, pay1]

theorem pay3 : k0_pay3 (F := Ideal) a w x ga gb (ix2 i j)
    = nrm (res (fun k => x (ix2 i k)) (row a w i) (fun k => ga (ix2 0 k))) (fun k => gb (ix2 0 k)) j := by
  pointwise! [k0_pay3, pay2]

variable (x0 : Vec Ideal S4096x1024 .bf16) (X : Vec Ideal S4096x1024 .f32) (I : Fin 4096)

theorem ref4 : AttnOutRefIdeal.Read.val_main_v4 (F := Ideal) x0 w (ix2 I j) = row x0 w I j := by
  pointwise [AttnOutRefIdeal.Read.val_main_v4, AttnOutRefIdeal.Read.val_main_v1, AttnOutRefIdeal.Read.val_main_v0, row]

theorem ref18 : AttnOutRefIdeal.Read.val_main_v18 (F := Ideal) x0 w X ga (ix2 I j)
    = res (fun k => X (ix2 I k)) (row x0 w I) (fun k => ga (ix2 0 k)) j := by
  pointwise [AttnOutRefIdeal.Read.val_main_v18, AttnOutRefIdeal.Read.val_main_v17, AttnOutRefIdeal.Read.val_main_v16,
    AttnOutRefIdeal.Read.val_main_v15, AttnOutRefIdeal.Read.val_main_v14, AttnOutRefIdeal.Read.val_main_v13,
    AttnOutRefIdeal.Read.val_main_v12, AttnOutRefIdeal.Read.val_main_v11, AttnOutRefIdeal.Read.val_main_v10,
    AttnOutRefIdeal.Read.val_main_v9, AttnOutRefIdeal.Read.val_main_v8, AttnOutRefIdeal.Read.val_main_v7,
    AttnOutRefIdeal.Read.val_main_v6, AttnOutRefIdeal.Read.val_main_v5, AttnOutRefIdeal.Read.val_main_v2,
    AttnOutRefIdeal.Read.val_main_cst, AttnOutRefIdeal.Read.val_main_cst_0, AttnOutRefIdeal.Read.val_main_cst_1, ref4]
  rfl

theorem ref32 : AttnOutRefIdeal.Read.val_main_v32 (F := Ideal) x0 w X ga gb (ix2 I j)
    = nrm (res (fun k => X (ix2 I k)) (row x0 w I) (fun k => ga (ix2 0 k))) (fun k => gb (ix2 0 k)) j := by
  pointwise [AttnOutRefIdeal.Read.val_main_v32, AttnOutRefIdeal.Read.val_main_v31, AttnOutRefIdeal.Read.val_main_v30,
    AttnOutRefIdeal.Read.val_main_v29, AttnOutRefIdeal.Read.val_main_v28, AttnOutRefIdeal.Read.val_main_v27,
    AttnOutRefIdeal.Read.val_main_v26, AttnOutRefIdeal.Read.val_main_v25, AttnOutRefIdeal.Read.val_main_v24,
    AttnOutRefIdeal.Read.val_main_v23, AttnOutRefIdeal.Read.val_main_v22, AttnOutRefIdeal.Read.val_main_v21,
    AttnOutRefIdeal.Read.val_main_v20, AttnOutRefIdeal.Read.val_main_v19, AttnOutRefIdeal.Read.val_main_v3,
    AttnOutRefIdeal.Read.val_main_cst_2, AttnOutRefIdeal.Read.val_main_cst_3, AttnOutRefIdeal.Read.val_main_cst_4, ref18]
  rfl

abbrev arg0 : Vec Ideal S4096x1024 .bf16 := m ((c.tc : Thread nD τ).loc main_arg0)
abbrev arg1 : Vec Ideal S1024x1024 .bf16 := m ((c.tc : Thread nD τ).loc main_arg1)
abbrev arg2 : Vec Ideal S4096x1024 .f32 := m ((c.tc : Thread nD τ).loc main_arg2)
abbrev arg3 : Vec Ideal S1x1024 .f32 := m ((c.tc : Thread nD τ).loc main_arg3)
abbrev arg4 : Vec Ideal S1x1024 .f32 := m ((c.tc : Thread nD τ).loc main_arg4)

/-- A row of a tile of the product is the row of the whole product. -/
theorem rows (t : Fin cfg0.N) (y : Fin 1024) :
    row (iblk m c 0 t) (iblk m c 1 t) y = row (arg0 m c) (arg1 m c) ⟨t.val * 1024 + y.val, by have := pts t; omega⟩ := by
  have ht := pts t
  refine funext fun k => Fin.sum_fin_congr fun q => ?_
  congr 1 <;> blk_point [iblk, V, idx t]

theorem xrow (t : Fin cfg0.N) (y : Fin 1024) (k : Fin 1024) :
    iblk m c 2 t (ix2 y k) = arg2 m c (ix2 ⟨t.val * 1024 + y.val, by have := pts t; omega⟩ k) := by
  have ht := pts t
  blk_point [iblk, V, idx t]

theorem grow (t : Fin cfg0.N) (k : Fin 1024) : iblk m c 3 t (ix2 0 k) = arg3 m c (ix2 0 k) := by
  blk_point [iblk, V, idx t]

theorem hrow (t : Fin cfg0.N) (k : Fin 1024) : iblk m c 4 t (ix2 0 k) = arg4 m c (ix2 0 k) := by
  blk_point [iblk, V, idx t]

theorem final_m : (dats m 0 c).arrAt 5 (cfgs 0).N
    = AttnOutRefIdeal.Read.val_main_v4 (F := Ideal) (arg0 m c) (arg1 m c) := by
  refine (dats m 0 c).arrAt_eq_of_covers 5 _ (by decide +kernel) fun t hf y => ?_
  blk_simp
  idx_vars y
  have ht := pts t
  have hy : ((View.whole main_v0_0).slice (win0_5.rect t)).emb (ix2 y0 y1) = ix2 ⟨t.val * 1024 + y0.val, by omega⟩ y1 := by
    blk_ext [idx t]
  rw [after0_5, hy, ref4, ← rows]
  frame_out
  exact pay1 _ _ y0 y1

theorem final_x : (dats m 0 c).arrAt 6 (cfgs 0).N
    = AttnOutRefIdeal.Read.val_main_v18 (F := Ideal) (arg0 m c) (arg1 m c) (arg2 m c) (arg3 m c) := by
  refine (dats m 0 c).arrAt_eq_of_covers 6 _ (by decide +kernel) fun t hf y => ?_
  blk_simp
  idx_vars y
  have ht := pts t
  have hy : ((View.whole main_v0_1).slice (win0_6.rect t)).emb (ix2 y0 y1) = ix2 ⟨t.val * 1024 + y0.val, by omega⟩ y1 := by
    blk_ext [idx t]
  rw [after0_6, hy, ref18, ← rows]
  simp only [← xrow m c t y0, ← grow m c t]
  frame_out
  exact pay2 _ _ _ _ y0 y1

theorem final_h : (dats m 0 c).arrAt 7 (cfgs 0).N
    = AttnOutRefIdeal.Read.val_main_v32 (F := Ideal) (arg0 m c) (arg1 m c) (arg2 m c) (arg3 m c) (arg4 m c) := by
  refine (dats m 0 c).arrAt_eq_of_covers 7 _ (by decide +kernel) fun t hf y => ?_
  blk_simp
  idx_vars y
  have ht := pts t
  have hy : ((View.whole main_v0_2).slice (win0_7.rect t)).emb (ix2 y0 y1) = ix2 ⟨t.val * 1024 + y0.val, by omega⟩ y1 := by
    blk_ext [idx t]
  rw [after0_7, hy, ref32, ← rows]
  simp only [← xrow m c t y0, ← grow m c t, ← hrow m c t]
  frame_out
  exact pay3 _ _ _ _ _ y0 y1

theorem algebraic : Cert.algebraic_AttnOutIdeal_AttnOutRefIdeal := by
  pair_intro
  · run_from Cert.AttnOutIdeal.Gen.run_main m g
  · run_from Cert.AttnOutRefIdeal.Value.run m' g'
    · refine Eq.trans (funext fun y => ?_) (final_m m c).symm
      idx_vars y
      rw [ref4]
      pointwise [row]
    · rw [AttnOutRefIdeal.Read.val_main_v18_eq]
      exact (final_x m c).symm
    · obtain ⟨h0, h1, h2, h3, h4⟩ := hagree c
      rw [AttnOutRefIdeal.Read.val_main_v32_eq, h0, h1, h2, h3, h4]
      exact (final_h m c).symm

end AttnOutValue

namespace AbOutValue

open Cert Cert.AbOutIdeal Cert.AbOutIdeal.Gen RmsRow

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] := (by decide +kernel : ∀ t : Fin grid0.N, _)

theorem pts (t : Fin cfg0.N) : t.val < 4 := lt_of_lt_of_eq t.isLt N_0

variable (a : Vec Ideal S1024x1536 .bf16) (w : Vec Ideal S1536x1024 .bf16) (x : Vec Ideal S1024x1024 .f32)
  (ga gb : Vec Ideal S1x1024 .f32) (i : Fin 1024) (j : Fin 1024)

theorem pay1 : k0_pay1 (F := Ideal) a w (ix2 i j) = row a w i j := by
  pointwise! [k0_pay1, row]

theorem pay2 : k0_pay2 (F := Ideal) a w x ga (ix2 i j)
    = res (fun k => x (ix2 i k)) (row a w i) (fun k => ga (ix2 0 k)) j := by
  pointwise! [k0_pay2, pay1]

theorem pay3 : k0_pay3 (F := Ideal) a w x ga gb (ix2 i j)
    = nrm (res (fun k => x (ix2 i k)) (row a w i) (fun k => ga (ix2 0 k))) (fun k => gb (ix2 0 k)) j := by
  pointwise! [k0_pay3, pay2]

variable (x0 : Vec Ideal S4096x1536 .bf16) (X : Vec Ideal S4096x1024 .f32) (I : Fin 4096)

theorem ref4 : AbOutRefIdeal.Read.val_main_v4 (F := Ideal) x0 w (ix2 I j) = row x0 w I j := by
  pointwise [AbOutRefIdeal.Read.val_main_v4, AbOutRefIdeal.Read.val_main_v1, AbOutRefIdeal.Read.val_main_v0, row]

theorem ref18 : AbOutRefIdeal.Read.val_main_v18 (F := Ideal) x0 w X ga (ix2 I j)
    = res (fun k => X (ix2 I k)) (row x0 w I) (fun k => ga (ix2 0 k)) j := by
  pointwise [AbOutRefIdeal.Read.val_main_v18, AbOutRefIdeal.Read.val_main_v17, AbOutRefIdeal.Read.val_main_v16,
    AbOutRefIdeal.Read.val_main_v15, AbOutRefIdeal.Read.val_main_v14, AbOutRefIdeal.Read.val_main_v13,
    AbOutRefIdeal.Read.val_main_v12, AbOutRefIdeal.Read.val_main_v11, AbOutRefIdeal.Read.val_main_v10,
    AbOutRefIdeal.Read.val_main_v9, AbOutRefIdeal.Read.val_main_v8, AbOutRefIdeal.Read.val_main_v7,
    AbOutRefIdeal.Read.val_main_v6, AbOutRefIdeal.Read.val_main_v5, AbOutRefIdeal.Read.val_main_v2,
    AbOutRefIdeal.Read.val_main_cst, AbOutRefIdeal.Read.val_main_cst_0, AbOutRefIdeal.Read.val_main_cst_1, ref4]
  rfl

theorem ref32 : AbOutRefIdeal.Read.val_main_v32 (F := Ideal) x0 w X ga gb (ix2 I j)
    = nrm (res (fun k => X (ix2 I k)) (row x0 w I) (fun k => ga (ix2 0 k))) (fun k => gb (ix2 0 k)) j := by
  pointwise [AbOutRefIdeal.Read.val_main_v32, AbOutRefIdeal.Read.val_main_v31, AbOutRefIdeal.Read.val_main_v30,
    AbOutRefIdeal.Read.val_main_v29, AbOutRefIdeal.Read.val_main_v28, AbOutRefIdeal.Read.val_main_v27,
    AbOutRefIdeal.Read.val_main_v26, AbOutRefIdeal.Read.val_main_v25, AbOutRefIdeal.Read.val_main_v24,
    AbOutRefIdeal.Read.val_main_v23, AbOutRefIdeal.Read.val_main_v22, AbOutRefIdeal.Read.val_main_v21,
    AbOutRefIdeal.Read.val_main_v20, AbOutRefIdeal.Read.val_main_v19, AbOutRefIdeal.Read.val_main_v3,
    AbOutRefIdeal.Read.val_main_cst_2, AbOutRefIdeal.Read.val_main_cst_3, AbOutRefIdeal.Read.val_main_cst_4, ref18]
  rfl

abbrev arg0 : Vec Ideal S4096x1536 .bf16 := m ((c.tc : Thread nD τ).loc main_arg0)
abbrev arg1 : Vec Ideal S1536x1024 .bf16 := m ((c.tc : Thread nD τ).loc main_arg1)
abbrev arg2 : Vec Ideal S4096x1024 .f32 := m ((c.tc : Thread nD τ).loc main_arg2)
abbrev arg3 : Vec Ideal S1x1024 .f32 := m ((c.tc : Thread nD τ).loc main_arg3)
abbrev arg4 : Vec Ideal S1x1024 .f32 := m ((c.tc : Thread nD τ).loc main_arg4)

/-- A row of a tile of the product is the row of the whole product. -/
theorem rows (t : Fin cfg0.N) (y : Fin 1024) :
    row (iblk m c 0 t) (iblk m c 1 t) y = row (arg0 m c) (arg1 m c) ⟨t.val * 1024 + y.val, by have := pts t; omega⟩ := by
  have ht := pts t
  refine funext fun k => Fin.sum_fin_congr fun q => ?_
  congr 1 <;> blk_point [iblk, V, idx t]

theorem xrow (t : Fin cfg0.N) (y : Fin 1024) (k : Fin 1024) :
    iblk m c 2 t (ix2 y k) = arg2 m c (ix2 ⟨t.val * 1024 + y.val, by have := pts t; omega⟩ k) := by
  have ht := pts t
  blk_point [iblk, V, idx t]

theorem grow (t : Fin cfg0.N) (k : Fin 1024) : iblk m c 3 t (ix2 0 k) = arg3 m c (ix2 0 k) := by
  blk_point [iblk, V, idx t]

theorem hrow (t : Fin cfg0.N) (k : Fin 1024) : iblk m c 4 t (ix2 0 k) = arg4 m c (ix2 0 k) := by
  blk_point [iblk, V, idx t]

theorem final_m : (dats m 0 c).arrAt 5 (cfgs 0).N
    = AbOutRefIdeal.Read.val_main_v4 (F := Ideal) (arg0 m c) (arg1 m c) := by
  refine (dats m 0 c).arrAt_eq_of_covers 5 _ (by decide +kernel) fun t hf y => ?_
  blk_simp
  idx_vars y
  have ht := pts t
  have hy : ((View.whole main_v0_0).slice (win0_5.rect t)).emb (ix2 y0 y1) = ix2 ⟨t.val * 1024 + y0.val, by omega⟩ y1 := by
    blk_ext [idx t]
  rw [after0_5, hy, ref4, ← rows]
  frame_out
  exact pay1 _ _ y0 y1

theorem final_x : (dats m 0 c).arrAt 6 (cfgs 0).N
    = AbOutRefIdeal.Read.val_main_v18 (F := Ideal) (arg0 m c) (arg1 m c) (arg2 m c) (arg3 m c) := by
  refine (dats m 0 c).arrAt_eq_of_covers 6 _ (by decide +kernel) fun t hf y => ?_
  blk_simp
  idx_vars y
  have ht := pts t
  have hy : ((View.whole main_v0_1).slice (win0_6.rect t)).emb (ix2 y0 y1) = ix2 ⟨t.val * 1024 + y0.val, by omega⟩ y1 := by
    blk_ext [idx t]
  rw [after0_6, hy, ref18, ← rows]
  simp only [← xrow m c t y0, ← grow m c t]
  frame_out
  exact pay2 _ _ _ _ y0 y1

theorem final_h : (dats m 0 c).arrAt 7 (cfgs 0).N
    = AbOutRefIdeal.Read.val_main_v32 (F := Ideal) (arg0 m c) (arg1 m c) (arg2 m c) (arg3 m c) (arg4 m c) := by
  refine (dats m 0 c).arrAt_eq_of_covers 7 _ (by decide +kernel) fun t hf y => ?_
  blk_simp
  idx_vars y
  have ht := pts t
  have hy : ((View.whole main_v0_2).slice (win0_7.rect t)).emb (ix2 y0 y1) = ix2 ⟨t.val * 1024 + y0.val, by omega⟩ y1 := by
    blk_ext [idx t]
  rw [after0_7, hy, ref32, ← rows]
  simp only [← xrow m c t y0, ← grow m c t, ← hrow m c t]
  frame_out
  exact pay3 _ _ _ _ _ y0 y1

theorem algebraic : Cert.algebraic_AbOutIdeal_AbOutRefIdeal := by
  pair_intro
  · run_from Cert.AbOutIdeal.Gen.run_main m g
  · run_from Cert.AbOutRefIdeal.Value.run m' g'
    · refine Eq.trans (funext fun y => ?_) (final_m m c).symm
      idx_vars y
      rw [ref4]
      pointwise [row]
    · rw [AbOutRefIdeal.Read.val_main_v18_eq]
      exact (final_x m c).symm
    · obtain ⟨h0, h1, h2, h3, h4⟩ := hagree c
      rw [AbOutRefIdeal.Read.val_main_v32_eq, h0, h1, h2, h3, h4]
      exact (final_h m c).symm

end AbOutValue
end
-- ==== Proof.HMlpBits.lean ====
/- The frame of the call at the machine's own numbers: its program is the idealized one, which no rule changed, so the
   run proved for every kind of numbers serves. -/
module

public import proofs.«01_k».proof.Defs
public import proofs.«01_k».proof.Proof.HMlpBody
public import proofs.«01_k».proof.Proof.Gen.HMlp.Frame

@[expose] public section

set_option maxRecDepth 16384

noncomputable section

open Idealize.ShloMosaic Idealize.SL.Sem

namespace HMlpBits

/-- The two programs have the same body. -/
theorem bodies : Cert.HMlp.defs₀ (F := Bits) = Cert.HMlpIdeal.defs₀ (F := Bits) := by
  refine congrArg (Defs.onTc (nD := Cert.HMlp.nD) (τ := Cert.HMlp.τ) (sig := Cert.HMlp.sig) (Val := Elt Bits)
    (Λ := Cert.HMlp.Λ₀)) ?_
  funext l x
  match l, x with
  | 0, (t, s) => rfl
  | ⟨_ + 1, h⟩, _ => exact absurd h (Nat.not_lt.2 (Nat.le_add_left _ _))

/-- The two programs are the same. -/
theorem programs : Cert.HMlp.defs (F := Bits) = Cert.HMlpIdeal.defs (F := Bits) :=
  congrArg (Pipeline.defs (Cert.HMlp.pcfgs (F := Bits))) bodies

theorem frame : Cert.quiescent_HMlp := fun m ρ _ => by
  rw [programs]
  exact Cert.HMlpIdeal.Body.frame (F := Bits) m ρ

end HMlpBits

end
-- ==== Proof.lean ====
/- The proof of the claims: the frames of every program, and for each call the equality of what it leaves with what
   its reference computes. -/
module

public import proofs.«01_k».proof.Defs
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvRefIdeal
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormRefIdeal
public import proofs.«01_k».proof.Proof.Gen.NormBwdIdeal.Value
public import proofs.«01_k».proof.Proof.Gen.NormRefIdeal.Run
public import proofs.«01_k».proof.Proof.Gen.NormRefIdeal.Read
public import proofs.«01_k».proof.Proof.Gen.MlpW
public import proofs.«01_k».proof.Proof.Gen.MlpW.Skeleton
public import proofs.«01_k».proof.Proof.Gen.MlpW.Launch
public import proofs.«01_k».proof.Proof.Gen.MlpW.Points
public import proofs.«01_k».proof.Proof.Gen.MlpW.Frame
public import proofs.«01_k».proof.Proof.Gen.MlpWIdeal
public import proofs.«01_k».proof.Proof.Gen.MlpWIdeal.Skeleton
public import proofs.«01_k».proof.Proof.Gen.MlpWIdeal.Launch
public import proofs.«01_k».proof.Proof.Gen.MlpWIdeal.Points
public import proofs.«01_k».proof.Proof.Gen.MlpWIdeal.Frame
public import proofs.«01_k».proof.Proof.Gen.MlpWRefIdeal
public import proofs.«01_k».proof.Proof.Gen.MlpWIdeal.Value
public import proofs.«01_k».proof.Proof.Gen.MlpWRefIdeal.Run
public import proofs.«01_k».proof.Proof.Gen.MlpWRefIdeal.Read
public import proofs.«01_k».proof.Proof.Gen.MlpR
public import proofs.«01_k».proof.Proof.Gen.MlpR.Skeleton
public import proofs.«01_k».proof.Proof.Gen.MlpR.Launch
public import proofs.«01_k».proof.Proof.Gen.MlpR.Points
public import proofs.«01_k».proof.Proof.Gen.MlpR.Frame
public import proofs.«01_k».proof.Proof.Gen.MlpRIdeal
public import proofs.«01_k».proof.Proof.Gen.MlpRIdeal.Skeleton
public import proofs.«01_k».proof.Proof.Gen.MlpRIdeal.Launch
public import proofs.«01_k».proof.Proof.Gen.MlpRIdeal.Points
public import proofs.«01_k».proof.Proof.Gen.MlpRIdeal.Frame
public import proofs.«01_k».proof.Proof.Gen.MlpRRefIdeal
public import proofs.«01_k».proof.Proof.Gen.MlpRIdeal.Value
public import proofs.«01_k».proof.Proof.Gen.MlpRRefIdeal.Run
public import proofs.«01_k».proof.Proof.Gen.MlpRRefIdeal.Read
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.MlpFwdIdeal.Value
public import proofs.«01_k».proof.Proof.Gen.MlpFwdRefIdeal.Run
public import proofs.«01_k».proof.Proof.Gen.MlpFwdRefIdeal.Read
public import proofs.«01_k».proof.Proof.Gen.CdInW
public import proofs.«01_k».proof.Proof.Gen.CdInW.Skeleton
public import proofs.«01_k».proof.Proof.Gen.CdInW.Launch
public import proofs.«01_k».proof.Proof.Gen.CdInW.Points
public import proofs.«01_k».proof.Proof.Gen.CdInW.Frame
public import proofs.«01_k».proof.Proof.Gen.CdInWIdeal
public import proofs.«01_k».proof.Proof.Gen.CdInWIdeal.Skeleton
public import proofs.«01_k».proof.Proof.Gen.CdInWIdeal.Launch
public import proofs.«01_k».proof.Proof.Gen.CdInWIdeal.Points
public import proofs.«01_k».proof.Proof.Gen.CdInWIdeal.Frame
public import proofs.«01_k».proof.Proof.Gen.CdInWRefIdeal
public import proofs.«01_k».proof.Proof.Gen.CdInWIdeal.Value
public import proofs.«01_k».proof.Proof.Gen.CdInWRefIdeal.Run
public import proofs.«01_k».proof.Proof.Gen.CdInWRefIdeal.Read
public import proofs.«01_k».proof.Proof.Gen.CdIn
public import proofs.«01_k».proof.Proof.Gen.CdIn.Skeleton
public import proofs.«01_k».proof.Proof.Gen.CdIn.Launch
public import proofs.«01_k».proof.Proof.Gen.CdIn.Points
public import proofs.«01_k».proof.Proof.Gen.CdIn.Frame
public import proofs.«01_k».proof.Proof.Gen.CdInIdeal
public import proofs.«01_k».proof.Proof.Gen.CdInIdeal.Skeleton
public import proofs.«01_k».proof.Proof.Gen.CdInIdeal.Launch
public import proofs.«01_k».proof.Proof.Gen.CdInIdeal.Points
public import proofs.«01_k».proof.Proof.Gen.CdInIdeal.Frame
public import proofs.«01_k».proof.Proof.Gen.CdInRefIdeal
public import proofs.«01_k».proof.Proof.Gen.CdInIdeal.Value
public import proofs.«01_k».proof.Proof.Gen.CdInRefIdeal.Run
public import proofs.«01_k».proof.Proof.Gen.CdInRefIdeal.Read
public import proofs.«01_k».proof.Proof.Gen.AttnO
public import proofs.«01_k».proof.Proof.Gen.AttnO.Skeleton
public import proofs.«01_k».proof.Proof.Gen.AttnO.Launch
public import proofs.«01_k».proof.Proof.Gen.AttnO.Points
public import proofs.«01_k».proof.Proof.Gen.AttnO.Frame
public import proofs.«01_k».proof.Proof.Gen.AttnOIdeal
public import proofs.«01_k».proof.Proof.Gen.AttnOIdeal.Skeleton
public import proofs.«01_k».proof.Proof.Gen.AttnOIdeal.Launch
public import proofs.«01_k».proof.Proof.Gen.AttnOIdeal.Points
public import proofs.«01_k».proof.Proof.Gen.AttnOIdeal.Frame
public import proofs.«01_k».proof.Proof.Gen.AttnORefIdeal
public import proofs.«01_k».proof.Proof.Gen.AttnOIdeal.Value
public import proofs.«01_k».proof.Proof.Gen.AttnORefIdeal.Run
public import proofs.«01_k».proof.Proof.Gen.AttnORefIdeal.Read
public import proofs.«01_k».proof.Proof.Gen.AttnQ
public import proofs.«01_k».proof.Proof.Gen.AttnQ.Skeleton
public import proofs.«01_k».proof.Proof.Gen.AttnQ.Launch
public import proofs.«01_k».proof.Proof.Gen.AttnQ.Points
public import proofs.«01_k».proof.Proof.Gen.AttnQ.Frame
public import proofs.«01_k».proof.Proof.Gen.AttnQIdeal
public import proofs.«01_k».proof.Proof.Gen.AttnQIdeal.Skeleton
public import proofs.«01_k».proof.Proof.Gen.AttnQIdeal.Launch
public import proofs.«01_k».proof.Proof.Gen.AttnQIdeal.Points
public import proofs.«01_k».proof.Proof.Gen.AttnQIdeal.Frame
public import proofs.«01_k».proof.Proof.Gen.AttnQRefIdeal
public import proofs.«01_k».proof.Proof.Gen.AttnQIdeal.Value
public import proofs.«01_k».proof.Proof.Gen.AttnQRefIdeal.Run
public import proofs.«01_k».proof.Proof.Gen.AttnQRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.AttnW
public import proofs.«01_k».proof.Proof.Gen.AttnW.Skeleton
public import proofs.«01_k».proof.Proof.Gen.AttnW.Launch
public import proofs.«01_k».proof.Proof.Gen.AttnW.Points
public import proofs.«01_k».proof.Proof.Gen.AttnW.Frame
public import proofs.«01_k».proof.Proof.Gen.AttnWIdeal
public import proofs.«01_k».proof.Proof.Gen.AttnWIdeal.Skeleton
public import proofs.«01_k».proof.Proof.Gen.AttnWIdeal.Launch
public import proofs.«01_k».proof.Proof.Gen.AttnWIdeal.Points
public import proofs.«01_k».proof.Proof.Gen.AttnWIdeal.Frame
public import proofs.«01_k».proof.Proof.Gen.AttnWRefIdeal
public import proofs.«01_k».proof.Proof.Gen.AttnWIdeal.Value
public import proofs.«01_k».proof.Proof.Gen.AttnWRefIdeal.Run
public import proofs.«01_k».proof.Proof.Gen.AttnWRefIdeal.Read
public import proofs.«01_k».proof.Proof.Gen.MixW
public import proofs.«01_k».proof.Proof.Gen.MixW.Skeleton
public import proofs.«01_k».proof.Proof.Gen.MixW.Launch
public import proofs.«01_k».proof.Proof.Gen.MixW.Points
public import proofs.«01_k».proof.Proof.Gen.MixW.Frame
public import proofs.«01_k».proof.Proof.Gen.MixWIdeal
public import proofs.«01_k».proof.Proof.Gen.MixWIdeal.Skeleton
public import proofs.«01_k».proof.Proof.Gen.MixWIdeal.Launch
public import proofs.«01_k».proof.Proof.Gen.MixWIdeal.Points
public import proofs.«01_k».proof.Proof.Gen.MixWIdeal.Frame
public import proofs.«01_k».proof.Proof.Gen.MixWRefIdeal
public import proofs.«01_k».proof.Proof.Gen.MixWIdeal.Value
public import proofs.«01_k».proof.Proof.Gen.MixWRefIdeal.Run
public import proofs.«01_k».proof.Proof.Gen.MixWRefIdeal.Read
public import proofs.«01_k».proof.Proof.Gen.HMlp
public import proofs.«01_k».proof.Proof.Gen.HMlp.Skeleton
public import proofs.«01_k».proof.Proof.Gen.HMlp.Launch
public import proofs.«01_k».proof.Proof.Gen.HMlp.Points
public import proofs.«01_k».proof.Proof.Gen.HMlp.Frame
public import proofs.«01_k».proof.Proof.Gen.HMlpIdeal
public import proofs.«01_k».proof.Proof.Gen.HMlpIdeal.Skeleton
public import proofs.«01_k».proof.Proof.Gen.HMlpIdeal.Launch
public import proofs.«01_k».proof.Proof.Gen.HMlpIdeal.Points
public import proofs.«01_k».proof.Proof.Gen.HMlpIdeal.Frame
public import proofs.«01_k».proof.Proof.Gen.HMlpRefIdeal
public import proofs.«01_k».proof.Proof.Gen.HMlpRefIdeal.Run
public import proofs.«01_k».proof.Proof.Gen.HMlpRefIdeal.Read
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.MlpOutRefIdeal
public import proofs.«01_k».proof.Proof.Gen.MlpOutIdeal.Value
public import proofs.«01_k».proof.Proof.Gen.MlpOutRefIdeal.Run
public import proofs.«01_k».proof.Proof.Gen.MlpOutRefIdeal.Read
public import proofs.«01_k».proof.Proof.Gen.CdOut
public import proofs.«01_k».proof.Proof.Gen.CdOut.Skeleton
public import proofs.«01_k».proof.Proof.Gen.CdOut.Launch
public import proofs.«01_k».proof.Proof.Gen.CdOut.Points
public import proofs.«01_k».proof.Proof.Gen.CdOut.Frame
public import proofs.«01_k».proof.Proof.Gen.CdOutIdeal
public import proofs.«01_k».proof.Proof.Gen.CdOutIdeal.Skeleton
public import proofs.«01_k».proof.Proof.Gen.CdOutIdeal.Launch
public import proofs.«01_k».proof.Proof.Gen.CdOutIdeal.Points
public import proofs.«01_k».proof.Proof.Gen.CdOutIdeal.Frame
public import proofs.«01_k».proof.Proof.Gen.CdOutRefIdeal
public import proofs.«01_k».proof.Proof.Gen.CdOutIdeal.Value
public import proofs.«01_k».proof.Proof.Gen.CdOutRefIdeal.Run
public import proofs.«01_k».proof.Proof.Gen.CdOutRefIdeal.Read
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutRefIdeal
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.AbOut
public import proofs.«01_k».proof.Proof.Gen.AbOut.Skeleton
public import proofs.«01_k».proof.Proof.Gen.AbOut.Launch
public import proofs.«01_k».proof.Proof.Gen.AbOut.Points
public import proofs.«01_k».proof.Proof.Gen.AbOut.Frame
public import proofs.«01_k».proof.Proof.Gen.AbOutIdeal
public import proofs.«01_k».proof.Proof.Gen.AbOutIdeal.Skeleton
public import proofs.«01_k».proof.Proof.Gen.AbOutIdeal.Launch
public import proofs.«01_k».proof.Proof.Gen.AbOutIdeal.Points
public import proofs.«01_k».proof.Proof.Gen.AbOutIdeal.Frame
public import proofs.«01_k».proof.Proof.Gen.AbOutRefIdeal
public import proofs.«01_k».proof.Proof.Gen.AbOutIdeal.Value
public import proofs.«01_k».proof.Proof.Gen.AbOutRefIdeal.Run
public import proofs.«01_k».proof.Proof.Gen.AbOutRefIdeal.Read
public import proofs.«01_k».proof.Proof.Gen.AbMix
public import proofs.«01_k».proof.Proof.Gen.AbMix.Skeleton
public import proofs.«01_k».proof.Proof.Gen.AbMix.Launch
public import proofs.«01_k».proof.Proof.Gen.AbMix.Points
public import proofs.«01_k».proof.Proof.Gen.AbMix.Frame
public import proofs.«01_k».proof.Proof.Gen.AbMixIdeal
public import proofs.«01_k».proof.Proof.Gen.AbMixIdeal.Skeleton
public import proofs.«01_k».proof.Proof.Gen.AbMixIdeal.Launch
public import proofs.«01_k».proof.Proof.Gen.AbMixIdeal.Points
public import proofs.«01_k».proof.Proof.Gen.AbMixIdeal.Frame
public import proofs.«01_k».proof.Proof.Gen.AbMixRefIdeal
public import proofs.«01_k».proof.Proof.Gen.AbMixIdeal.Value
public import proofs.«01_k».proof.Proof.Gen.AbMixRefIdeal.Run
public import proofs.«01_k».proof.Proof.Gen.AbMixRefIdeal.Read
public import proofs.«01_k».proof.Proof.Gen.AbW
public import proofs.«01_k».proof.Proof.Gen.AbW.Skeleton
public import proofs.«01_k».proof.Proof.Gen.AbW.Launch
public import proofs.«01_k».proof.Proof.Gen.AbW.Points
public import proofs.«01_k».proof.Proof.Gen.AbW.Frame
public import proofs.«01_k».proof.Proof.Gen.AbWIdeal
public import proofs.«01_k».proof.Proof.Gen.AbWIdeal.Skeleton
public import proofs.«01_k».proof.Proof.Gen.AbWIdeal.Launch
public import proofs.«01_k».proof.Proof.Gen.AbWIdeal.Points
public import proofs.«01_k».proof.Proof.Gen.AbWIdeal.Frame
public import proofs.«01_k».proof.Proof.Gen.AbWRefIdeal
public import proofs.«01_k».proof.Proof.Gen.AbWIdeal.Value
public import proofs.«01_k».proof.Proof.Gen.AbWRefIdeal.Run
public import proofs.«01_k».proof.Proof.Gen.AbWRefIdeal.Read
public import proofs.«01_k».proof.Proof.Gen.AbInW
public import proofs.«01_k».proof.Proof.Gen.AbInW.Skeleton
public import proofs.«01_k».proof.Proof.Gen.AbInW.Launch
public import proofs.«01_k».proof.Proof.Gen.AbInW.Points
public import proofs.«01_k».proof.Proof.Gen.AbInW.Frame
public import proofs.«01_k».proof.Proof.Gen.AbInWIdeal
public import proofs.«01_k».proof.Proof.Gen.AbInWIdeal.Skeleton
public import proofs.«01_k».proof.Proof.Gen.AbInWIdeal.Launch
public import proofs.«01_k».proof.Proof.Gen.AbInWIdeal.Points
public import proofs.«01_k».proof.Proof.Gen.AbInWIdeal.Frame
public import proofs.«01_k».proof.Proof.Gen.AbInWRefIdeal
public import proofs.«01_k».proof.Proof.Gen.AbInWIdeal.Value
public import proofs.«01_k».proof.Proof.Gen.AbInWRefIdeal.Run
public import proofs.«01_k».proof.Proof.Gen.AbInWRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvIdeal.Value
public import proofs.«01_k».proof.Proof.Gen.KvRefIdeal.Run
public import proofs.«01_k».proof.Proof.Gen.KvRefIdeal.Read
public import proofs.«01_k».proof.Proof.Gen.KvW
public import proofs.«01_k».proof.Proof.Gen.KvW.Skeleton
public import proofs.«01_k».proof.Proof.Gen.KvW.Launch
public import proofs.«01_k».proof.Proof.Gen.KvW.Points
public import proofs.«01_k».proof.Proof.Gen.KvW.Frame
public import proofs.«01_k».proof.Proof.Gen.KvWIdeal
public import proofs.«01_k».proof.Proof.Gen.KvWIdeal.Skeleton
public import proofs.«01_k».proof.Proof.Gen.KvWIdeal.Launch
public import proofs.«01_k».proof.Proof.Gen.KvWIdeal.Points
public import proofs.«01_k».proof.Proof.Gen.KvWIdeal.Frame
public import proofs.«01_k».proof.Proof.Gen.KvWRefIdeal
public import proofs.«01_k».proof.Proof.Gen.KvWIdeal.Value
public import proofs.«01_k».proof.Proof.Gen.KvWRefIdeal.Run
public import proofs.«01_k».proof.Proof.Gen.KvWRefIdeal.Read
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInRefIdeal
public import proofs.«01_k».proof.Proof.Gen.NormInIdeal.Value
public import proofs.«01_k».proof.Proof.Gen.NormInRefIdeal.Run
public import proofs.«01_k».proof.Proof.Gen.NormInRefIdeal.Read
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInRefIdeal
public import proofs.«01_k».proof.Proof.Gen.AbInIdeal.Value
public import proofs.«01_k».proof.Proof.Gen.AbInRefIdeal.Run
public import proofs.«01_k».proof.Proof.Gen.AbInRefIdeal.Read
public import proofs.«01_k».proof.Proof.ConvValue
public import proofs.«01_k».proof.Proof.HMlpValue
public import proofs.«01_k».proof.Proof.InValue
public import proofs.«01_k».proof.Proof.KvValue
public import proofs.«01_k».proof.Proof.MlpValue
public import proofs.«01_k».proof.Proof.NormValue
public import proofs.«01_k».proof.Proof.ProductValue
public import proofs.«01_k».proof.Proof.ProjValue
public import proofs.«01_k».proof.Proof.ResValue
public import proofs.«01_k».proof.Proof.HMlpBits
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨
  Cert.ConvBwd.Gen.facts, Cert.ConvBwdIdeal.Gen.facts, Cert.ConvRefIdeal.Gen.facts,
  Cert.NormBwd.Gen.facts, Cert.NormBwdIdeal.Gen.facts, Cert.NormRefIdeal.Gen.facts,
  Cert.MlpW.Gen.facts, Cert.MlpWIdeal.Gen.facts, Cert.MlpWRefIdeal.Gen.facts,
  Cert.MlpR.Gen.facts, Cert.MlpRIdeal.Gen.facts, Cert.MlpRRefIdeal.Gen.facts,
  Cert.MlpFwd.Gen.facts, Cert.MlpFwdIdeal.Gen.facts, Cert.MlpFwdRefIdeal.Gen.facts,
  Cert.CdInW.Gen.facts, Cert.CdInWIdeal.Gen.facts, Cert.CdInWRefIdeal.Gen.facts,
  Cert.CdIn.Gen.facts, Cert.CdInIdeal.Gen.facts, Cert.CdInRefIdeal.Gen.facts,
  Cert.AttnO.Gen.facts, Cert.AttnOIdeal.Gen.facts, Cert.AttnORefIdeal.Gen.facts,
  Cert.AttnQ.Gen.facts, Cert.AttnQIdeal.Gen.facts, Cert.AttnQRefIdeal.Gen.facts,
  Cert.MixOut.Gen.facts, Cert.MixOutIdeal.Gen.facts, Cert.MixOutRefIdeal.Gen.facts,
  Cert.AttnW.Gen.facts, Cert.AttnWIdeal.Gen.facts, Cert.AttnWRefIdeal.Gen.facts,
  Cert.MixW.Gen.facts, Cert.MixWIdeal.Gen.facts, Cert.MixWRefIdeal.Gen.facts,
  Cert.HMlp.Gen.facts, Cert.HMlpIdeal.Gen.facts, Cert.HMlpRefIdeal.Gen.facts,
  Cert.MlpOut.Gen.facts, Cert.MlpOutIdeal.Gen.facts, Cert.MlpOutRefIdeal.Gen.facts,
  Cert.CdOut.Gen.facts, Cert.CdOutIdeal.Gen.facts, Cert.CdOutRefIdeal.Gen.facts,
  Cert.AttnOut.Gen.facts, Cert.AttnOutIdeal.Gen.facts, Cert.AttnOutRefIdeal.Gen.facts,
  Cert.AbOut.Gen.facts, Cert.AbOutIdeal.Gen.facts, Cert.AbOutRefIdeal.Gen.facts,
  Cert.AbMix.Gen.facts, Cert.AbMixIdeal.Gen.facts, Cert.AbMixRefIdeal.Gen.facts,
  Cert.AbW.Gen.facts, Cert.AbWIdeal.Gen.facts, Cert.AbWRefIdeal.Gen.facts,
  Cert.AbInW.Gen.facts, Cert.AbInWIdeal.Gen.facts, Cert.AbInWRefIdeal.Gen.facts,
  Cert.Kv.Gen.facts, Cert.KvIdeal.Gen.facts, Cert.KvRefIdeal.Gen.facts,
  Cert.KvW.Gen.facts, Cert.KvWIdeal.Gen.facts, Cert.KvWRefIdeal.Gen.facts,
  Cert.NormIn.Gen.facts, Cert.NormInIdeal.Gen.facts, Cert.NormInRefIdeal.Gen.facts,
  Cert.AbIn.Gen.facts, Cert.AbInIdeal.Gen.facts, Cert.AbInRefIdeal.Gen.facts,
  fun m ρ _ => Cert.ConvBwd.Gen.frame m ρ, fun m ρ _ => Cert.ConvBwdIdeal.Gen.frame m ρ,
  fun m ρ _ => (θ_run _ _ _).mono (fun r h => ⟨fun c => (h c).2.2.2.2, sem_eq_zero_of_no_sems rfl _⟩)
    (Cert.ConvRefIdeal.Value.run m ρ),
  fun m ρ _ => Cert.NormBwd.Gen.frame m ρ, fun m ρ _ => Cert.NormBwdIdeal.Gen.frame m ρ,
  fun m ρ _ => (θ_run _ _ _).mono (fun r h => ⟨fun c => (h c).2.2.2, sem_eq_zero_of_no_sems rfl _⟩)
    (Cert.NormRefIdeal.Value.run m ρ),
  fun m ρ _ => Cert.MlpW.Gen.frame m ρ, fun m ρ _ => Cert.MlpWIdeal.Gen.frame m ρ,
  fun m ρ _ => (θ_run _ _ _).mono (fun r h => ⟨fun c => (h c).2, sem_eq_zero_of_no_sems rfl _⟩)
    (Cert.MlpWRefIdeal.Value.run m ρ),
  fun m ρ _ => Cert.MlpR.Gen.frame m ρ, fun m ρ _ => Cert.MlpRIdeal.Gen.frame m ρ,
  fun m ρ _ => (θ_run _ _ _).mono (fun r h => ⟨fun c => (h c).2, sem_eq_zero_of_no_sems rfl _⟩)
    (Cert.MlpRRefIdeal.Value.run m ρ),
  fun m ρ _ => Cert.MlpFwd.Gen.frame m ρ, fun m ρ _ => Cert.MlpFwdIdeal.Gen.frame m ρ,
  fun m ρ _ => (θ_run _ _ _).mono (fun r h => ⟨fun c => (h c).2.2, sem_eq_zero_of_no_sems rfl _⟩)
    (Cert.MlpFwdRefIdeal.Value.run m ρ),
  fun m ρ _ => Cert.CdInW.Gen.frame m ρ, fun m ρ _ => Cert.CdInWIdeal.Gen.frame m ρ,
  fun m ρ _ => (θ_run _ _ _).mono (fun r h => ⟨fun c => (h c).2, sem_eq_zero_of_no_sems rfl _⟩)
    (Cert.CdInWRefIdeal.Value.run m ρ),
  fun m ρ _ => Cert.CdIn.Gen.frame m ρ, fun m ρ _ => Cert.CdInIdeal.Gen.frame m ρ,
  fun m ρ _ => (θ_run _ _ _).mono (fun r h => ⟨fun c => (h c).2, sem_eq_zero_of_no_sems rfl _⟩)
    (Cert.CdInRefIdeal.Value.run m ρ),
  fun m ρ _ => Cert.AttnO.Gen.frame m ρ, fun m ρ _ => Cert.AttnOIdeal.Gen.frame m ρ,
  fun m ρ _ => (θ_run _ _ _).mono (fun r h => ⟨fun c => (h c).2, sem_eq_zero_of_no_sems rfl _⟩)
    (Cert.AttnORefIdeal.Value.run m ρ),
  fun m ρ _ => Cert.AttnQ.Gen.frame m ρ, fun m ρ _ => Cert.AttnQIdeal.Gen.frame m ρ,
  fun m ρ _ => (θ_run _ _ _).mono (fun r h => ⟨fun c => (h c).2, sem_eq_zero_of_no_sems rfl _⟩)
    (Cert.AttnQRefIdeal.Value.run m ρ),
  fun m ρ _ => Cert.MixOut.Gen.frame m ρ, fun m ρ _ => Cert.MixOutIdeal.Gen.frame m ρ,
  fun m ρ _ => (θ_run _ _ _).mono (fun r h => ⟨fun c => (h c).2, sem_eq_zero_of_no_sems rfl _⟩)
    (Cert.MixOutRefIdeal.Value.run m ρ),
  fun m ρ _ => Cert.AttnW.Gen.frame m ρ, fun m ρ _ => Cert.AttnWIdeal.Gen.frame m ρ,
  fun m ρ _ => (θ_run _ _ _).mono (fun r h => ⟨fun c => (h c).2, sem_eq_zero_of_no_sems rfl _⟩)
    (Cert.AttnWRefIdeal.Value.run m ρ),
  fun m ρ _ => Cert.MixW.Gen.frame m ρ, fun m ρ _ => Cert.MixWIdeal.Gen.frame m ρ,
  fun m ρ _ => (θ_run _ _ _).mono (fun r h => ⟨fun c => (h c).2, sem_eq_zero_of_no_sems rfl _⟩)
    (Cert.MixWRefIdeal.Value.run m ρ),
  HMlpBits.frame, fun m ρ _ => Cert.HMlpIdeal.Body.frame m ρ,
  fun m ρ _ => (θ_run _ _ _).mono (fun r h => ⟨fun c => (h c).2.2.2.2, sem_eq_zero_of_no_sems rfl _⟩)
    (Cert.HMlpRefIdeal.Value.run m ρ),
  fun m ρ _ => Cert.MlpOut.Gen.frame m ρ, fun m ρ _ => Cert.MlpOutIdeal.Gen.frame m ρ,
  fun m ρ _ => (θ_run _ _ _).mono (fun r h => ⟨fun c => (h c).2.2.2, sem_eq_zero_of_no_sems rfl _⟩)
    (Cert.MlpOutRefIdeal.Value.run m ρ),
  fun m ρ _ => Cert.CdOut.Gen.frame m ρ, fun m ρ _ => Cert.CdOutIdeal.Gen.frame m ρ,
  fun m ρ _ => (θ_run _ _ _).mono (fun r h => ⟨fun c => (h c).2.2.2, sem_eq_zero_of_no_sems rfl _⟩)
    (Cert.CdOutRefIdeal.Value.run m ρ),
  fun m ρ _ => Cert.AttnOut.Gen.frame m ρ, fun m ρ _ => Cert.AttnOutIdeal.Gen.frame m ρ,
  fun m ρ _ => (θ_run _ _ _).mono (fun r h => ⟨fun c => (h c).2.2.2, sem_eq_zero_of_no_sems rfl _⟩)
    (Cert.AttnOutRefIdeal.Value.run m ρ),
  fun m ρ _ => Cert.AbOut.Gen.frame m ρ, fun m ρ _ => Cert.AbOutIdeal.Gen.frame m ρ,
  fun m ρ _ => (θ_run _ _ _).mono (fun r h => ⟨fun c => (h c).2.2.2, sem_eq_zero_of_no_sems rfl _⟩)
    (Cert.AbOutRefIdeal.Value.run m ρ),
  fun m ρ _ => Cert.AbMix.Gen.frame m ρ, fun m ρ _ => Cert.AbMixIdeal.Gen.frame m ρ,
  fun m ρ _ => (θ_run _ _ _).mono (fun r h => ⟨fun c => (h c).2, sem_eq_zero_of_no_sems rfl _⟩)
    (Cert.AbMixRefIdeal.Value.run m ρ),
  fun m ρ _ => Cert.AbW.Gen.frame m ρ, fun m ρ _ => Cert.AbWIdeal.Gen.frame m ρ,
  fun m ρ _ => (θ_run _ _ _).mono (fun r h => ⟨fun c => (h c).2, sem_eq_zero_of_no_sems rfl _⟩)
    (Cert.AbWRefIdeal.Value.run m ρ),
  fun m ρ _ => Cert.AbInW.Gen.frame m ρ, fun m ρ _ => Cert.AbInWIdeal.Gen.frame m ρ,
  fun m ρ _ => (θ_run _ _ _).mono (fun r h => ⟨fun c => (h c).2, sem_eq_zero_of_no_sems rfl _⟩)
    (Cert.AbInWRefIdeal.Value.run m ρ),
  fun m ρ _ => Cert.Kv.Gen.frame m ρ, fun m ρ _ => Cert.KvIdeal.Gen.frame m ρ,
  fun m ρ _ => (θ_run _ _ _).mono (fun r h => ⟨fun c => (h c).2, sem_eq_zero_of_no_sems rfl _⟩)
    (Cert.KvRefIdeal.Value.run m ρ),
  fun m ρ _ => Cert.KvW.Gen.frame m ρ, fun m ρ _ => Cert.KvWIdeal.Gen.frame m ρ,
  fun m ρ _ => (θ_run _ _ _).mono (fun r h => ⟨fun c => (h c).2, sem_eq_zero_of_no_sems rfl _⟩)
    (Cert.KvWRefIdeal.Value.run m ρ),
  fun m ρ _ => Cert.NormIn.Gen.frame m ρ, fun m ρ _ => Cert.NormInIdeal.Gen.frame m ρ,
  fun m ρ _ => (θ_run _ _ _).mono (fun r h => ⟨fun c => (h c).2, sem_eq_zero_of_no_sems rfl _⟩)
    (Cert.NormInRefIdeal.Value.run m ρ),
  fun m ρ _ => Cert.AbIn.Gen.frame m ρ, fun m ρ _ => Cert.AbInIdeal.Gen.frame m ρ,
  fun m ρ _ => (θ_run _ _ _).mono (fun r h => ⟨fun c => (h c).2, sem_eq_zero_of_no_sems rfl _⟩)
    (Cert.AbInRefIdeal.Value.run m ρ),
  trivial, ConvValue.algebraic,
  trivial, NormValue.algebraic,
  trivial, MlpWValue.algebraic,
  trivial, MlpRValue.algebraic,
  trivial, MlpFwdValue.algebraic,
  trivial, CdInWValue.algebraic,
  trivial, CdInValue.algebraic,
  trivial, AttnOValue.algebraic,
  trivial, AttnQValue.algebraic,
  trivial, MixOutValue.algebraic,
  trivial, AttnWValue.algebraic,
  trivial, MixWValue.algebraic,
  trivial, HMlpValue.algebraic,
  trivial, MlpOutValue.algebraic,
  trivial, CdOutValue.algebraic,
  trivial, AttnOutValue.algebraic,
  trivial, AbOutValue.algebraic,
  trivial, AbMixValue.algebraic,
  trivial, AbWValue.algebraic,
  trivial, AbInWValue.algebraic,
  trivial, KvValue.algebraic,
  trivial, KvWValue.algebraic,
  trivial, NormInValue.algebraic,
  trivial, AbInValue.algebraic⟩

end Cert.Proof

end
